-- ==== Defs.lean ====
def Pre_Kernel [hPre_sign_clear : Cert.Pre_sign_clear.Facts] (m : (ℓ : Loc Cert.Kernel.nD Cert.Kernel.τ Cert.Kernel.sig) → Buf (Elt Bits) ℓ) : Prop :=
  ∀ c : Dev Cert.Kernel.nD,
    (Cert.Pre_sign_clear.fn (F := Bits) (m ((c.tc : Thread Cert.Kernel.nD Cert.Kernel.τ).loc Cert.Kernel.main_arg0))) = (fun _ => 1#1)

def Pre_Reference (m : (ℓ : Loc Cert.Reference.nD Cert.Reference.τ Cert.Reference.sig) → Buf (Elt Bits) ℓ) : Prop :=
  True

def Pre_Reference_sign_clear [hPre_sign_clear : Cert.Pre_sign_clear.Facts] (m : (ℓ : Loc Cert.Reference.nD Cert.Reference.τ Cert.Reference.sig) → Buf (Elt Bits) ℓ) : Prop :=
  ∀ c : Dev Cert.Reference.nD,
    (Cert.Pre_sign_clear.fn (F := Bits) (m ((c.tc : Thread Cert.Reference.nD Cert.Reference.τ).loc Cert.Reference.main_arg0))) = (fun _ => 1#1)

def Pre_Encoder (m : (ℓ : Loc Cert.Encoder.nD Cert.Encoder.τ Cert.Encoder.sig) → Buf (Elt Bits) ℓ) : Prop :=
  True

def Pre_EncoderIdeal (m : (ℓ : Loc Cert.EncoderIdeal.nD Cert.EncoderIdeal.τ Cert.EncoderIdeal.sig) → Buf (Elt Ideal) ℓ) : Prop :=
  True

def Pre_EncoderReferenceIdeal (m : (ℓ : Loc Cert.EncoderReferenceIdeal.nD Cert.EncoderReferenceIdeal.τ Cert.EncoderReferenceIdeal.sig) → Buf (Elt Ideal) ℓ) : Prop :=
  True

def Pre_Decoder (m : (ℓ : Loc Cert.Decoder.nD Cert.Decoder.τ Cert.Decoder.sig) → Buf (Elt Bits) ℓ) : Prop :=
  True

def Pre_DecoderIdeal (m : (ℓ : Loc Cert.DecoderIdeal.nD Cert.DecoderIdeal.τ Cert.DecoderIdeal.sig) → Buf (Elt Ideal) ℓ) : Prop :=
  True

def Pre_DecoderIdeal_kth_untied [hPre_kth_untied : Cert.Pre_kth_untied.Facts] (m : (ℓ : Loc Cert.DecoderIdeal.nD Cert.DecoderIdeal.τ Cert.DecoderIdeal.sig) → Buf (Elt Ideal) ℓ) : Prop :=
  ∀ c : Dev Cert.DecoderIdeal.nD,
    (Cert.Pre_kth_untied.fn (F := Ideal) (m ((c.tc : Thread Cert.DecoderIdeal.nD Cert.DecoderIdeal.τ).loc Cert.DecoderIdeal.main_arg0)) (m ((c.tc : Thread Cert.DecoderIdeal.nD Cert.DecoderIdeal.τ).loc Cert.DecoderIdeal.main_arg1)) (m ((c.tc : Thread Cert.DecoderIdeal.nD Cert.DecoderIdeal.τ).loc Cert.DecoderIdeal.main_arg2)) (m ((c.tc : Thread Cert.DecoderIdeal.nD Cert.DecoderIdeal.τ).loc Cert.DecoderIdeal.main_arg3))) = (fun _ => 1#1)

def Pre_DecoderReferenceIdeal (m : (ℓ : Loc Cert.DecoderReferenceIdeal.nD Cert.DecoderReferenceIdeal.τ Cert.DecoderReferenceIdeal.sig) → Buf (Elt Ideal) ℓ) : Prop :=
  True

def Pre_TopkReferenceIdeal (m : (ℓ : Loc Cert.TopkReferenceIdeal.nD Cert.TopkReferenceIdeal.τ Cert.TopkReferenceIdeal.sig) → Buf (Elt Ideal) ℓ) : Prop :=
  True

def Pre_TopkReferenceIdeal_kth_untied [hPre_kth_untied : Cert.Pre_kth_untied.Facts] (m : (ℓ : Loc Cert.TopkReferenceIdeal.nD Cert.TopkReferenceIdeal.τ Cert.TopkReferenceIdeal.sig) → Buf (Elt Ideal) ℓ) : Prop :=
  ∀ c : Dev Cert.TopkReferenceIdeal.nD,
    (Cert.Pre_kth_untied.fn (F := Ideal) (m ((c.tc : Thread Cert.TopkReferenceIdeal.nD Cert.TopkReferenceIdeal.τ).loc Cert.TopkReferenceIdeal.main_arg0)) (m ((c.tc : Thread Cert.TopkReferenceIdeal.nD Cert.TopkReferenceIdeal.τ).loc Cert.TopkReferenceIdeal.main_arg1)) (m ((c.tc : Thread Cert.TopkReferenceIdeal.nD Cert.TopkReferenceIdeal.τ).loc Cert.TopkReferenceIdeal.main_arg2)) (m ((c.tc : Thread Cert.TopkReferenceIdeal.nD Cert.TopkReferenceIdeal.τ).loc Cert.TopkReferenceIdeal.main_arg3))) = (fun _ => 1#1)

def quiescent_Kernel [hKernel : Cert.Kernel.Facts] [hPre_sign_clear : Cert.Pre_sign_clear.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Reference_pre_sign_clear [hReference : Cert.Reference.Facts] [hPre_sign_clear : Cert.Pre_sign_clear.Facts] : Prop :=
  ∀ (m : (ℓ : Loc Cert.Reference.nD Cert.Reference.τ Cert.Reference.sig) → Buf (Elt Bits) ℓ) (g : Dev Cert.Reference.nD → PrngReg), Pre_Reference_sign_clear m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Encoder [hEncoder : Cert.Encoder.Facts] : Prop :=
  ∀ (m : (ℓ : Loc Cert.Encoder.nD Cert.Encoder.τ Cert.Encoder.sig) → Buf (Elt Bits) ℓ) (g : Dev Cert.Encoder.nD → PrngReg), Pre_Encoder m →
    θ_run (Cert.Encoder.defs (F := Bits)) (onTc (τ := Cert.Encoder.τ) (Cert.Encoder.main (F := Bits))) ⟨m, fun _ => 0, g⟩ (fun r => (∀ c : Dev Cert.Encoder.nD,
      r.2.mem ((c.tc : Thread Cert.Encoder.nD Cert.Encoder.τ).loc Cert.Encoder.main_arg0) = m ((c.tc : Thread Cert.Encoder.nD Cert.Encoder.τ).loc Cert.Encoder.main_arg0)
      ∧ r.2.mem ((c.tc : Thread Cert.Encoder.nD Cert.Encoder.τ).loc Cert.Encoder.main_arg1) = m ((c.tc : Thread Cert.Encoder.nD Cert.Encoder.τ).loc Cert.Encoder.main_arg1)
      ∧ r.2.mem ((c.tc : Thread Cert.Encoder.nD Cert.Encoder.τ).loc Cert.Encoder.main_arg2) = m ((c.tc : Thread Cert.Encoder.nD Cert.Encoder.τ).loc Cert.Encoder.main_arg2)
      ∧ r.2.mem ((c.tc : Thread Cert.Encoder.nD Cert.Encoder.τ).loc Cert.Encoder.main_arg3) = m ((c.tc : Thread Cert.Encoder.nD Cert.Encoder.τ).loc Cert.Encoder.main_arg3))
      ∧ r.2.sem = fun _ => 0)

def quiescent_EncoderIdeal [hEncoderIdeal : Cert.EncoderIdeal.Facts] : Prop :=
  ∀ (m : (ℓ : Loc Cert.EncoderIdeal.nD Cert.EncoderIdeal.τ Cert.EncoderIdeal.sig) → Buf (Elt Ideal) ℓ) (g : Dev Cert.EncoderIdeal.nD → PrngReg), Pre_EncoderIdeal m →
    θ_run (Cert.EncoderIdeal.defs (F := Ideal)) (onTc (τ := Cert.EncoderIdeal.τ) (Cert.EncoderIdeal.main (F := Ideal))) ⟨m, fun _ => 0, g⟩ (fun r => (∀ c : Dev Cert.EncoderIdeal.nD,
      r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
      ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
      ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
      ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3))
      ∧ r.2.sem = fun _ => 0)

def quiescent_EncoderReferenceIdeal [hEncoderReferenceIdeal : Cert.EncoderReferenceIdeal.Facts] : Prop :=
  ∀ (m : (ℓ : Loc Cert.EncoderReferenceIdeal.nD Cert.EncoderReferenceIdeal.τ Cert.EncoderReferenceIdeal.sig) → Buf (Elt Ideal) ℓ) (g : Dev Cert.EncoderReferenceIdeal.nD → PrngReg), Pre_EncoderReferenceIdeal m →
    θ_run (Cert.EncoderReferenceIdeal.defs (F := Ideal)) (onTc (τ := Cert.EncoderReferenceIdeal.τ) (Cert.EncoderReferenceIdeal.main (F := Ideal))) ⟨m, fun _ => 0, g⟩ (fun r => (∀ c : Dev Cert.EncoderReferenceIdeal.nD,
      r.2.mem ((c.tc : Thread Cert.EncoderReferenceIdeal.nD Cert.EncoderReferenceIdeal.τ).loc Cert.EncoderReferenceIdeal.main_arg0) = m ((c.tc : Thread Cert.EncoderReferenceIdeal.nD Cert.EncoderReferenceIdeal.τ).loc Cert.EncoderReferenceIdeal.main_arg0)
      ∧ r.2.mem ((c.tc : Thread Cert.EncoderReferenceIdeal.nD Cert.EncoderReferenceIdeal.τ).loc Cert.EncoderReferenceIdeal.main_arg1) = m ((c.tc : Thread Cert.EncoderReferenceIdeal.nD Cert.EncoderReferenceIdeal.τ).loc Cert.EncoderReferenceIdeal.main_arg1)
      ∧ r.2.mem ((c.tc : Thread Cert.EncoderReferenceIdeal.nD Cert.EncoderReferenceIdeal.τ).loc Cert.EncoderReferenceIdeal.main_arg2) = m ((c.tc : Thread Cert.EncoderReferenceIdeal.nD Cert.EncoderReferenceIdeal.τ).loc Cert.EncoderReferenceIdeal.main_arg2)
      ∧ r.2.mem ((c.tc : Thread Cert.EncoderReferenceIdeal.nD Cert.EncoderReferenceIdeal.τ).loc Cert.EncoderReferenceIdeal.main_arg3) = m ((c.tc : Thread Cert.EncoderReferenceIdeal.nD Cert.EncoderReferenceIdeal.τ).loc Cert.EncoderReferenceIdeal.main_arg3))
      ∧ r.2.sem = fun _ => 0)

def quiescent_Decoder [hDecoder : Cert.Decoder.Facts] : Prop :=
  ∀ (m : (ℓ : Loc Cert.Decoder.nD Cert.Decoder.τ Cert.Decoder.sig) → Buf (Elt Bits) ℓ) (g : Dev Cert.Decoder.nD → PrngReg), Pre_Decoder m →
    θ_run (Cert.Decoder.defs (F := Bits)) (onTc (τ := Cert.Decoder.τ) (Cert.Decoder.main (F := Bits))) ⟨m, fun _ => 0, g⟩ (fun r => (∀ c : Dev Cert.Decoder.nD,
      r.2.mem ((c.tc : Thread Cert.Decoder.nD Cert.Decoder.τ).loc Cert.Decoder.main_arg0) = m ((c.tc : Thread Cert.Decoder.nD Cert.Decoder.τ).loc Cert.Decoder.main_arg0)
      ∧ r.2.mem ((c.tc : Thread Cert.Decoder.nD Cert.Decoder.τ).loc Cert.Decoder.main_arg1) = m ((c.tc : Thread Cert.Decoder.nD Cert.Decoder.τ).loc Cert.Decoder.main_arg1)
      ∧ r.2.mem ((c.tc : Thread Cert.Decoder.nD Cert.Decoder.τ).loc Cert.Decoder.main_arg2) = m ((c.tc : Thread Cert.Decoder.nD Cert.Decoder.τ).loc Cert.Decoder.main_arg2)
      ∧ r.2.mem ((c.tc : Thread Cert.Decoder.nD Cert.Decoder.τ).loc Cert.Decoder.main_arg3) = m ((c.tc : Thread Cert.Decoder.nD Cert.Decoder.τ).loc Cert.Decoder.main_arg3))
      ∧ r.2.sem = fun _ => 0)

def quiescent_DecoderIdeal [hDecoderIdeal : Cert.DecoderIdeal.Facts] : Prop :=
  ∀ (m : (ℓ : Loc Cert.DecoderIdeal.nD Cert.DecoderIdeal.τ Cert.DecoderIdeal.sig) → Buf (Elt Ideal) ℓ) (g : Dev Cert.DecoderIdeal.nD → PrngReg), Pre_DecoderIdeal m →
    θ_run (Cert.DecoderIdeal.defs (F := Ideal)) (onTc (τ := Cert.DecoderIdeal.τ) (Cert.DecoderIdeal.main (F := Ideal))) ⟨m, fun _ => 0, g⟩ (fun r => (∀ c : Dev Cert.DecoderIdeal.nD,
      r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
      ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
      ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
      ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3))
      ∧ r.2.sem = fun _ => 0)

def quiescent_DecoderIdeal_pre_kth_untied [hDecoderIdeal : Cert.DecoderIdeal.Facts] [hPre_kth_untied : Cert.Pre_kth_untied.Facts] : Prop :=
  ∀ (m : (ℓ : Loc Cert.DecoderIdeal.nD Cert.DecoderIdeal.τ Cert.DecoderIdeal.sig) → Buf (Elt Ideal) ℓ) (g : Dev Cert.DecoderIdeal.nD → PrngReg), Pre_DecoderIdeal_kth_untied m →
    θ_run (Cert.DecoderIdeal.defs (F := Ideal)) (onTc (τ := Cert.DecoderIdeal.τ) (Cert.DecoderIdeal.main (F := Ideal))) ⟨m, fun _ => 0, g⟩ (fun r => (∀ c : Dev Cert.DecoderIdeal.nD,
      r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
      ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
      ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
      ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3))
      ∧ r.2.sem = fun _ => 0)

def quiescent_DecoderReferenceIdeal [hDecoderReferenceIdeal : Cert.DecoderReferenceIdeal.Facts] : Prop :=
  ∀ (m : (ℓ : Loc Cert.DecoderReferenceIdeal.nD Cert.DecoderReferenceIdeal.τ Cert.DecoderReferenceIdeal.sig) → Buf (Elt Ideal) ℓ) (g : Dev Cert.DecoderReferenceIdeal.nD → PrngReg), Pre_DecoderReferenceIdeal m →
    θ_run (Cert.DecoderReferenceIdeal.defs (F := Ideal)) (onTc (τ := Cert.DecoderReferenceIdeal.τ) (Cert.DecoderReferenceIdeal.main (F := Ideal))) ⟨m, fun _ => 0, g⟩ (fun r => (∀ c : Dev Cert.DecoderReferenceIdeal.nD,
      r.2.mem ((c.tc : Thread Cert.DecoderReferenceIdeal.nD Cert.DecoderReferenceIdeal.τ).loc Cert.DecoderReferenceIdeal.main_arg0) = m ((c.tc : Thread Cert.DecoderReferenceIdeal.nD Cert.DecoderReferenceIdeal.τ).loc Cert.DecoderReferenceIdeal.main_arg0)
      ∧ r.2.mem ((c.tc : Thread Cert.DecoderReferenceIdeal.nD Cert.DecoderReferenceIdeal.τ).loc Cert.DecoderReferenceIdeal.main_arg1) = m ((c.tc : Thread Cert.DecoderReferenceIdeal.nD Cert.DecoderReferenceIdeal.τ).loc Cert.DecoderReferenceIdeal.main_arg1)
      ∧ r.2.mem ((c.tc : Thread Cert.DecoderReferenceIdeal.nD Cert.DecoderReferenceIdeal.τ).loc Cert.DecoderReferenceIdeal.main_arg2) = m ((c.tc : Thread Cert.DecoderReferenceIdeal.nD Cert.DecoderReferenceIdeal.τ).loc Cert.DecoderReferenceIdeal.main_arg2)
      ∧ r.2.mem ((c.tc : Thread Cert.DecoderReferenceIdeal.nD Cert.DecoderReferenceIdeal.τ).loc Cert.DecoderReferenceIdeal.main_arg3) = m ((c.tc : Thread Cert.DecoderReferenceIdeal.nD Cert.DecoderReferenceIdeal.τ).loc Cert.DecoderReferenceIdeal.main_arg3))
      ∧ r.2.sem = fun _ => 0)

def quiescent_TopkReferenceIdeal [hTopkReferenceIdeal : Cert.TopkReferenceIdeal.Facts] : Prop :=
  ∀ (m : (ℓ : Loc Cert.TopkReferenceIdeal.nD Cert.TopkReferenceIdeal.τ Cert.TopkReferenceIdeal.sig) → Buf (Elt Ideal) ℓ) (g : Dev Cert.TopkReferenceIdeal.nD → PrngReg), Pre_TopkReferenceIdeal m →
    θ_run (Cert.TopkReferenceIdeal.defs (F := Ideal)) (onTc (τ := Cert.TopkReferenceIdeal.τ) (Cert.TopkReferenceIdeal.main (F := Ideal))) ⟨m, fun _ => 0, g⟩ (fun r => (∀ c : Dev Cert.TopkReferenceIdeal.nD,
      r.2.mem ((c.tc : Thread Cert.TopkReferenceIdeal.nD Cert.TopkReferenceIdeal.τ).loc Cert.TopkReferenceIdeal.main_arg0) = m ((c.tc : Thread Cert.TopkReferenceIdeal.nD Cert.TopkReferenceIdeal.τ).loc Cert.TopkReferenceIdeal.main_arg0)
      ∧ r.2.mem ((c.tc : Thread Cert.TopkReferenceIdeal.nD Cert.TopkReferenceIdeal.τ).loc Cert.TopkReferenceIdeal.main_arg1) = m ((c.tc : Thread Cert.TopkReferenceIdeal.nD Cert.TopkReferenceIdeal.τ).loc Cert.TopkReferenceIdeal.main_arg1)
      ∧ r.2.mem ((c.tc : Thread Cert.TopkReferenceIdeal.nD Cert.TopkReferenceIdeal.τ).loc Cert.TopkReferenceIdeal.main_arg2) = m ((c.tc : Thread Cert.TopkReferenceIdeal.nD Cert.TopkReferenceIdeal.τ).loc Cert.TopkReferenceIdeal.main_arg2)
      ∧ r.2.mem ((c.tc : Thread Cert.TopkReferenceIdeal.nD Cert.TopkReferenceIdeal.τ).loc Cert.TopkReferenceIdeal.main_arg3) = m ((c.tc : Thread Cert.TopkReferenceIdeal.nD Cert.TopkReferenceIdeal.τ).loc Cert.TopkReferenceIdeal.main_arg3))
      ∧ r.2.sem = fun _ => 0)

def quiescent_TopkReferenceIdeal_pre_kth_untied [hTopkReferenceIdeal : Cert.TopkReferenceIdeal.Facts] [hPre_kth_untied : Cert.Pre_kth_untied.Facts] : Prop :=
  ∀ (m : (ℓ : Loc Cert.TopkReferenceIdeal.nD Cert.TopkReferenceIdeal.τ Cert.TopkReferenceIdeal.sig) → Buf (Elt Ideal) ℓ) (g : Dev Cert.TopkReferenceIdeal.nD → PrngReg), Pre_TopkReferenceIdeal_kth_untied m →
    θ_run (Cert.TopkReferenceIdeal.defs (F := Ideal)) (onTc (τ := Cert.TopkReferenceIdeal.τ) (Cert.TopkReferenceIdeal.main (F := Ideal))) ⟨m, fun _ => 0, g⟩ (fun r => (∀ c : Dev Cert.TopkReferenceIdeal.nD,
      r.2.mem ((c.tc : Thread Cert.TopkReferenceIdeal.nD Cert.TopkReferenceIdeal.τ).loc Cert.TopkReferenceIdeal.main_arg0) = m ((c.tc : Thread Cert.TopkReferenceIdeal.nD Cert.TopkReferenceIdeal.τ).loc Cert.TopkReferenceIdeal.main_arg0)
      ∧ r.2.mem ((c.tc : Thread Cert.TopkReferenceIdeal.nD Cert.TopkReferenceIdeal.τ).loc Cert.TopkReferenceIdeal.main_arg1) = m ((c.tc : Thread Cert.TopkReferenceIdeal.nD Cert.TopkReferenceIdeal.τ).loc Cert.TopkReferenceIdeal.main_arg1)
      ∧ r.2.mem ((c.tc : Thread Cert.TopkReferenceIdeal.nD Cert.TopkReferenceIdeal.τ).loc Cert.TopkReferenceIdeal.main_arg2) = m ((c.tc : Thread Cert.TopkReferenceIdeal.nD Cert.TopkReferenceIdeal.τ).loc Cert.TopkReferenceIdeal.main_arg2)
      ∧ r.2.mem ((c.tc : Thread Cert.TopkReferenceIdeal.nD Cert.TopkReferenceIdeal.τ).loc Cert.TopkReferenceIdeal.main_arg3) = m ((c.tc : Thread Cert.TopkReferenceIdeal.nD Cert.TopkReferenceIdeal.τ).loc Cert.TopkReferenceIdeal.main_arg3))
      ∧ r.2.sem = fun _ => 0)

def bitexact_Kernel_Reference [hKernel : Cert.Kernel.Facts] [hReference : Cert.Reference.Facts] [hPre_sign_clear : Cert.Pre_sign_clear.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0))

def preserves_Encoder_EncoderIdeal : Prop :=
  True

def algebraic_EncoderIdeal_EncoderReferenceIdeal [hEncoderIdeal : Cert.EncoderIdeal.Facts] [hEncoderReferenceIdeal : Cert.EncoderReferenceIdeal.Facts] : Prop :=
  ∀ (m : (ℓ : Loc Cert.EncoderIdeal.nD Cert.EncoderIdeal.τ Cert.EncoderIdeal.sig) → Buf (Elt Ideal) ℓ) (g : Dev Cert.EncoderIdeal.nD → PrngReg)
    (m' : (ℓ : Loc Cert.EncoderReferenceIdeal.nD Cert.EncoderReferenceIdeal.τ Cert.EncoderReferenceIdeal.sig) → Buf (Elt Ideal) ℓ) (g' : Dev Cert.EncoderReferenceIdeal.nD → PrngReg), Pre_EncoderIdeal m →
    (∀ c : Dev Cert.EncoderIdeal.nD,
      m' ((c.tc : Thread Cert.EncoderReferenceIdeal.nD Cert.EncoderReferenceIdeal.τ).loc Cert.EncoderReferenceIdeal.main_arg0) = m ((c.tc : Thread Cert.EncoderIdeal.nD Cert.EncoderIdeal.τ).loc Cert.EncoderIdeal.main_arg0)
      ∧ m' ((c.tc : Thread Cert.EncoderReferenceIdeal.nD Cert.EncoderReferenceIdeal.τ).loc Cert.EncoderReferenceIdeal.main_arg1) = m ((c.tc : Thread Cert.EncoderIdeal.nD Cert.EncoderIdeal.τ).loc Cert.EncoderIdeal.main_arg1)
      ∧ m' ((c.tc : Thread Cert.EncoderReferenceIdeal.nD Cert.EncoderReferenceIdeal.τ).loc Cert.EncoderReferenceIdeal.main_arg2) = m ((c.tc : Thread Cert.EncoderIdeal.nD Cert.EncoderIdeal.τ).loc Cert.EncoderIdeal.main_arg2)
      ∧ m' ((c.tc : Thread Cert.EncoderReferenceIdeal.nD Cert.EncoderReferenceIdeal.τ).loc Cert.EncoderReferenceIdeal.main_arg3) = m ((c.tc : Thread Cert.EncoderIdeal.nD Cert.EncoderIdeal.τ).loc Cert.EncoderIdeal.main_arg3)) →
    ∃ (v0 : (c : Dev Cert.EncoderIdeal.nD) → Buf (Elt Ideal) ((c.tc : Thread Cert.EncoderIdeal.nD Cert.EncoderIdeal.τ).loc Cert.EncoderIdeal.main_v3)),
      θ_run (Cert.EncoderIdeal.defs (F := Ideal)) (onTc (τ := Cert.EncoderIdeal.τ) (Cert.EncoderIdeal.main (F := Ideal))) ⟨m, fun _ => 0, g⟩ (fun r => ∀ c : Dev Cert.EncoderIdeal.nD,
          r.2.mem ((c.tc : Thread Cert.EncoderIdeal.nD Cert.EncoderIdeal.τ).loc Cert.EncoderIdeal.main_v3) = v0 c
          ∧ r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
          ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
          ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
          ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3))
      ∧ θ_run (Cert.EncoderReferenceIdeal.defs (F := Ideal)) (onTc (τ := Cert.EncoderReferenceIdeal.τ) (Cert.EncoderReferenceIdeal.main (F := Ideal))) ⟨m', fun _ => 0, g'⟩ (fun r => ∀ c : Dev Cert.EncoderReferenceIdeal.nD,
          r.2.mem ((c.tc : Thread Cert.EncoderReferenceIdeal.nD Cert.EncoderReferenceIdeal.τ).loc Cert.EncoderReferenceIdeal.main_v9) = v0 c
          ∧ r.2.mem ((c.tc : Thread Cert.EncoderReferenceIdeal.nD Cert.EncoderReferenceIdeal.τ).loc Cert.EncoderReferenceIdeal.main_arg0) = m' ((c.tc : Thread Cert.EncoderReferenceIdeal.nD Cert.EncoderReferenceIdeal.τ).loc Cert.EncoderReferenceIdeal.main_arg0)
          ∧ r.2.mem ((c.tc : Thread Cert.EncoderReferenceIdeal.nD Cert.EncoderReferenceIdeal.τ).loc Cert.EncoderReferenceIdeal.main_arg1) = m' ((c.tc : Thread Cert.EncoderReferenceIdeal.nD Cert.EncoderReferenceIdeal.τ).loc Cert.EncoderReferenceIdeal.main_arg1)
          ∧ r.2.mem ((c.tc : Thread Cert.EncoderReferenceIdeal.nD Cert.EncoderReferenceIdeal.τ).loc Cert.EncoderReferenceIdeal.main_arg2) = m' ((c.tc : Thread Cert.EncoderReferenceIdeal.nD Cert.EncoderReferenceIdeal.τ).loc Cert.EncoderReferenceIdeal.main_arg2)
          ∧ r.2.mem ((c.tc : Thread Cert.EncoderReferenceIdeal.nD Cert.EncoderReferenceIdeal.τ).loc Cert.EncoderReferenceIdeal.main_arg3) = m' ((c.tc : Thread Cert.EncoderReferenceIdeal.nD Cert.EncoderReferenceIdeal.τ).loc Cert.EncoderReferenceIdeal.main_arg3))

def preserves_Decoder_DecoderIdeal : Prop :=
  True

def algebraic_DecoderIdeal_DecoderReferenceIdeal [hDecoderIdeal : Cert.DecoderIdeal.Facts] [hDecoderReferenceIdeal : Cert.DecoderReferenceIdeal.Facts] : Prop :=
  ∀ (m : (ℓ : Loc Cert.DecoderIdeal.nD Cert.DecoderIdeal.τ Cert.DecoderIdeal.sig) → Buf (Elt Ideal) ℓ) (g : Dev Cert.DecoderIdeal.nD → PrngReg)
    (m' : (ℓ : Loc Cert.DecoderReferenceIdeal.nD Cert.DecoderReferenceIdeal.τ Cert.DecoderReferenceIdeal.sig) → Buf (Elt Ideal) ℓ) (g' : Dev Cert.DecoderReferenceIdeal.nD → PrngReg), Pre_DecoderIdeal m →
    (∀ c : Dev Cert.DecoderIdeal.nD,
      m' ((c.tc : Thread Cert.DecoderReferenceIdeal.nD Cert.DecoderReferenceIdeal.τ).loc Cert.DecoderReferenceIdeal.main_arg0) = m ((c.tc : Thread Cert.DecoderIdeal.nD Cert.DecoderIdeal.τ).loc Cert.DecoderIdeal.main_arg0)
      ∧ m' ((c.tc : Thread Cert.DecoderReferenceIdeal.nD Cert.DecoderReferenceIdeal.τ).loc Cert.DecoderReferenceIdeal.main_arg1) = m ((c.tc : Thread Cert.DecoderIdeal.nD Cert.DecoderIdeal.τ).loc Cert.DecoderIdeal.main_arg1)
      ∧ m' ((c.tc : Thread Cert.DecoderReferenceIdeal.nD Cert.DecoderReferenceIdeal.τ).loc Cert.DecoderReferenceIdeal.main_arg2) = m ((c.tc : Thread Cert.DecoderIdeal.nD Cert.DecoderIdeal.τ).loc Cert.DecoderIdeal.main_arg2)
      ∧ m' ((c.tc : Thread Cert.DecoderReferenceIdeal.nD Cert.DecoderReferenceIdeal.τ).loc Cert.DecoderReferenceIdeal.main_arg3) = m ((c.tc : Thread Cert.DecoderIdeal.nD Cert.DecoderIdeal.τ).loc Cert.DecoderIdeal.main_arg3)) →
    ∃ (v0 : (c : Dev Cert.DecoderIdeal.nD) → Buf (Elt Ideal) ((c.tc : Thread Cert.DecoderIdeal.nD Cert.DecoderIdeal.τ).loc Cert.DecoderIdeal.main_v2)),
      θ_run (Cert.DecoderIdeal.defs (F := Ideal)) (onTc (τ := Cert.DecoderIdeal.τ) (Cert.DecoderIdeal.main (F := Ideal))) ⟨m, fun _ => 0, g⟩ (fun r => ∀ c : Dev Cert.DecoderIdeal.nD,
          r.2.mem ((c.tc : Thread Cert.DecoderIdeal.nD Cert.DecoderIdeal.τ).loc Cert.DecoderIdeal.main_v2) = v0 c
          ∧ r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
          ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
          ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
          ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3))
      ∧ θ_run (Cert.DecoderReferenceIdeal.defs (F := Ideal)) (onTc (τ := Cert.DecoderReferenceIdeal.τ) (Cert.DecoderReferenceIdeal.main (F := Ideal))) ⟨m', fun _ => 0, g'⟩ (fun r => ∀ c : Dev Cert.DecoderReferenceIdeal.nD,
          r.2.mem ((c.tc : Thread Cert.DecoderReferenceIdeal.nD Cert.DecoderReferenceIdeal.τ).loc Cert.DecoderReferenceIdeal.main_v7) = v0 c
          ∧ r.2.mem ((c.tc : Thread Cert.DecoderReferenceIdeal.nD Cert.DecoderReferenceIdeal.τ).loc Cert.DecoderReferenceIdeal.main_arg0) = m' ((c.tc : Thread Cert.DecoderReferenceIdeal.nD Cert.DecoderReferenceIdeal.τ).loc Cert.DecoderReferenceIdeal.main_arg0)
          ∧ r.2.mem ((c.tc : Thread Cert.DecoderReferenceIdeal.nD Cert.DecoderReferenceIdeal.τ).loc Cert.DecoderReferenceIdeal.main_arg1) = m' ((c.tc : Thread Cert.DecoderReferenceIdeal.nD Cert.DecoderReferenceIdeal.τ).loc Cert.DecoderReferenceIdeal.main_arg1)
          ∧ r.2.mem ((c.tc : Thread Cert.DecoderReferenceIdeal.nD Cert.DecoderReferenceIdeal.τ).loc Cert.DecoderReferenceIdeal.main_arg2) = m' ((c.tc : Thread Cert.DecoderReferenceIdeal.nD Cert.DecoderReferenceIdeal.τ).loc Cert.DecoderReferenceIdeal.main_arg2)
          ∧ r.2.mem ((c.tc : Thread Cert.DecoderReferenceIdeal.nD Cert.DecoderReferenceIdeal.τ).loc Cert.DecoderReferenceIdeal.main_arg3) = m' ((c.tc : Thread Cert.DecoderReferenceIdeal.nD Cert.DecoderReferenceIdeal.τ).loc Cert.DecoderReferenceIdeal.main_arg3))

def algebraic_DecoderIdeal_TopkReferenceIdeal_pre_kth_untied [hDecoderIdeal : Cert.DecoderIdeal.Facts] [hTopkReferenceIdeal : Cert.TopkReferenceIdeal.Facts] [hPre_kth_untied : Cert.Pre_kth_untied.Facts] : Prop :=
  ∀ (m : (ℓ : Loc Cert.DecoderIdeal.nD Cert.DecoderIdeal.τ Cert.DecoderIdeal.sig) → Buf (Elt Ideal) ℓ) (g : Dev Cert.DecoderIdeal.nD → PrngReg)
    (m' : (ℓ : Loc Cert.TopkReferenceIdeal.nD Cert.TopkReferenceIdeal.τ Cert.TopkReferenceIdeal.sig) → Buf (Elt Ideal) ℓ) (g' : Dev Cert.TopkReferenceIdeal.nD → PrngReg), Pre_DecoderIdeal_kth_untied m →
    (∀ c : Dev Cert.DecoderIdeal.nD,
      m' ((c.tc : Thread Cert.TopkReferenceIdeal.nD Cert.TopkReferenceIdeal.τ).loc Cert.TopkReferenceIdeal.main_arg0) = m ((c.tc : Thread Cert.DecoderIdeal.nD Cert.DecoderIdeal.τ).loc Cert.DecoderIdeal.main_arg0)
      ∧ m' ((c.tc : Thread Cert.TopkReferenceIdeal.nD Cert.TopkReferenceIdeal.τ).loc Cert.TopkReferenceIdeal.main_arg1) = m ((c.tc : Thread Cert.DecoderIdeal.nD Cert.DecoderIdeal.τ).loc Cert.DecoderIdeal.main_arg1)
      ∧ m' ((c.tc : Thread Cert.TopkReferenceIdeal.nD Cert.TopkReferenceIdeal.τ).loc Cert.TopkReferenceIdeal.main_arg2) = m ((c.tc : Thread Cert.DecoderIdeal.nD Cert.DecoderIdeal.τ).loc Cert.DecoderIdeal.main_arg2)
      ∧ m' ((c.tc : Thread Cert.TopkReferenceIdeal.nD Cert.TopkReferenceIdeal.τ).loc Cert.TopkReferenceIdeal.main_arg3) = m ((c.tc : Thread Cert.DecoderIdeal.nD Cert.DecoderIdeal.τ).loc Cert.DecoderIdeal.main_arg3)) →
    ∃ (v0 : (c : Dev Cert.DecoderIdeal.nD) → Buf (Elt Ideal) ((c.tc : Thread Cert.DecoderIdeal.nD Cert.DecoderIdeal.τ).loc Cert.DecoderIdeal.main_v2)),
      θ_run (Cert.DecoderIdeal.defs (F := Ideal)) (onTc (τ := Cert.DecoderIdeal.τ) (Cert.DecoderIdeal.main (F := Ideal))) ⟨m, fun _ => 0, g⟩ (fun r => ∀ c : Dev Cert.DecoderIdeal.nD,
          r.2.mem ((c.tc : Thread Cert.DecoderIdeal.nD Cert.DecoderIdeal.τ).loc Cert.DecoderIdeal.main_v2) = v0 c
          ∧ r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
          ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
          ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
          ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3))
      ∧ θ_run (Cert.TopkReferenceIdeal.defs (F := Ideal)) (onTc (τ := Cert.TopkReferenceIdeal.τ) (Cert.TopkReferenceIdeal.main (F := Ideal))) ⟨m', fun _ => 0, g'⟩ (fun r => ∀ c : Dev Cert.TopkReferenceIdeal.nD,
          r.2.mem ((c.tc : Thread Cert.TopkReferenceIdeal.nD Cert.TopkReferenceIdeal.τ).loc Cert.TopkReferenceIdeal.main_v21) = v0 c
          ∧ r.2.mem ((c.tc : Thread Cert.TopkReferenceIdeal.nD Cert.TopkReferenceIdeal.τ).loc Cert.TopkReferenceIdeal.main_arg0) = m' ((c.tc : Thread Cert.TopkReferenceIdeal.nD Cert.TopkReferenceIdeal.τ).loc Cert.TopkReferenceIdeal.main_arg0)
          ∧ r.2.mem ((c.tc : Thread Cert.TopkReferenceIdeal.nD Cert.TopkReferenceIdeal.τ).loc Cert.TopkReferenceIdeal.main_arg1) = m' ((c.tc : Thread Cert.TopkReferenceIdeal.nD Cert.TopkReferenceIdeal.τ).loc Cert.TopkReferenceIdeal.main_arg1)
          ∧ r.2.mem ((c.tc : Thread Cert.TopkReferenceIdeal.nD Cert.TopkReferenceIdeal.τ).loc Cert.TopkReferenceIdeal.main_arg2) = m' ((c.tc : Thread Cert.TopkReferenceIdeal.nD Cert.TopkReferenceIdeal.τ).loc Cert.TopkReferenceIdeal.main_arg2)
          ∧ r.2.mem ((c.tc : Thread Cert.TopkReferenceIdeal.nD Cert.TopkReferenceIdeal.τ).loc Cert.TopkReferenceIdeal.main_arg3) = m' ((c.tc : Thread Cert.TopkReferenceIdeal.nD Cert.TopkReferenceIdeal.τ).loc Cert.TopkReferenceIdeal.main_arg3))

def Claim : Prop :=
  ∃ (hKernel : Cert.Kernel.Facts) (hReference : Cert.Reference.Facts) (hEncoder : Cert.Encoder.Facts) (hEncoderIdeal : Cert.EncoderIdeal.Facts) (hEncoderReferenceIdeal : Cert.EncoderReferenceIdeal.Facts) (hDecoder : Cert.Decoder.Facts) (hDecoderIdeal : Cert.DecoderIdeal.Facts) (hDecoderReferenceIdeal : Cert.DecoderReferenceIdeal.Facts) (hTopkReferenceIdeal : Cert.TopkReferenceIdeal.Facts) (hPre_sign_clear : Cert.Pre_sign_clear.Facts) (hPre_kth_untied : Cert.Pre_kth_untied.Facts),
    quiescent_Kernel (hKernel := hKernel) (hPre_sign_clear := hPre_sign_clear)
    ∧ quiescent_Reference (hReference := hReference)
    ∧ quiescent_Reference_pre_sign_clear (hReference := hReference) (hPre_sign_clear := hPre_sign_clear)
    ∧ quiescent_Encoder (hEncoder := hEncoder)
    ∧ quiescent_EncoderIdeal (hEncoderIdeal := hEncoderIdeal)
    ∧ quiescent_EncoderReferenceIdeal (hEncoderReferenceIdeal := hEncoderReferenceIdeal)
    ∧ quiescent_Decoder (hDecoder := hDecoder)
    ∧ quiescent_DecoderIdeal (hDecoderIdeal := hDecoderIdeal)
    ∧ quiescent_DecoderIdeal_pre_kth_untied (hDecoderIdeal := hDecoderIdeal) (hPre_kth_untied := hPre_kth_untied)
    ∧ quiescent_DecoderReferenceIdeal (hDecoderReferenceIdeal := hDecoderReferenceIdeal)
    ∧ quiescent_TopkReferenceIdeal (hTopkReferenceIdeal := hTopkReferenceIdeal)
    ∧ quiescent_TopkReferenceIdeal_pre_kth_untied (hTopkReferenceIdeal := hTopkReferenceIdeal) (hPre_kth_untied := hPre_kth_untied)
    ∧ bitexact_Kernel_Reference (hKernel := hKernel) (hReference := hReference) (hPre_sign_clear := hPre_sign_clear)
    ∧ preserves_Encoder_EncoderIdeal
    ∧ algebraic_EncoderIdeal_EncoderReferenceIdeal (hEncoderIdeal := hEncoderIdeal) (hEncoderReferenceIdeal := hEncoderReferenceIdeal)
    ∧ preserves_Decoder_DecoderIdeal
    ∧ algebraic_DecoderIdeal_DecoderReferenceIdeal (hDecoderIdeal := hDecoderIdeal) (hDecoderReferenceIdeal := hDecoderReferenceIdeal)
    ∧ algebraic_DecoderIdeal_TopkReferenceIdeal_pre_kth_untied (hDecoderIdeal := hDecoderIdeal) (hTopkReferenceIdeal := hTopkReferenceIdeal) (hPre_kth_untied := hPre_kth_untied)
-- ==== Pre_kth_untied.lean ====
abbrev S2048x16384 : Shape := ⟨2, ![2048, 16384]⟩
abbrev S2048 : Shape := ⟨1, ![2048]⟩
abbrev S768x16384 : Shape := ⟨2, ![768, 16384]⟩
abbrev S768 : Shape := ⟨1, ![768]⟩
abbrev S2048x65 : Shape := ⟨2, ![2048, 65]⟩
abbrev S2048x1 : Shape := ⟨2, ![2048, 1]⟩
abbrev S_ : Shape := ⟨0, ![]⟩

class Facts : Prop where
  sliceFits_S2048x16384_S2048x65 : S2048x16384.Slices (fun _ => 0) S2048x65
  slices_S2048x65_S2048x1_0_63 : S2048x65.Slices ![0, 63] S2048x1
  shapeCasts_S2048x1_S2048 : S2048x1.ShapeCasts S2048
  slices_S2048x65_S2048x1_0_64 : S2048x65.Slices ![0, 64] S2048x1
  bcast_S_S2048 : S_.BroadcastsInDim S2048 (![] : Fin 0 → Fin S2048.rank)

variable [Facts]

def fn {F : FTy → Type} [FloatOps F] (main_arg0 : FVec F S2048x16384 .f32) (main_arg1 : FVec F S2048 .f32) (main_arg2 : FVec F S768x16384 .f32) (main_arg3 : FVec F S768 .f32) : IVec S2048 1 :=
  let main_values : FVec F S2048x65 .f32 := (fun x => (Host.topK S2048x65 1 (FloatOps.cmpfTotal .gt) x sliceFits_S2048x16384_S2048x65).1) main_arg0
  let main_indices : IVec S2048x65 32 := (fun x => (Host.topK S2048x65 1 (FloatOps.cmpfTotal .gt) x sliceFits_S2048x16384_S2048x65).2) main_arg0
  let main_v0 : FVec F S2048x1 .f32 := (extractStridedSlice S2048x1 ![0, 63] · slices_S2048x65_S2048x1_0_63) main_values
  let main_v1 : FVec F S2048 .f32 := shapeCast S2048 main_v0 shapeCasts_S2048x1_S2048
  let main_v2 : IVec S2048 1 := cmpf .oeq main_arg1 main_v1
  let main_v3 : FVec F S2048x1 .f32 := (extractStridedSlice S2048x1 ![0, 64] · slices_S2048x65_S2048x1_0_64) main_values
  let main_v4 : FVec F S2048 .f32 := shapeCast S2048 main_v3 shapeCasts_S2048x1_S2048
  let main_v5 : IVec S2048 1 := cmpf .olt main_v4 main_arg1
  let main_cst : FVec F S_ .f32 := constant S_ .f32 0x00000000#32
  let main_v6 : FVec F S2048 .f32 := broadcastInDim S2048 ![] bcast_S_S2048 main_cst
  let main_v7 : IVec S2048 1 := cmpf .oeq main_arg1 main_v6
  let main_v8 : IVec S2048 1 := ori main_v5 main_v7
  let main_v9 : IVec S2048 1 := andi main_v2 main_v8
  main_v9
-- ==== Pre_sign_clear.lean ====
abbrev S2048x16384 : Shape := ⟨2, ![2048, 16384]⟩
abbrev S_ : Shape := ⟨0, ![]⟩

class Facts : Prop where
  bcast_S_S2048x16384 : S_.BroadcastsInDim S2048x16384 (![] : Fin 0 → Fin S2048x16384.rank)

variable [Facts]

def fn {F : FTy → Type} [BitOps F] (main_arg0 : FVec F S2048x16384 .f32) : IVec S2048x16384 1 :=
  let main_v0 : IVec S2048x16384 32 := bitcastToInt main_arg0
  let main_c : IVec S_ 32 := constantI S_ 32 0#32
  let main_v1 : IVec S2048x16384 32 := broadcastInDim S2048x16384 ![] bcast_S_S2048x16384 main_c
  let main_v2 : IVec S2048x16384 1 := cmpi .sge main_v0 main_v1
  main_v2
-- ==== Kernel.lean ====
abbrev S2048x16384 : Shape := ⟨2, ![2048, 16384]⟩
abbrev S2048 : Shape := ⟨1, ![2048]⟩
abbrev S16384 : Shape := ⟨1, ![16384]⟩
abbrev S16400 : Shape := ⟨1, ![16400]⟩
abbrev S4096 : Shape := ⟨1, ![4096]⟩
abbrev S4112 : Shape := ⟨1, ![4112]⟩
abbrev S64 : Shape := ⟨1, ![64]⟩
abbrev S16 : Shape := ⟨1, ![16]⟩
abbrev S_ : Shape := ⟨0, ![]⟩
abbrev S1x16384 : Shape := ⟨2, ![1, 16384]⟩

abbrev nBuf : Table → Nat
  | .hbm => 2
  | .local .scVector .vmem => 6
  | _ => 0

abbrev bufTy : (tb : Table) → Fin (nBuf tb) → BufTy
  | .hbm, ⟨0, _⟩ => ⟨S2048x16384, .f32⟩
  | .hbm, ⟨1, _⟩ => ⟨S2048, .f32⟩
  | .local .scVector .vmem, ⟨0, _⟩ => ⟨S16384, .f32⟩
  | .local .scVector .vmem, ⟨1, _⟩ => ⟨S16400, .f32⟩
  | .local .scVector .vmem, ⟨2, _⟩ => ⟨S16400, .f32⟩
  | .local .scVector .vmem, ⟨3, _⟩ => ⟨S4096, .i32⟩
  | .local .scVector .vmem, ⟨4, _⟩ => ⟨S4112, .i32⟩
  | .local .scVector .vmem, ⟨5, _⟩ => ⟨S64, .f32⟩
  | _, _ => ⟨S2048x16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

@[reducible] def k0_t1_loop : Scf.Loop 32 :=
  let c0_i32_1 : BitVec 32 := 0#32
  let c256_i32 : BitVec 32 := 256#32
  let v5 : BitVec 32 := Scalar.addi c0_i32_1 c256_i32
  let c1_i32_2 : BitVec 32 := 1#32
  ⟨c0_i32_1, v5, c1_i32_2⟩
def k0_off1 (k0_t1 : Fin k0_t1_loop.trips) : Fin 1 → Nat :=
  let c0_i32_1 : BitVec 32 := 0#32
  let c1_i32_2 : BitVec 32 := 1#32
  let arg10 : BitVec 32 := Scf.iv c0_i32_1 c1_i32_2 k0_t1
  let c16_i32 : BitVec 32 := 16#32
  let v10 : BitVec 32 := Scalar.muli arg10 c16_i32
  let v11 : Index := Scalar.indexCast v10
  ![v11.toNat]
@[reducible] def k0_t2_loop : Scf.Loop 32 :=
  let c0_i32_5 : BitVec 32 := 0#32
  let c64_i32 : BitVec 32 := 64#32
  let v7 : BitVec 32 := Scalar.addi c0_i32_5 c64_i32
  let c1_i32_6 : BitVec 32 := 1#32
  ⟨c0_i32_5, v7, c1_i32_6⟩
def k0_off2 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_9 : BitVec 32 := 64#32
  let v10 : BitVec 32 := Scalar.muli v1 c64_i32_9
  let c0_i32_5 : BitVec 32 := 0#32
  let c1_i32_6 : BitVec 32 := 1#32
  let arg10 : BitVec 32 := Scf.iv c0_i32_5 c1_i32_6 k0_t2
  let v11 : BitVec 32 := Scalar.addi v10 arg10
  let c0_i32_113_r0 : BitVec 32 := 0#32
  ![v11.toNat, 0]
@[reducible] def k0_t3_loop : Scf.Loop 32 :=
  let c0_i32_11 : BitVec 32 := 0#32
  let c128_i32 : BitVec 32 := 128#32
  let v12 : BitVec 32 := Scalar.addi c0_i32_11 c128_i32
  let c1_i32_12 : BitVec 32 := 1#32
  ⟨c0_i32_11, v12, c1_i32_12⟩
def k0_off3 (k0_t3 : Fin k0_t3_loop.trips) : Fin 1 → Nat :=
  let c0_i32_11 : BitVec 32 := 0#32
  let c1_i32_12 : BitVec 32 := 1#32
  let arg12 : BitVec 32 := Scf.iv c0_i32_11 c1_i32_12 k0_t3
  let c8_i32_113 : BitVec 32 := 8#32
  let v146 : BitVec 32 := Scalar.muli arg12 c8_i32_113
  let c0_i32_114 : BitVec 32 := 0#32
  let v147 : BitVec 32 := Scalar.addi v146 c0_i32_114
  let c16_i32_115 : BitVec 32 := 16#32
  let v148 : BitVec 32 := Scalar.muli v147 c16_i32_115
  let v149 : Index := Scalar.indexCast v148
  ![v149.toNat]

def k0_chk1 (v156 : IVec S16 32) : Prop :=
  (∀ a x, ((![v156] : Fin 1 → IVec S16 32) a x).toNat < S4096.size a)
theorem k0_idx1_inb : ∀ (v156 : IVec S16 32) (k0_hw1 : k0_chk1 v156), ∀ a x, ((![v156] : Fin 1 → IVec S16 32) a x).toNat < S4096.size a := fun v156 k0_hw1 => k0_hw1
def k0_off4 (k0_t3 : Fin k0_t3_loop.trips) : Fin 1 → Nat :=
  let c0_i32_11 : BitVec 32 := 0#32
  let c1_i32_12 : BitVec 32 := 1#32
  let arg12 : BitVec 32 := Scf.iv c0_i32_11 c1_i32_12 k0_t3
  let c8_i32_117 : BitVec 32 := 8#32
  let v157 : BitVec 32 := Scalar.muli arg12 c8_i32_117
  let c1_i32_118 : BitVec 32 := 1#32
  let v158 : BitVec 32 := Scalar.addi v157 c1_i32_118
  let c16_i32_119 : BitVec 32 := 16#32
  let v159 : BitVec 32 := Scalar.muli v158 c16_i32_119
  let v160 : Index := Scalar.indexCast v159
  ![v160.toNat]

def k0_chk2 (v167 : IVec S16 32) : Prop :=
  (∀ a x, ((![v167] : Fin 1 → IVec S16 32) a x).toNat < S4096.size a)
theorem k0_idx2_inb : ∀ (v167 : IVec S16 32) (k0_hw2 : k0_chk2 v167), ∀ a x, ((![v167] : Fin 1 → IVec S16 32) a x).toNat < S4096.size a := fun v167 k0_hw2 => k0_hw2
def k0_off5 (k0_t3 : Fin k0_t3_loop.trips) : Fin 1 → Nat :=
  let c0_i32_11 : BitVec 32 := 0#32
  let c1_i32_12 : BitVec 32 := 1#32
  let arg12 : BitVec 32 := Scf.iv c0_i32_11 c1_i32_12 k0_t3
  let c8_i32_122 : BitVec 32 := 8#32
  let v168 : BitVec 32 := Scalar.muli arg12 c8_i32_122
  let c2_i32_123 : BitVec 32 := 2#32
  let v169 : BitVec 32 := Scalar.addi v168 c2_i32_123
  let c16_i32_124 : BitVec 32 := 16#32
  let v170 : BitVec 32 := Scalar.muli v169 c16_i32_124
  let v171 : Index := Scalar.indexCast v170
  ![v171.toNat]

def k0_chk3 (v178 : IVec S16 32) : Prop :=
  (∀ a x, ((![v178] : Fin 1 → IVec S16 32) a x).toNat < S4096.size a)
theorem k0_idx3_inb : ∀ (v178 : IVec S16 32) (k0_hw3 : k0_chk3 v178), ∀ a x, ((![v178] : Fin 1 → IVec S16 32) a x).toNat < S4096.size a := fun v178 k0_hw3 => k0_hw3
def k0_off6 (k0_t3 : Fin k0_t3_loop.trips) : Fin 1 → Nat :=
  let c0_i32_11 : BitVec 32 := 0#32
  let c1_i32_12 : BitVec 32 := 1#32
  let arg12 : BitVec 32 := Scf.iv c0_i32_11 c1_i32_12 k0_t3
  let c8_i32_127 : BitVec 32 := 8#32
  let v179 : BitVec 32 := Scalar.muli arg12 c8_i32_127
  let c3_i32_128 : BitVec 32 := 3#32
  let v180 : BitVec 32 := Scalar.addi v179 c3_i32_128
  let c16_i32_129 : BitVec 32 := 16#32
  let v181 : BitVec 32 := Scalar.muli v180 c16_i32_129
  let v182 : Index := Scalar.indexCast v181
  ![v182.toNat]

def k0_chk4 (v189 : IVec S16 32) : Prop :=
  (∀ a x, ((![v189] : Fin 1 → IVec S16 32) a x).toNat < S4096.size a)
theorem k0_idx4_inb : ∀ (v189 : IVec S16 32) (k0_hw4 : k0_chk4 v189), ∀ a x, ((![v189] : Fin 1 → IVec S16 32) a x).toNat < S4096.size a := fun v189 k0_hw4 => k0_hw4
def k0_off7 (k0_t3 : Fin k0_t3_loop.trips) : Fin 1 → Nat :=
  let c0_i32_11 : BitVec 32 := 0#32
  let c1_i32_12 : BitVec 32 := 1#32
  let arg12 : BitVec 32 := Scf.iv c0_i32_11 c1_i32_12 k0_t3
  let c8_i32_132 : BitVec 32 := 8#32
  let v190 : BitVec 32 := Scalar.muli arg12 c8_i32_132
  let c4_i32_133 : BitVec 32 := 4#32
  let v191 : BitVec 32 := Scalar.addi v190 c4_i32_133
  let c16_i32_134 : BitVec 32 := 16#32
  let v192 : BitVec 32 := Scalar.muli v191 c16_i32_134
  let v193 : Index := Scalar.indexCast v192
  ![v193.toNat]

def k0_chk5 (v200 : IVec S16 32) : Prop :=
  (∀ a x, ((![v200] : Fin 1 → IVec S16 32) a x).toNat < S4096.size a)
theorem k0_idx5_inb : ∀ (v200 : IVec S16 32) (k0_hw5 : k0_chk5 v200), ∀ a x, ((![v200] : Fin 1 → IVec S16 32) a x).toNat < S4096.size a := fun v200 k0_hw5 => k0_hw5
def k0_off8 (k0_t3 : Fin k0_t3_loop.trips) : Fin 1 → Nat :=
  let c0_i32_11 : BitVec 32 := 0#32
  let c1_i32_12 : BitVec 32 := 1#32
  let arg12 : BitVec 32 := Scf.iv c0_i32_11 c1_i32_12 k0_t3
  let c8_i32_137 : BitVec 32 := 8#32
  let v201 : BitVec 32 := Scalar.muli arg12 c8_i32_137
  let c5_i32 : BitVec 32 := 5#32
  let v202 : BitVec 32 := Scalar.addi v201 c5_i32
  let c16_i32_138 : BitVec 32 := 16#32
  let v203 : BitVec 32 := Scalar.muli v202 c16_i32_138
  let v204 : Index := Scalar.indexCast v203
  ![v204.toNat]

def k0_chk6 (v211 : IVec S16 32) : Prop :=
  (∀ a x, ((![v211] : Fin 1 → IVec S16 32) a x).toNat < S4096.size a)
theorem k0_idx6_inb : ∀ (v211 : IVec S16 32) (k0_hw6 : k0_chk6 v211), ∀ a x, ((![v211] : Fin 1 → IVec S16 32) a x).toNat < S4096.size a := fun v211 k0_hw6 => k0_hw6
def k0_off9 (k0_t3 : Fin k0_t3_loop.trips) : Fin 1 → Nat :=
  let c0_i32_11 : BitVec 32 := 0#32
  let c1_i32_12 : BitVec 32 := 1#32
  let arg12 : BitVec 32 := Scf.iv c0_i32_11 c1_i32_12 k0_t3
  let c8_i32_141 : BitVec 32 := 8#32
  let v212 : BitVec 32 := Scalar.muli arg12 c8_i32_141
  let c6_i32 : BitVec 32 := 6#32
  let v213 : BitVec 32 := Scalar.addi v212 c6_i32
  let c16_i32_142 : BitVec 32 := 16#32
  let v214 : BitVec 32 := Scalar.muli v213 c16_i32_142
  let v215 : Index := Scalar.indexCast v214
  ![v215.toNat]

def k0_chk7 (v222 : IVec S16 32) : Prop :=
  (∀ a x, ((![v222] : Fin 1 → IVec S16 32) a x).toNat < S4096.size a)
theorem k0_idx7_inb : ∀ (v222 : IVec S16 32) (k0_hw7 : k0_chk7 v222), ∀ a x, ((![v222] : Fin 1 → IVec S16 32) a x).toNat < S4096.size a := fun v222 k0_hw7 => k0_hw7
def k0_off10 (k0_t3 : Fin k0_t3_loop.trips) : Fin 1 → Nat :=
  let c0_i32_11 : BitVec 32 := 0#32
  let c1_i32_12 : BitVec 32 := 1#32
  let arg12 : BitVec 32 := Scf.iv c0_i32_11 c1_i32_12 k0_t3
  let c8_i32_145 : BitVec 32 := 8#32
  let v223 : BitVec 32 := Scalar.muli arg12 c8_i32_145
  let c7_i32_146 : BitVec 32 := 7#32
  let v224 : BitVec 32 := Scalar.addi v223 c7_i32_146
  let c16_i32_147 : BitVec 32 := 16#32
  let v225 : BitVec 32 := Scalar.muli v224 c16_i32_147
  let v226 : Index := Scalar.indexCast v225
  ![v226.toNat]

def k0_chk8 (v233 : IVec S16 32) : Prop :=
  (∀ a x, ((![v233] : Fin 1 → IVec S16 32) a x).toNat < S4096.size a)
theorem k0_idx8_inb : ∀ (v233 : IVec S16 32) (k0_hw8 : k0_chk8 v233), ∀ a x, ((![v233] : Fin 1 → IVec S16 32) a x).toNat < S4096.size a := fun v233 k0_hw8 => k0_hw8
@[reducible] def k0_t4_loop : Scf.Loop 32 :=
  let c0_i32_15 : BitVec 32 := 0#32
  let c32_i32 : BitVec 32 := 32#32
  let v16 : BitVec 32 := Scalar.addi c0_i32_15 c32_i32
  let c1_i32_16 : BitVec 32 := 1#32
  ⟨c0_i32_15, v16, c1_i32_16⟩
def k0_off11 (k0_t4 : Fin k0_t4_loop.trips) (c0_i32_114 : BitVec 32) : Fin 1 → Nat :=
  let c255_i32_115 : BitVec 32 := 255#32
  let c0_i32_15 : BitVec 32 := 0#32
  let c1_i32_16 : BitVec 32 := 1#32
  let arg12 : BitVec 32 := Scf.iv c0_i32_15 c1_i32_16 k0_t4
  let c8_i32_113 : BitVec 32 := 8#32
  let v146 : BitVec 32 := Scalar.muli arg12 c8_i32_113
  let v147 : BitVec 32 := Scalar.addi v146 c0_i32_114
  let v148 : BitVec 32 := Scalar.subi c255_i32_115 v147
  let c16_i32_116 : BitVec 32 := 16#32
  let v149 : BitVec 32 := Scalar.muli v148 c16_i32_116
  let v150 : Index := Scalar.indexCast v149
  ![v150.toNat]
def k0_off12 (k0_t4 : Fin k0_t4_loop.trips) (c0_i32_114 : BitVec 32) : Fin 1 → Nat :=
  let c255_i32_115 : BitVec 32 := 255#32
  let c0_i32_15 : BitVec 32 := 0#32
  let c1_i32_16 : BitVec 32 := 1#32
  let arg12 : BitVec 32 := Scf.iv c0_i32_15 c1_i32_16 k0_t4
  let c8_i32_113 : BitVec 32 := 8#32
  let v146 : BitVec 32 := Scalar.muli arg12 c8_i32_113
  let v147 : BitVec 32 := Scalar.addi v146 c0_i32_114
  let v148 : BitVec 32 := Scalar.subi c255_i32_115 v147
  let c16_i32_117 : BitVec 32 := 16#32
  let v153 : BitVec 32 := Scalar.muli v148 c16_i32_117
  let v154 : Index := Scalar.indexCast v153
  ![v154.toNat]
@[reducible] def k0_t5_loop : Scf.Loop 32 :=
  let c0_i32_20 : BitVec 32 := 0#32
  let c8_i32 : BitVec 32 := 8#32
  let v18 : BitVec 32 := Scalar.addi c0_i32_20 c8_i32
  let c1_i32_21 : BitVec 32 := 1#32
  ⟨c0_i32_20, v18, c1_i32_21⟩
def k0_off13 (arg13 : BitVec 32) (arg14 : BitVec 32) : Fin 1 → Nat :=
  let v146 : BitVec 32 := Scalar.subi arg14 arg13
  let c1_i32_113 : BitVec 32 := 1#32
  let v147 : BitVec 32 := Scalar.addi v146 c1_i32_113
  let c1_i32_114 : BitVec 32 := 1#32
  let v148 : BitVec 32 := Scalar.shrsi v147 c1_i32_114
  let v149 : BitVec 32 := Scalar.addi arg13 v148
  let c16_i32_115 : BitVec 32 := 16#32
  let v150 : BitVec 32 := Scalar.muli v149 c16_i32_115
  let v151 : Index := Scalar.indexCast v150
  ![v151.toNat]

def k0_chk9 (arg13 : BitVec 32) (arg14 : BitVec 32) : Prop :=
  (∀ a, (k0_off13 arg13 arg14) a + S16.size a ≤ S4112.size a)
theorem k0_off13_inb : ∀ (arg13 : BitVec 32) (arg14 : BitVec 32) (k0_hw9 : k0_chk9 arg13 arg14), ∀ a, (k0_off13 arg13 arg14) a + S16.size a ≤ S4112.size a := fun arg13 arg14 k0_hw9 => k0_hw9

def k0_off14 (v19_0 : BitVec 32) : Fin 1 → Nat :=
  let c1_i32_23 : BitVec 32 := 1#32
  let v20 : BitVec 32 := Scalar.addi v19_0 c1_i32_23
  let c16_i32 : BitVec 32 := 16#32
  let v21 : BitVec 32 := Scalar.muli v20 c16_i32
  let v22 : Index := Scalar.indexCast v21
  ![v22.toNat]

def k0_chk10 (v19_0 : BitVec 32) : Prop :=
  (∀ a, (k0_off14 v19_0) a + S16.size a ≤ S4112.size a)
theorem k0_off14_inb : ∀ (v19_0 : BitVec 32) (k0_hw10 : k0_chk10 v19_0), ∀ a, (k0_off14 v19_0) a + S16.size a ≤ S4112.size a := fun v19_0 k0_hw10 => k0_hw10

@[reducible] def k0_t6_loop : Scf.Loop 32 :=
  let c0_i32_25 : BitVec 32 := 0#32
  let c128_i32_26 : BitVec 32 := 128#32
  let v28 : BitVec 32 := Scalar.addi c0_i32_25 c128_i32_26
  let c1_i32_27 : BitVec 32 := 1#32
  ⟨c0_i32_25, v28, c1_i32_27⟩
def k0_off15 (k0_t6 : Fin k0_t6_loop.trips) : Fin 1 → Nat :=
  let c0_i32_25 : BitVec 32 := 0#32
  let c1_i32_27 : BitVec 32 := 1#32
  let arg12 : BitVec 32 := Scf.iv c0_i32_25 c1_i32_27 k0_t6
  let c8_i32_113 : BitVec 32 := 8#32
  let v146 : BitVec 32 := Scalar.muli arg12 c8_i32_113
  let c0_i32_114 : BitVec 32 := 0#32
  let v147 : BitVec 32 := Scalar.addi v146 c0_i32_114
  let c16_i32_115 : BitVec 32 := 16#32
  let v148 : BitVec 32 := Scalar.muli v147 c16_i32_115
  let v149 : Index := Scalar.indexCast v148
  ![v149.toNat]

def k0_chk11 (v158 : IVec S16 32) : Prop :=
  (∀ a x, ((![v158] : Fin 1 → IVec S16 32) a x).toNat < S16400.size a)
theorem k0_idx9_inb : ∀ (v158 : IVec S16 32) (k0_hw11 : k0_chk11 v158), ∀ a x, ((![v158] : Fin 1 → IVec S16 32) a x).toNat < S16400.size a := fun v158 k0_hw11 => k0_hw11
def k0_off16 (k0_t6 : Fin k0_t6_loop.trips) : Fin 1 → Nat :=
  let c0_i32_25 : BitVec 32 := 0#32
  let c1_i32_27 : BitVec 32 := 1#32
  let arg12 : BitVec 32 := Scf.iv c0_i32_25 c1_i32_27 k0_t6
  let c8_i32_117 : BitVec 32 := 8#32
  let v161 : BitVec 32 := Scalar.muli arg12 c8_i32_117
  let c1_i32_118 : BitVec 32 := 1#32
  let v162 : BitVec 32 := Scalar.addi v161 c1_i32_118
  let c16_i32_119 : BitVec 32 := 16#32
  let v163 : BitVec 32 := Scalar.muli v162 c16_i32_119
  let v164 : Index := Scalar.indexCast v163
  ![v164.toNat]

def k0_chk12 (v173 : IVec S16 32) : Prop :=
  (∀ a x, ((![v173] : Fin 1 → IVec S16 32) a x).toNat < S16400.size a)
theorem k0_idx10_inb : ∀ (v173 : IVec S16 32) (k0_hw12 : k0_chk12 v173), ∀ a x, ((![v173] : Fin 1 → IVec S16 32) a x).toNat < S16400.size a := fun v173 k0_hw12 => k0_hw12
def k0_off17 (k0_t6 : Fin k0_t6_loop.trips) : Fin 1 → Nat :=
  let c0_i32_25 : BitVec 32 := 0#32
  let c1_i32_27 : BitVec 32 := 1#32
  let arg12 : BitVec 32 := Scf.iv c0_i32_25 c1_i32_27 k0_t6
  let c8_i32_122 : BitVec 32 := 8#32
  let v176 : BitVec 32 := Scalar.muli arg12 c8_i32_122
  let c2_i32_123 : BitVec 32 := 2#32
  let v177 : BitVec 32 := Scalar.addi v176 c2_i32_123
  let c16_i32_124 : BitVec 32 := 16#32
  let v178 : BitVec 32 := Scalar.muli v177 c16_i32_124
  let v179 : Index := Scalar.indexCast v178
  ![v179.toNat]

def k0_chk13 (v188 : IVec S16 32) : Prop :=
  (∀ a x, ((![v188] : Fin 1 → IVec S16 32) a x).toNat < S16400.size a)
theorem k0_idx11_inb : ∀ (v188 : IVec S16 32) (k0_hw13 : k0_chk13 v188), ∀ a x, ((![v188] : Fin 1 → IVec S16 32) a x).toNat < S16400.size a := fun v188 k0_hw13 => k0_hw13
def k0_off18 (k0_t6 : Fin k0_t6_loop.trips) : Fin 1 → Nat :=
  let c0_i32_25 : BitVec 32 := 0#32
  let c1_i32_27 : BitVec 32 := 1#32
  let arg12 : BitVec 32 := Scf.iv c0_i32_25 c1_i32_27 k0_t6
  let c8_i32_127 : BitVec 32 := 8#32
  let v191 : BitVec 32 := Scalar.muli arg12 c8_i32_127
  let c3_i32_128 : BitVec 32 := 3#32
  let v192 : BitVec 32 := Scalar.addi v191 c3_i32_128
  let c16_i32_129 : BitVec 32 := 16#32
  let v193 : BitVec 32 := Scalar.muli v192 c16_i32_129
  let v194 : Index := Scalar.indexCast v193
  ![v194.toNat]

def k0_chk14 (v203 : IVec S16 32) : Prop :=
  (∀ a x, ((![v203] : Fin 1 → IVec S16 32) a x).toNat < S16400.size a)
theorem k0_idx12_inb : ∀ (v203 : IVec S16 32) (k0_hw14 : k0_chk14 v203), ∀ a x, ((![v203] : Fin 1 → IVec S16 32) a x).toNat < S16400.size a := fun v203 k0_hw14 => k0_hw14
def k0_off19 (k0_t6 : Fin k0_t6_loop.trips) : Fin 1 → Nat :=
  let c0_i32_25 : BitVec 32 := 0#32
  let c1_i32_27 : BitVec 32 := 1#32
  let arg12 : BitVec 32 := Scf.iv c0_i32_25 c1_i32_27 k0_t6
  let c8_i32_132 : BitVec 32 := 8#32
  let v206 : BitVec 32 := Scalar.muli arg12 c8_i32_132
  let c4_i32 : BitVec 32 := 4#32
  let v207 : BitVec 32 := Scalar.addi v206 c4_i32
  let c16_i32_133 : BitVec 32 := 16#32
  let v208 : BitVec 32 := Scalar.muli v207 c16_i32_133
  let v209 : Index := Scalar.indexCast v208
  ![v209.toNat]

def k0_chk15 (v218 : IVec S16 32) : Prop :=
  (∀ a x, ((![v218] : Fin 1 → IVec S16 32) a x).toNat < S16400.size a)
theorem k0_idx13_inb : ∀ (v218 : IVec S16 32) (k0_hw15 : k0_chk15 v218), ∀ a x, ((![v218] : Fin 1 → IVec S16 32) a x).toNat < S16400.size a := fun v218 k0_hw15 => k0_hw15
def k0_off20 (k0_t6 : Fin k0_t6_loop.trips) : Fin 1 → Nat :=
  let c0_i32_25 : BitVec 32 := 0#32
  let c1_i32_27 : BitVec 32 := 1#32
  let arg12 : BitVec 32 := Scf.iv c0_i32_25 c1_i32_27 k0_t6
  let c8_i32_136 : BitVec 32 := 8#32
  let v221 : BitVec 32 := Scalar.muli arg12 c8_i32_136
  let c5_i32 : BitVec 32 := 5#32
  let v222 : BitVec 32 := Scalar.addi v221 c5_i32
  let c16_i32_137 : BitVec 32 := 16#32
  let v223 : BitVec 32 := Scalar.muli v222 c16_i32_137
  let v224 : Index := Scalar.indexCast v223
  ![v224.toNat]

def k0_chk16 (v233 : IVec S16 32) : Prop :=
  (∀ a x, ((![v233] : Fin 1 → IVec S16 32) a x).toNat < S16400.size a)
theorem k0_idx14_inb : ∀ (v233 : IVec S16 32) (k0_hw16 : k0_chk16 v233), ∀ a x, ((![v233] : Fin 1 → IVec S16 32) a x).toNat < S16400.size a := fun v233 k0_hw16 => k0_hw16
def k0_off21 (k0_t6 : Fin k0_t6_loop.trips) : Fin 1 → Nat :=
  let c0_i32_25 : BitVec 32 := 0#32
  let c1_i32_27 : BitVec 32 := 1#32
  let arg12 : BitVec 32 := Scf.iv c0_i32_25 c1_i32_27 k0_t6
  let c8_i32_140 : BitVec 32 := 8#32
  let v236 : BitVec 32 := Scalar.muli arg12 c8_i32_140
  let c6_i32 : BitVec 32 := 6#32
  let v237 : BitVec 32 := Scalar.addi v236 c6_i32
  let c16_i32_141 : BitVec 32 := 16#32
  let v238 : BitVec 32 := Scalar.muli v237 c16_i32_141
  let v239 : Index := Scalar.indexCast v238
  ![v239.toNat]

def k0_chk17 (v248 : IVec S16 32) : Prop :=
  (∀ a x, ((![v248] : Fin 1 → IVec S16 32) a x).toNat < S16400.size a)
theorem k0_idx15_inb : ∀ (v248 : IVec S16 32) (k0_hw17 : k0_chk17 v248), ∀ a x, ((![v248] : Fin 1 → IVec S16 32) a x).toNat < S16400.size a := fun v248 k0_hw17 => k0_hw17
def k0_off22 (k0_t6 : Fin k0_t6_loop.trips) : Fin 1 → Nat :=
  let c0_i32_25 : BitVec 32 := 0#32
  let c1_i32_27 : BitVec 32 := 1#32
  let arg12 : BitVec 32 := Scf.iv c0_i32_25 c1_i32_27 k0_t6
  let c8_i32_144 : BitVec 32 := 8#32
  let v251 : BitVec 32 := Scalar.muli arg12 c8_i32_144
  let c7_i32_145 : BitVec 32 := 7#32
  let v252 : BitVec 32 := Scalar.addi v251 c7_i32_145
  let c16_i32_146 : BitVec 32 := 16#32
  let v253 : BitVec 32 := Scalar.muli v252 c16_i32_146
  let v254 : Index := Scalar.indexCast v253
  ![v254.toNat]

def k0_chk18 (v263 : IVec S16 32) : Prop :=
  (∀ a x, ((![v263] : Fin 1 → IVec S16 32) a x).toNat < S16400.size a)
theorem k0_idx16_inb : ∀ (v263 : IVec S16 32) (k0_hw18 : k0_chk18 v263), ∀ a x, ((![v263] : Fin 1 → IVec S16 32) a x).toNat < S16400.size a := fun v263 k0_hw18 => k0_hw18
@[reducible] def k0_t7_loop (v35 : BitVec 32) : Scf.Loop 32 :=
  let c0_i32_31 : BitVec 32 := 0#32
  let c3_i32 : BitVec 32 := 3#32
  let v36 : BitVec 32 := Scalar.addi v35 c3_i32
  let c2_i32_30 : BitVec 32 := 2#32
  let v37 : BitVec 32 := Scalar.shrsi v36 c2_i32_30
  let v38 : BitVec 32 := Scalar.subi v37 c0_i32_31
  let c1_i32_33 : BitVec 32 := 1#32
  let v40 : BitVec 32 := Scalar.divsi v38 c1_i32_33
  let v41 : BitVec 32 := Scalar.muli v40 c1_i32_33
  let v42 : BitVec 32 := Scalar.addi c0_i32_31 v41
  let c1_i32_34 : BitVec 32 := 1#32
  ⟨c0_i32_31, v42, c1_i32_34⟩

def k0_chk20 (v151 : IVec S16 32) : Prop :=
  (∀ a x, ((![v151] : Fin 1 → IVec S16 32) a x).toNat < S16400.size a)
theorem k0_idx17_inb : ∀ (v151 : IVec S16 32) (k0_hw20 : k0_chk20 v151), ∀ a x, ((![v151] : Fin 1 → IVec S16 32) a x).toNat < S16400.size a := fun v151 k0_hw20 => k0_hw20

def k0_chk21 (v162 : IVec S16 32) : Prop :=
  (∀ a x, ((![v162] : Fin 1 → IVec S16 32) a x).toNat < S4096.size a)
theorem k0_idx18_inb : ∀ (v162 : IVec S16 32) (k0_hw21 : k0_chk21 v162), ∀ a x, ((![v162] : Fin 1 → IVec S16 32) a x).toNat < S4096.size a := fun v162 k0_hw21 => k0_hw21

def k0_chk22 (v168 : IVec S16 32) : Prop :=
  (∀ a x, ((![v168] : Fin 1 → IVec S16 32) a x).toNat < S16400.size a)
theorem k0_idx19_inb : ∀ (v168 : IVec S16 32) (k0_hw22 : k0_chk22 v168), ∀ a x, ((![v168] : Fin 1 → IVec S16 32) a x).toNat < S16400.size a := fun v168 k0_hw22 => k0_hw22

def k0_chk23 (v179 : IVec S16 32) : Prop :=
  (∀ a x, ((![v179] : Fin 1 → IVec S16 32) a x).toNat < S4096.size a)
theorem k0_idx20_inb : ∀ (v179 : IVec S16 32) (k0_hw23 : k0_chk23 v179), ∀ a x, ((![v179] : Fin 1 → IVec S16 32) a x).toNat < S4096.size a := fun v179 k0_hw23 => k0_hw23

def k0_chk24 (v185 : IVec S16 32) : Prop :=
  (∀ a x, ((![v185] : Fin 1 → IVec S16 32) a x).toNat < S16400.size a)
theorem k0_idx21_inb : ∀ (v185 : IVec S16 32) (k0_hw24 : k0_chk24 v185), ∀ a x, ((![v185] : Fin 1 → IVec S16 32) a x).toNat < S16400.size a := fun v185 k0_hw24 => k0_hw24

def k0_chk25 (v196 : IVec S16 32) : Prop :=
  (∀ a x, ((![v196] : Fin 1 → IVec S16 32) a x).toNat < S4096.size a)
theorem k0_idx22_inb : ∀ (v196 : IVec S16 32) (k0_hw25 : k0_chk25 v196), ∀ a x, ((![v196] : Fin 1 → IVec S16 32) a x).toNat < S4096.size a := fun v196 k0_hw25 => k0_hw25

def k0_chk26 (v202 : IVec S16 32) : Prop :=
  (∀ a x, ((![v202] : Fin 1 → IVec S16 32) a x).toNat < S16400.size a)
theorem k0_idx23_inb : ∀ (v202 : IVec S16 32) (k0_hw26 : k0_chk26 v202), ∀ a x, ((![v202] : Fin 1 → IVec S16 32) a x).toNat < S16400.size a := fun v202 k0_hw26 => k0_hw26

def k0_chk27 (v213 : IVec S16 32) : Prop :=
  (∀ a x, ((![v213] : Fin 1 → IVec S16 32) a x).toNat < S4096.size a)
theorem k0_idx24_inb : ∀ (v213 : IVec S16 32) (k0_hw27 : k0_chk27 v213), ∀ a x, ((![v213] : Fin 1 → IVec S16 32) a x).toNat < S4096.size a := fun v213 k0_hw27 => k0_hw27
@[reducible] def k0_t8_loop (v35 : BitVec 32) : Scf.Loop 32 :=
  let c0_i32_31 : BitVec 32 := 0#32
  let c3_i32 : BitVec 32 := 3#32
  let v36 : BitVec 32 := Scalar.addi v35 c3_i32
  let c2_i32_30 : BitVec 32 := 2#32
  let v37 : BitVec 32 := Scalar.shrsi v36 c2_i32_30
  let v38 : BitVec 32 := Scalar.subi v37 c0_i32_31
  let c1_i32_33 : BitVec 32 := 1#32
  let v40 : BitVec 32 := Scalar.divsi v38 c1_i32_33
  let v41 : BitVec 32 := Scalar.muli v40 c1_i32_33
  let v42 : BitVec 32 := Scalar.addi c0_i32_31 v41
  let v39 : BitVec 32 := Scalar.addi c0_i32_31 v38
  let c1_i32_35 : BitVec 32 := 1#32
  ⟨v42, v39, c1_i32_35⟩

def k0_chk28 (v151 : IVec S16 32) : Prop :=
  (∀ a x, ((![v151] : Fin 1 → IVec S16 32) a x).toNat < S16400.size a)
theorem k0_idx25_inb : ∀ (v151 : IVec S16 32) (k0_hw28 : k0_chk28 v151), ∀ a x, ((![v151] : Fin 1 → IVec S16 32) a x).toNat < S16400.size a := fun v151 k0_hw28 => k0_hw28

def k0_chk29 (v162 : IVec S16 32) : Prop :=
  (∀ a x, ((![v162] : Fin 1 → IVec S16 32) a x).toNat < S4096.size a)
theorem k0_idx26_inb : ∀ (v162 : IVec S16 32) (k0_hw29 : k0_chk29 v162), ∀ a x, ((![v162] : Fin 1 → IVec S16 32) a x).toNat < S4096.size a := fun v162 k0_hw29 => k0_hw29

def k0_chk30 (v168 : IVec S16 32) : Prop :=
  (∀ a x, ((![v168] : Fin 1 → IVec S16 32) a x).toNat < S16400.size a)
theorem k0_idx27_inb : ∀ (v168 : IVec S16 32) (k0_hw30 : k0_chk30 v168), ∀ a x, ((![v168] : Fin 1 → IVec S16 32) a x).toNat < S16400.size a := fun v168 k0_hw30 => k0_hw30

def k0_chk31 (v179 : IVec S16 32) : Prop :=
  (∀ a x, ((![v179] : Fin 1 → IVec S16 32) a x).toNat < S4096.size a)
theorem k0_idx28_inb : ∀ (v179 : IVec S16 32) (k0_hw31 : k0_chk31 v179), ∀ a x, ((![v179] : Fin 1 → IVec S16 32) a x).toNat < S4096.size a := fun v179 k0_hw31 => k0_hw31

def k0_chk32 (v185 : IVec S16 32) : Prop :=
  (∀ a x, ((![v185] : Fin 1 → IVec S16 32) a x).toNat < S16400.size a)
theorem k0_idx29_inb : ∀ (v185 : IVec S16 32) (k0_hw32 : k0_chk32 v185), ∀ a x, ((![v185] : Fin 1 → IVec S16 32) a x).toNat < S16400.size a := fun v185 k0_hw32 => k0_hw32

def k0_chk33 (v196 : IVec S16 32) : Prop :=
  (∀ a x, ((![v196] : Fin 1 → IVec S16 32) a x).toNat < S4096.size a)
theorem k0_idx30_inb : ∀ (v196 : IVec S16 32) (k0_hw33 : k0_chk33 v196), ∀ a x, ((![v196] : Fin 1 → IVec S16 32) a x).toNat < S4096.size a := fun v196 k0_hw33 => k0_hw33

def k0_chk34 (v202 : IVec S16 32) : Prop :=
  (∀ a x, ((![v202] : Fin 1 → IVec S16 32) a x).toNat < S16400.size a)
theorem k0_idx31_inb : ∀ (v202 : IVec S16 32) (k0_hw34 : k0_chk34 v202), ∀ a x, ((![v202] : Fin 1 → IVec S16 32) a x).toNat < S16400.size a := fun v202 k0_hw34 => k0_hw34

def k0_chk35 (v213 : IVec S16 32) : Prop :=
  (∀ a x, ((![v213] : Fin 1 → IVec S16 32) a x).toNat < S4096.size a)
theorem k0_idx32_inb : ∀ (v213 : IVec S16 32) (k0_hw35 : k0_chk35 v213), ∀ a x, ((![v213] : Fin 1 → IVec S16 32) a x).toNat < S4096.size a := fun v213 k0_hw35 => k0_hw35
@[reducible] def k0_t9_loop : Scf.Loop 32 :=
  let c0_i32_38 : BitVec 32 := 0#32
  let c32_i32_39 : BitVec 32 := 32#32
  let v47 : BitVec 32 := Scalar.addi c0_i32_38 c32_i32_39
  let c1_i32_40 : BitVec 32 := 1#32
  ⟨c0_i32_38, v47, c1_i32_40⟩
def k0_off23 (k0_t9 : Fin k0_t9_loop.trips) (c0_i32_114 : BitVec 32) : Fin 1 → Nat :=
  let c255_i32_115 : BitVec 32 := 255#32
  let c0_i32_38 : BitVec 32 := 0#32
  let c1_i32_40 : BitVec 32 := 1#32
  let arg12 : BitVec 32 := Scf.iv c0_i32_38 c1_i32_40 k0_t9
  let c8_i32_113 : BitVec 32 := 8#32
  let v146 : BitVec 32 := Scalar.muli arg12 c8_i32_113
  let v147 : BitVec 32 := Scalar.addi v146 c0_i32_114
  let v148 : BitVec 32 := Scalar.subi c255_i32_115 v147
  let c16_i32_116 : BitVec 32 := 16#32
  let v149 : BitVec 32 := Scalar.muli v148 c16_i32_116
  let v150 : Index := Scalar.indexCast v149
  ![v150.toNat]
def k0_off24 (k0_t9 : Fin k0_t9_loop.trips) (c0_i32_114 : BitVec 32) : Fin 1 → Nat :=
  let c255_i32_115 : BitVec 32 := 255#32
  let c0_i32_38 : BitVec 32 := 0#32
  let c1_i32_40 : BitVec 32 := 1#32
  let arg12 : BitVec 32 := Scf.iv c0_i32_38 c1_i32_40 k0_t9
  let c8_i32_113 : BitVec 32 := 8#32
  let v146 : BitVec 32 := Scalar.muli arg12 c8_i32_113
  let v147 : BitVec 32 := Scalar.addi v146 c0_i32_114
  let v148 : BitVec 32 := Scalar.subi c255_i32_115 v147
  let c16_i32_117 : BitVec 32 := 16#32
  let v153 : BitVec 32 := Scalar.muli v148 c16_i32_117
  let v154 : Index := Scalar.indexCast v153
  ![v154.toNat]
@[reducible] def k0_t10_loop : Scf.Loop 32 :=
  let c0_i32_44 : BitVec 32 := 0#32
  let c8_i32_45 : BitVec 32 := 8#32
  let v49 : BitVec 32 := Scalar.addi c0_i32_44 c8_i32_45
  let c1_i32_46 : BitVec 32 := 1#32
  ⟨c0_i32_44, v49, c1_i32_46⟩
def k0_off25 (arg13 : BitVec 32) (arg14 : BitVec 32) : Fin 1 → Nat :=
  let v146 : BitVec 32 := Scalar.subi arg14 arg13
  let c1_i32_113 : BitVec 32 := 1#32
  let v147 : BitVec 32 := Scalar.addi v146 c1_i32_113
  let c1_i32_114 : BitVec 32 := 1#32
  let v148 : BitVec 32 := Scalar.shrsi v147 c1_i32_114
  let v149 : BitVec 32 := Scalar.addi arg13 v148
  let c16_i32_115 : BitVec 32 := 16#32
  let v150 : BitVec 32 := Scalar.muli v149 c16_i32_115
  let v151 : Index := Scalar.indexCast v150
  ![v151.toNat]

def k0_chk36 (arg13 : BitVec 32) (arg14 : BitVec 32) : Prop :=
  (∀ a, (k0_off25 arg13 arg14) a + S16.size a ≤ S4112.size a)
theorem k0_off25_inb : ∀ (arg13 : BitVec 32) (arg14 : BitVec 32) (k0_hw36 : k0_chk36 arg13 arg14), ∀ a, (k0_off25 arg13 arg14) a + S16.size a ≤ S4112.size a := fun arg13 arg14 k0_hw36 => k0_hw36

def k0_off26 (v50_0 : BitVec 32) : Fin 1 → Nat :=
  let c1_i32_48 : BitVec 32 := 1#32
  let v51 : BitVec 32 := Scalar.addi v50_0 c1_i32_48
  let c16_i32_49 : BitVec 32 := 16#32
  let v52 : BitVec 32 := Scalar.muli v51 c16_i32_49
  let v53 : Index := Scalar.indexCast v52
  ![v53.toNat]

def k0_chk37 (v50_0 : BitVec 32) : Prop :=
  (∀ a, (k0_off26 v50_0) a + S16.size a ≤ S4112.size a)
theorem k0_off26_inb : ∀ (v50_0 : BitVec 32) (k0_hw37 : k0_chk37 v50_0), ∀ a, (k0_off26 v50_0) a + S16.size a ≤ S4112.size a := fun v50_0 k0_hw37 => k0_hw37

@[reducible] def k0_t11_loop (v35 : BitVec 32) : Scf.Loop 32 :=
  let c0_i32_53 : BitVec 32 := 0#32
  let c3_i32_51 : BitVec 32 := 3#32
  let v59 : BitVec 32 := Scalar.addi v35 c3_i32_51
  let c2_i32_52 : BitVec 32 := 2#32
  let v60 : BitVec 32 := Scalar.shrsi v59 c2_i32_52
  let v61 : BitVec 32 := Scalar.subi v60 c0_i32_53
  let c1_i32_54 : BitVec 32 := 1#32
  let v63 : BitVec 32 := Scalar.divsi v61 c1_i32_54
  let v64 : BitVec 32 := Scalar.muli v63 c1_i32_54
  let v65 : BitVec 32 := Scalar.addi c0_i32_53 v64
  let c1_i32_55 : BitVec 32 := 1#32
  ⟨c0_i32_53, v65, c1_i32_55⟩

def k0_chk38 (v151 : IVec S16 32) : Prop :=
  (∀ a x, ((![v151] : Fin 1 → IVec S16 32) a x).toNat < S16400.size a)
theorem k0_idx33_inb : ∀ (v151 : IVec S16 32) (k0_hw38 : k0_chk38 v151), ∀ a x, ((![v151] : Fin 1 → IVec S16 32) a x).toNat < S16400.size a := fun v151 k0_hw38 => k0_hw38

def k0_chk39 (v165 : IVec S16 32) : Prop :=
  (∀ a x, ((![v165] : Fin 1 → IVec S16 32) a x).toNat < S16400.size a)
theorem k0_idx34_inb : ∀ (v165 : IVec S16 32) (k0_hw39 : k0_chk39 v165), ∀ a x, ((![v165] : Fin 1 → IVec S16 32) a x).toNat < S16400.size a := fun v165 k0_hw39 => k0_hw39

def k0_chk40 (v173 : IVec S16 32) : Prop :=
  (∀ a x, ((![v173] : Fin 1 → IVec S16 32) a x).toNat < S16400.size a)
theorem k0_idx35_inb : ∀ (v173 : IVec S16 32) (k0_hw40 : k0_chk40 v173), ∀ a x, ((![v173] : Fin 1 → IVec S16 32) a x).toNat < S16400.size a := fun v173 k0_hw40 => k0_hw40

def k0_chk41 (v187 : IVec S16 32) : Prop :=
  (∀ a x, ((![v187] : Fin 1 → IVec S16 32) a x).toNat < S16400.size a)
theorem k0_idx36_inb : ∀ (v187 : IVec S16 32) (k0_hw41 : k0_chk41 v187), ∀ a x, ((![v187] : Fin 1 → IVec S16 32) a x).toNat < S16400.size a := fun v187 k0_hw41 => k0_hw41

def k0_chk42 (v195 : IVec S16 32) : Prop :=
  (∀ a x, ((![v195] : Fin 1 → IVec S16 32) a x).toNat < S16400.size a)
theorem k0_idx37_inb : ∀ (v195 : IVec S16 32) (k0_hw42 : k0_chk42 v195), ∀ a x, ((![v195] : Fin 1 → IVec S16 32) a x).toNat < S16400.size a := fun v195 k0_hw42 => k0_hw42

def k0_chk43 (v209 : IVec S16 32) : Prop :=
  (∀ a x, ((![v209] : Fin 1 → IVec S16 32) a x).toNat < S16400.size a)
theorem k0_idx38_inb : ∀ (v209 : IVec S16 32) (k0_hw43 : k0_chk43 v209), ∀ a x, ((![v209] : Fin 1 → IVec S16 32) a x).toNat < S16400.size a := fun v209 k0_hw43 => k0_hw43

def k0_chk44 (v217 : IVec S16 32) : Prop :=
  (∀ a x, ((![v217] : Fin 1 → IVec S16 32) a x).toNat < S16400.size a)
theorem k0_idx39_inb : ∀ (v217 : IVec S16 32) (k0_hw44 : k0_chk44 v217), ∀ a x, ((![v217] : Fin 1 → IVec S16 32) a x).toNat < S16400.size a := fun v217 k0_hw44 => k0_hw44

def k0_chk45 (v231 : IVec S16 32) : Prop :=
  (∀ a x, ((![v231] : Fin 1 → IVec S16 32) a x).toNat < S16400.size a)
theorem k0_idx40_inb : ∀ (v231 : IVec S16 32) (k0_hw45 : k0_chk45 v231), ∀ a x, ((![v231] : Fin 1 → IVec S16 32) a x).toNat < S16400.size a := fun v231 k0_hw45 => k0_hw45
@[reducible] def k0_t12_loop (v35 : BitVec 32) : Scf.Loop 32 :=
  let c0_i32_53 : BitVec 32 := 0#32
  let c3_i32_51 : BitVec 32 := 3#32
  let v59 : BitVec 32 := Scalar.addi v35 c3_i32_51
  let c2_i32_52 : BitVec 32 := 2#32
  let v60 : BitVec 32 := Scalar.shrsi v59 c2_i32_52
  let v61 : BitVec 32 := Scalar.subi v60 c0_i32_53
  let c1_i32_54 : BitVec 32 := 1#32
  let v63 : BitVec 32 := Scalar.divsi v61 c1_i32_54
  let v64 : BitVec 32 := Scalar.muli v63 c1_i32_54
  let v65 : BitVec 32 := Scalar.addi c0_i32_53 v64
  let v62 : BitVec 32 := Scalar.addi c0_i32_53 v61
  let c1_i32_56 : BitVec 32 := 1#32
  ⟨v65, v62, c1_i32_56⟩

def k0_chk19 (v35 : BitVec 32) : Prop :=
  ((k0_t7_loop v35).OK) ∧
  ((k0_t8_loop v35).OK) ∧
  ((k0_t11_loop v35).OK) ∧
  ((k0_t12_loop v35).OK)
theorem k0_t7_ok : ∀ (v35 : BitVec 32) (k0_hw19 : k0_chk19 v35), (k0_t7_loop v35).OK := fun v35 k0_hw19 => k0_hw19.1
theorem k0_t8_ok : ∀ (v35 : BitVec 32) (k0_hw19 : k0_chk19 v35), (k0_t8_loop v35).OK := fun v35 k0_hw19 => k0_hw19.2.1
theorem k0_t11_ok : ∀ (v35 : BitVec 32) (k0_hw19 : k0_chk19 v35), (k0_t11_loop v35).OK := fun v35 k0_hw19 => k0_hw19.2.2.1
theorem k0_t12_ok : ∀ (v35 : BitVec 32) (k0_hw19 : k0_chk19 v35), (k0_t12_loop v35).OK := fun v35 k0_hw19 => k0_hw19.2.2.2

def k0_chk46 (v151 : IVec S16 32) : Prop :=
  (∀ a x, ((![v151] : Fin 1 → IVec S16 32) a x).toNat < S16400.size a)
theorem k0_idx41_inb : ∀ (v151 : IVec S16 32) (k0_hw46 : k0_chk46 v151), ∀ a x, ((![v151] : Fin 1 → IVec S16 32) a x).toNat < S16400.size a := fun v151 k0_hw46 => k0_hw46

def k0_chk47 (v165 : IVec S16 32) : Prop :=
  (∀ a x, ((![v165] : Fin 1 → IVec S16 32) a x).toNat < S16400.size a)
theorem k0_idx42_inb : ∀ (v165 : IVec S16 32) (k0_hw47 : k0_chk47 v165), ∀ a x, ((![v165] : Fin 1 → IVec S16 32) a x).toNat < S16400.size a := fun v165 k0_hw47 => k0_hw47

def k0_chk48 (v173 : IVec S16 32) : Prop :=
  (∀ a x, ((![v173] : Fin 1 → IVec S16 32) a x).toNat < S16400.size a)
theorem k0_idx43_inb : ∀ (v173 : IVec S16 32) (k0_hw48 : k0_chk48 v173), ∀ a x, ((![v173] : Fin 1 → IVec S16 32) a x).toNat < S16400.size a := fun v173 k0_hw48 => k0_hw48

def k0_chk49 (v187 : IVec S16 32) : Prop :=
  (∀ a x, ((![v187] : Fin 1 → IVec S16 32) a x).toNat < S16400.size a)
theorem k0_idx44_inb : ∀ (v187 : IVec S16 32) (k0_hw49 : k0_chk49 v187), ∀ a x, ((![v187] : Fin 1 → IVec S16 32) a x).toNat < S16400.size a := fun v187 k0_hw49 => k0_hw49

def k0_chk50 (v195 : IVec S16 32) : Prop :=
  (∀ a x, ((![v195] : Fin 1 → IVec S16 32) a x).toNat < S16400.size a)
theorem k0_idx45_inb : ∀ (v195 : IVec S16 32) (k0_hw50 : k0_chk50 v195), ∀ a x, ((![v195] : Fin 1 → IVec S16 32) a x).toNat < S16400.size a := fun v195 k0_hw50 => k0_hw50

def k0_chk51 (v209 : IVec S16 32) : Prop :=
  (∀ a x, ((![v209] : Fin 1 → IVec S16 32) a x).toNat < S16400.size a)
theorem k0_idx46_inb : ∀ (v209 : IVec S16 32) (k0_hw51 : k0_chk51 v209), ∀ a x, ((![v209] : Fin 1 → IVec S16 32) a x).toNat < S16400.size a := fun v209 k0_hw51 => k0_hw51

def k0_chk52 (v217 : IVec S16 32) : Prop :=
  (∀ a x, ((![v217] : Fin 1 → IVec S16 32) a x).toNat < S16400.size a)
theorem k0_idx47_inb : ∀ (v217 : IVec S16 32) (k0_hw52 : k0_chk52 v217), ∀ a x, ((![v217] : Fin 1 → IVec S16 32) a x).toNat < S16400.size a := fun v217 k0_hw52 => k0_hw52

def k0_chk53 (v231 : IVec S16 32) : Prop :=
  (∀ a x, ((![v231] : Fin 1 → IVec S16 32) a x).toNat < S16400.size a)
theorem k0_idx48_inb : ∀ (v231 : IVec S16 32) (k0_hw53 : k0_chk53 v231), ∀ a x, ((![v231] : Fin 1 → IVec S16 32) a x).toNat < S16400.size a := fun v231 k0_hw53 => k0_hw53
@[reducible] def k0_t13_loop (v73 : BitVec 32) : Scf.Loop 32 :=
  let c0_i32_61 : BitVec 32 := 0#32
  let c3_i32_59 : BitVec 32 := 3#32
  let v74 : BitVec 32 := Scalar.addi v73 c3_i32_59
  let c2_i32_60 : BitVec 32 := 2#32
  let v75 : BitVec 32 := Scalar.shrsi v74 c2_i32_60
  let v76 : BitVec 32 := Scalar.subi v75 c0_i32_61
  let c1_i32_63 : BitVec 32 := 1#32
  let v78 : BitVec 32 := Scalar.divsi v76 c1_i32_63
  let v79 : BitVec 32 := Scalar.muli v78 c1_i32_63
  let v80 : BitVec 32 := Scalar.addi c0_i32_61 v79
  let c1_i32_64 : BitVec 32 := 1#32
  ⟨c0_i32_61, v80, c1_i32_64⟩

def k0_chk55 (v151 : IVec S16 32) : Prop :=
  (∀ a x, ((![v151] : Fin 1 → IVec S16 32) a x).toNat < S16400.size a)
theorem k0_idx49_inb : ∀ (v151 : IVec S16 32) (k0_hw55 : k0_chk55 v151), ∀ a x, ((![v151] : Fin 1 → IVec S16 32) a x).toNat < S16400.size a := fun v151 k0_hw55 => k0_hw55

def k0_chk56 (v162 : IVec S16 32) : Prop :=
  (∀ a x, ((![v162] : Fin 1 → IVec S16 32) a x).toNat < S4096.size a)
theorem k0_idx50_inb : ∀ (v162 : IVec S16 32) (k0_hw56 : k0_chk56 v162), ∀ a x, ((![v162] : Fin 1 → IVec S16 32) a x).toNat < S4096.size a := fun v162 k0_hw56 => k0_hw56

def k0_chk57 (v168 : IVec S16 32) : Prop :=
  (∀ a x, ((![v168] : Fin 1 → IVec S16 32) a x).toNat < S16400.size a)
theorem k0_idx51_inb : ∀ (v168 : IVec S16 32) (k0_hw57 : k0_chk57 v168), ∀ a x, ((![v168] : Fin 1 → IVec S16 32) a x).toNat < S16400.size a := fun v168 k0_hw57 => k0_hw57

def k0_chk58 (v179 : IVec S16 32) : Prop :=
  (∀ a x, ((![v179] : Fin 1 → IVec S16 32) a x).toNat < S4096.size a)
theorem k0_idx52_inb : ∀ (v179 : IVec S16 32) (k0_hw58 : k0_chk58 v179), ∀ a x, ((![v179] : Fin 1 → IVec S16 32) a x).toNat < S4096.size a := fun v179 k0_hw58 => k0_hw58

def k0_chk59 (v185 : IVec S16 32) : Prop :=
  (∀ a x, ((![v185] : Fin 1 → IVec S16 32) a x).toNat < S16400.size a)
theorem k0_idx53_inb : ∀ (v185 : IVec S16 32) (k0_hw59 : k0_chk59 v185), ∀ a x, ((![v185] : Fin 1 → IVec S16 32) a x).toNat < S16400.size a := fun v185 k0_hw59 => k0_hw59

def k0_chk60 (v196 : IVec S16 32) : Prop :=
  (∀ a x, ((![v196] : Fin 1 → IVec S16 32) a x).toNat < S4096.size a)
theorem k0_idx54_inb : ∀ (v196 : IVec S16 32) (k0_hw60 : k0_chk60 v196), ∀ a x, ((![v196] : Fin 1 → IVec S16 32) a x).toNat < S4096.size a := fun v196 k0_hw60 => k0_hw60

def k0_chk61 (v202 : IVec S16 32) : Prop :=
  (∀ a x, ((![v202] : Fin 1 → IVec S16 32) a x).toNat < S16400.size a)
theorem k0_idx55_inb : ∀ (v202 : IVec S16 32) (k0_hw61 : k0_chk61 v202), ∀ a x, ((![v202] : Fin 1 → IVec S16 32) a x).toNat < S16400.size a := fun v202 k0_hw61 => k0_hw61

def k0_chk62 (v213 : IVec S16 32) : Prop :=
  (∀ a x, ((![v213] : Fin 1 → IVec S16 32) a x).toNat < S4096.size a)
theorem k0_idx56_inb : ∀ (v213 : IVec S16 32) (k0_hw62 : k0_chk62 v213), ∀ a x, ((![v213] : Fin 1 → IVec S16 32) a x).toNat < S4096.size a := fun v213 k0_hw62 => k0_hw62
@[reducible] def k0_t14_loop (v73 : BitVec 32) : Scf.Loop 32 :=
  let c0_i32_61 : BitVec 32 := 0#32
  let c3_i32_59 : BitVec 32 := 3#32
  let v74 : BitVec 32 := Scalar.addi v73 c3_i32_59
  let c2_i32_60 : BitVec 32 := 2#32
  let v75 : BitVec 32 := Scalar.shrsi v74 c2_i32_60
  let v76 : BitVec 32 := Scalar.subi v75 c0_i32_61
  let c1_i32_63 : BitVec 32 := 1#32
  let v78 : BitVec 32 := Scalar.divsi v76 c1_i32_63
  let v79 : BitVec 32 := Scalar.muli v78 c1_i32_63
  let v80 : BitVec 32 := Scalar.addi c0_i32_61 v79
  let v77 : BitVec 32 := Scalar.addi c0_i32_61 v76
  let c1_i32_65 : BitVec 32 := 1#32
  ⟨v80, v77, c1_i32_65⟩

def k0_chk63 (v151 : IVec S16 32) : Prop :=
  (∀ a x, ((![v151] : Fin 1 → IVec S16 32) a x).toNat < S16400.size a)
theorem k0_idx57_inb : ∀ (v151 : IVec S16 32) (k0_hw63 : k0_chk63 v151), ∀ a x, ((![v151] : Fin 1 → IVec S16 32) a x).toNat < S16400.size a := fun v151 k0_hw63 => k0_hw63

def k0_chk64 (v162 : IVec S16 32) : Prop :=
  (∀ a x, ((![v162] : Fin 1 → IVec S16 32) a x).toNat < S4096.size a)
theorem k0_idx58_inb : ∀ (v162 : IVec S16 32) (k0_hw64 : k0_chk64 v162), ∀ a x, ((![v162] : Fin 1 → IVec S16 32) a x).toNat < S4096.size a := fun v162 k0_hw64 => k0_hw64

def k0_chk65 (v168 : IVec S16 32) : Prop :=
  (∀ a x, ((![v168] : Fin 1 → IVec S16 32) a x).toNat < S16400.size a)
theorem k0_idx59_inb : ∀ (v168 : IVec S16 32) (k0_hw65 : k0_chk65 v168), ∀ a x, ((![v168] : Fin 1 → IVec S16 32) a x).toNat < S16400.size a := fun v168 k0_hw65 => k0_hw65

def k0_chk66 (v179 : IVec S16 32) : Prop :=
  (∀ a x, ((![v179] : Fin 1 → IVec S16 32) a x).toNat < S4096.size a)
theorem k0_idx60_inb : ∀ (v179 : IVec S16 32) (k0_hw66 : k0_chk66 v179), ∀ a x, ((![v179] : Fin 1 → IVec S16 32) a x).toNat < S4096.size a := fun v179 k0_hw66 => k0_hw66

def k0_chk67 (v185 : IVec S16 32) : Prop :=
  (∀ a x, ((![v185] : Fin 1 → IVec S16 32) a x).toNat < S16400.size a)
theorem k0_idx61_inb : ∀ (v185 : IVec S16 32) (k0_hw67 : k0_chk67 v185), ∀ a x, ((![v185] : Fin 1 → IVec S16 32) a x).toNat < S16400.size a := fun v185 k0_hw67 => k0_hw67

def k0_chk68 (v196 : IVec S16 32) : Prop :=
  (∀ a x, ((![v196] : Fin 1 → IVec S16 32) a x).toNat < S4096.size a)
theorem k0_idx62_inb : ∀ (v196 : IVec S16 32) (k0_hw68 : k0_chk68 v196), ∀ a x, ((![v196] : Fin 1 → IVec S16 32) a x).toNat < S4096.size a := fun v196 k0_hw68 => k0_hw68

def k0_chk69 (v202 : IVec S16 32) : Prop :=
  (∀ a x, ((![v202] : Fin 1 → IVec S16 32) a x).toNat < S16400.size a)
theorem k0_idx63_inb : ∀ (v202 : IVec S16 32) (k0_hw69 : k0_chk69 v202), ∀ a x, ((![v202] : Fin 1 → IVec S16 32) a x).toNat < S16400.size a := fun v202 k0_hw69 => k0_hw69

def k0_chk70 (v213 : IVec S16 32) : Prop :=
  (∀ a x, ((![v213] : Fin 1 → IVec S16 32) a x).toNat < S4096.size a)
theorem k0_idx64_inb : ∀ (v213 : IVec S16 32) (k0_hw70 : k0_chk70 v213), ∀ a x, ((![v213] : Fin 1 → IVec S16 32) a x).toNat < S4096.size a := fun v213 k0_hw70 => k0_hw70
@[reducible] def k0_t15_loop : Scf.Loop 32 :=
  let c0_i32_68 : BitVec 32 := 0#32
  let c32_i32_69 : BitVec 32 := 32#32
  let v85 : BitVec 32 := Scalar.addi c0_i32_68 c32_i32_69
  let c1_i32_70 : BitVec 32 := 1#32
  ⟨c0_i32_68, v85, c1_i32_70⟩
def k0_off27 (k0_t15 : Fin k0_t15_loop.trips) (c0_i32_114 : BitVec 32) : Fin 1 → Nat :=
  let c255_i32_115 : BitVec 32 := 255#32
  let c0_i32_68 : BitVec 32 := 0#32
  let c1_i32_70 : BitVec 32 := 1#32
  let arg12 : BitVec 32 := Scf.iv c0_i32_68 c1_i32_70 k0_t15
  let c8_i32_113 : BitVec 32 := 8#32
  let v146 : BitVec 32 := Scalar.muli arg12 c8_i32_113
  let v147 : BitVec 32 := Scalar.addi v146 c0_i32_114
  let v148 : BitVec 32 := Scalar.subi c255_i32_115 v147
  let c16_i32_116 : BitVec 32 := 16#32
  let v149 : BitVec 32 := Scalar.muli v148 c16_i32_116
  let v150 : Index := Scalar.indexCast v149
  ![v150.toNat]
def k0_off28 (k0_t15 : Fin k0_t15_loop.trips) (c0_i32_114 : BitVec 32) : Fin 1 → Nat :=
  let c255_i32_115 : BitVec 32 := 255#32
  let c0_i32_68 : BitVec 32 := 0#32
  let c1_i32_70 : BitVec 32 := 1#32
  let arg12 : BitVec 32 := Scf.iv c0_i32_68 c1_i32_70 k0_t15
  let c8_i32_113 : BitVec 32 := 8#32
  let v146 : BitVec 32 := Scalar.muli arg12 c8_i32_113
  let v147 : BitVec 32 := Scalar.addi v146 c0_i32_114
  let v148 : BitVec 32 := Scalar.subi c255_i32_115 v147
  let c16_i32_117 : BitVec 32 := 16#32
  let v153 : BitVec 32 := Scalar.muli v148 c16_i32_117
  let v154 : Index := Scalar.indexCast v153
  ![v154.toNat]
@[reducible] def k0_t16_loop : Scf.Loop 32 :=
  let c0_i32_74 : BitVec 32 := 0#32
  let c8_i32_75 : BitVec 32 := 8#32
  let v87 : BitVec 32 := Scalar.addi c0_i32_74 c8_i32_75
  let c1_i32_76 : BitVec 32 := 1#32
  ⟨c0_i32_74, v87, c1_i32_76⟩
def k0_off29 (arg13 : BitVec 32) (arg14 : BitVec 32) : Fin 1 → Nat :=
  let v146 : BitVec 32 := Scalar.subi arg14 arg13
  let c1_i32_113 : BitVec 32 := 1#32
  let v147 : BitVec 32 := Scalar.addi v146 c1_i32_113
  let c1_i32_114 : BitVec 32 := 1#32
  let v148 : BitVec 32 := Scalar.shrsi v147 c1_i32_114
  let v149 : BitVec 32 := Scalar.addi arg13 v148
  let c16_i32_115 : BitVec 32 := 16#32
  let v150 : BitVec 32 := Scalar.muli v149 c16_i32_115
  let v151 : Index := Scalar.indexCast v150
  ![v151.toNat]

def k0_chk71 (arg13 : BitVec 32) (arg14 : BitVec 32) : Prop :=
  (∀ a, (k0_off29 arg13 arg14) a + S16.size a ≤ S4112.size a)
theorem k0_off29_inb : ∀ (arg13 : BitVec 32) (arg14 : BitVec 32) (k0_hw71 : k0_chk71 arg13 arg14), ∀ a, (k0_off29 arg13 arg14) a + S16.size a ≤ S4112.size a := fun arg13 arg14 k0_hw71 => k0_hw71

def k0_off30 (v88_0 : BitVec 32) : Fin 1 → Nat :=
  let c1_i32_78 : BitVec 32 := 1#32
  let v89 : BitVec 32 := Scalar.addi v88_0 c1_i32_78
  let c16_i32_79 : BitVec 32 := 16#32
  let v90 : BitVec 32 := Scalar.muli v89 c16_i32_79
  let v91 : Index := Scalar.indexCast v90
  ![v91.toNat]

def k0_chk72 (v88_0 : BitVec 32) : Prop :=
  (∀ a, (k0_off30 v88_0) a + S16.size a ≤ S4112.size a)
theorem k0_off30_inb : ∀ (v88_0 : BitVec 32) (k0_hw72 : k0_chk72 v88_0), ∀ a, (k0_off30 v88_0) a + S16.size a ≤ S4112.size a := fun v88_0 k0_hw72 => k0_hw72

@[reducible] def k0_t17_loop (v73 : BitVec 32) : Scf.Loop 32 :=
  let c0_i32_83 : BitVec 32 := 0#32
  let c3_i32_81 : BitVec 32 := 3#32
  let v97 : BitVec 32 := Scalar.addi v73 c3_i32_81
  let c2_i32_82 : BitVec 32 := 2#32
  let v98 : BitVec 32 := Scalar.shrsi v97 c2_i32_82
  let v99 : BitVec 32 := Scalar.subi v98 c0_i32_83
  let c1_i32_84 : BitVec 32 := 1#32
  let v101 : BitVec 32 := Scalar.divsi v99 c1_i32_84
  let v102 : BitVec 32 := Scalar.muli v101 c1_i32_84
  let v103 : BitVec 32 := Scalar.addi c0_i32_83 v102
  let c1_i32_85 : BitVec 32 := 1#32
  ⟨c0_i32_83, v103, c1_i32_85⟩

def k0_chk73 (v151 : IVec S16 32) : Prop :=
  (∀ a x, ((![v151] : Fin 1 → IVec S16 32) a x).toNat < S16400.size a)
theorem k0_idx65_inb : ∀ (v151 : IVec S16 32) (k0_hw73 : k0_chk73 v151), ∀ a x, ((![v151] : Fin 1 → IVec S16 32) a x).toNat < S16400.size a := fun v151 k0_hw73 => k0_hw73

def k0_chk74 (v165 : IVec S16 32) : Prop :=
  (∀ a x, ((![v165] : Fin 1 → IVec S16 32) a x).toNat < S16400.size a)
theorem k0_idx66_inb : ∀ (v165 : IVec S16 32) (k0_hw74 : k0_chk74 v165), ∀ a x, ((![v165] : Fin 1 → IVec S16 32) a x).toNat < S16400.size a := fun v165 k0_hw74 => k0_hw74

def k0_chk75 (v173 : IVec S16 32) : Prop :=
  (∀ a x, ((![v173] : Fin 1 → IVec S16 32) a x).toNat < S16400.size a)
theorem k0_idx67_inb : ∀ (v173 : IVec S16 32) (k0_hw75 : k0_chk75 v173), ∀ a x, ((![v173] : Fin 1 → IVec S16 32) a x).toNat < S16400.size a := fun v173 k0_hw75 => k0_hw75

def k0_chk76 (v187 : IVec S16 32) : Prop :=
  (∀ a x, ((![v187] : Fin 1 → IVec S16 32) a x).toNat < S16400.size a)
theorem k0_idx68_inb : ∀ (v187 : IVec S16 32) (k0_hw76 : k0_chk76 v187), ∀ a x, ((![v187] : Fin 1 → IVec S16 32) a x).toNat < S16400.size a := fun v187 k0_hw76 => k0_hw76

def k0_chk77 (v195 : IVec S16 32) : Prop :=
  (∀ a x, ((![v195] : Fin 1 → IVec S16 32) a x).toNat < S16400.size a)
theorem k0_idx69_inb : ∀ (v195 : IVec S16 32) (k0_hw77 : k0_chk77 v195), ∀ a x, ((![v195] : Fin 1 → IVec S16 32) a x).toNat < S16400.size a := fun v195 k0_hw77 => k0_hw77

def k0_chk78 (v209 : IVec S16 32) : Prop :=
  (∀ a x, ((![v209] : Fin 1 → IVec S16 32) a x).toNat < S16400.size a)
theorem k0_idx70_inb : ∀ (v209 : IVec S16 32) (k0_hw78 : k0_chk78 v209), ∀ a x, ((![v209] : Fin 1 → IVec S16 32) a x).toNat < S16400.size a := fun v209 k0_hw78 => k0_hw78

def k0_chk79 (v217 : IVec S16 32) : Prop :=
  (∀ a x, ((![v217] : Fin 1 → IVec S16 32) a x).toNat < S16400.size a)
theorem k0_idx71_inb : ∀ (v217 : IVec S16 32) (k0_hw79 : k0_chk79 v217), ∀ a x, ((![v217] : Fin 1 → IVec S16 32) a x).toNat < S16400.size a := fun v217 k0_hw79 => k0_hw79

def k0_chk80 (v231 : IVec S16 32) : Prop :=
  (∀ a x, ((![v231] : Fin 1 → IVec S16 32) a x).toNat < S16400.size a)
theorem k0_idx72_inb : ∀ (v231 : IVec S16 32) (k0_hw80 : k0_chk80 v231), ∀ a x, ((![v231] : Fin 1 → IVec S16 32) a x).toNat < S16400.size a := fun v231 k0_hw80 => k0_hw80
@[reducible] def k0_t18_loop (v73 : BitVec 32) : Scf.Loop 32 :=
  let c0_i32_83 : BitVec 32 := 0#32
  let c3_i32_81 : BitVec 32 := 3#32
  let v97 : BitVec 32 := Scalar.addi v73 c3_i32_81
  let c2_i32_82 : BitVec 32 := 2#32
  let v98 : BitVec 32 := Scalar.shrsi v97 c2_i32_82
  let v99 : BitVec 32 := Scalar.subi v98 c0_i32_83
  let c1_i32_84 : BitVec 32 := 1#32
  let v101 : BitVec 32 := Scalar.divsi v99 c1_i32_84
  let v102 : BitVec 32 := Scalar.muli v101 c1_i32_84
  let v103 : BitVec 32 := Scalar.addi c0_i32_83 v102
  let v100 : BitVec 32 := Scalar.addi c0_i32_83 v99
  let c1_i32_86 : BitVec 32 := 1#32
  ⟨v103, v100, c1_i32_86⟩

def k0_chk54 (v73 : BitVec 32) : Prop :=
  ((k0_t13_loop v73).OK) ∧
  ((k0_t14_loop v73).OK) ∧
  ((k0_t17_loop v73).OK) ∧
  ((k0_t18_loop v73).OK)
theorem k0_t13_ok : ∀ (v73 : BitVec 32) (k0_hw54 : k0_chk54 v73), (k0_t13_loop v73).OK := fun v73 k0_hw54 => k0_hw54.1
theorem k0_t14_ok : ∀ (v73 : BitVec 32) (k0_hw54 : k0_chk54 v73), (k0_t14_loop v73).OK := fun v73 k0_hw54 => k0_hw54.2.1
theorem k0_t17_ok : ∀ (v73 : BitVec 32) (k0_hw54 : k0_chk54 v73), (k0_t17_loop v73).OK := fun v73 k0_hw54 => k0_hw54.2.2.1
theorem k0_t18_ok : ∀ (v73 : BitVec 32) (k0_hw54 : k0_chk54 v73), (k0_t18_loop v73).OK := fun v73 k0_hw54 => k0_hw54.2.2.2

def k0_chk81 (v151 : IVec S16 32) : Prop :=
  (∀ a x, ((![v151] : Fin 1 → IVec S16 32) a x).toNat < S16400.size a)
theorem k0_idx73_inb : ∀ (v151 : IVec S16 32) (k0_hw81 : k0_chk81 v151), ∀ a x, ((![v151] : Fin 1 → IVec S16 32) a x).toNat < S16400.size a := fun v151 k0_hw81 => k0_hw81

def k0_chk82 (v165 : IVec S16 32) : Prop :=
  (∀ a x, ((![v165] : Fin 1 → IVec S16 32) a x).toNat < S16400.size a)
theorem k0_idx74_inb : ∀ (v165 : IVec S16 32) (k0_hw82 : k0_chk82 v165), ∀ a x, ((![v165] : Fin 1 → IVec S16 32) a x).toNat < S16400.size a := fun v165 k0_hw82 => k0_hw82

def k0_chk83 (v173 : IVec S16 32) : Prop :=
  (∀ a x, ((![v173] : Fin 1 → IVec S16 32) a x).toNat < S16400.size a)
theorem k0_idx75_inb : ∀ (v173 : IVec S16 32) (k0_hw83 : k0_chk83 v173), ∀ a x, ((![v173] : Fin 1 → IVec S16 32) a x).toNat < S16400.size a := fun v173 k0_hw83 => k0_hw83

def k0_chk84 (v187 : IVec S16 32) : Prop :=
  (∀ a x, ((![v187] : Fin 1 → IVec S16 32) a x).toNat < S16400.size a)
theorem k0_idx76_inb : ∀ (v187 : IVec S16 32) (k0_hw84 : k0_chk84 v187), ∀ a x, ((![v187] : Fin 1 → IVec S16 32) a x).toNat < S16400.size a := fun v187 k0_hw84 => k0_hw84

def k0_chk85 (v195 : IVec S16 32) : Prop :=
  (∀ a x, ((![v195] : Fin 1 → IVec S16 32) a x).toNat < S16400.size a)
theorem k0_idx77_inb : ∀ (v195 : IVec S16 32) (k0_hw85 : k0_chk85 v195), ∀ a x, ((![v195] : Fin 1 → IVec S16 32) a x).toNat < S16400.size a := fun v195 k0_hw85 => k0_hw85

def k0_chk86 (v209 : IVec S16 32) : Prop :=
  (∀ a x, ((![v209] : Fin 1 → IVec S16 32) a x).toNat < S16400.size a)
theorem k0_idx78_inb : ∀ (v209 : IVec S16 32) (k0_hw86 : k0_chk86 v209), ∀ a x, ((![v209] : Fin 1 → IVec S16 32) a x).toNat < S16400.size a := fun v209 k0_hw86 => k0_hw86

def k0_chk87 (v217 : IVec S16 32) : Prop :=
  (∀ a x, ((![v217] : Fin 1 → IVec S16 32) a x).toNat < S16400.size a)
theorem k0_idx79_inb : ∀ (v217 : IVec S16 32) (k0_hw87 : k0_chk87 v217), ∀ a x, ((![v217] : Fin 1 → IVec S16 32) a x).toNat < S16400.size a := fun v217 k0_hw87 => k0_hw87

def k0_chk88 (v231 : IVec S16 32) : Prop :=
  (∀ a x, ((![v231] : Fin 1 → IVec S16 32) a x).toNat < S16400.size a)
theorem k0_idx80_inb : ∀ (v231 : IVec S16 32) (k0_hw88 : k0_chk88 v231), ∀ a x, ((![v231] : Fin 1 → IVec S16 32) a x).toNat < S16400.size a := fun v231 k0_hw88 => k0_hw88
@[reducible] def k0_t19_loop (v111 : BitVec 32) : Scf.Loop 32 :=
  let c0_i32_91 : BitVec 32 := 0#32
  let c3_i32_89 : BitVec 32 := 3#32
  let v112 : BitVec 32 := Scalar.addi v111 c3_i32_89
  let c2_i32_90 : BitVec 32 := 2#32
  let v113 : BitVec 32 := Scalar.shrsi v112 c2_i32_90
  let v114 : BitVec 32 := Scalar.subi v113 c0_i32_91
  let c1_i32_93 : BitVec 32 := 1#32
  let v116 : BitVec 32 := Scalar.divsi v114 c1_i32_93
  let v117 : BitVec 32 := Scalar.muli v116 c1_i32_93
  let v118 : BitVec 32 := Scalar.addi c0_i32_91 v117
  let c1_i32_94 : BitVec 32 := 1#32
  ⟨c0_i32_91, v118, c1_i32_94⟩

def k0_chk90 (v151 : IVec S16 32) : Prop :=
  (∀ a x, ((![v151] : Fin 1 → IVec S16 32) a x).toNat < S16400.size a)
theorem k0_idx81_inb : ∀ (v151 : IVec S16 32) (k0_hw90 : k0_chk90 v151), ∀ a x, ((![v151] : Fin 1 → IVec S16 32) a x).toNat < S16400.size a := fun v151 k0_hw90 => k0_hw90

def k0_chk91 (v162 : IVec S16 32) : Prop :=
  (∀ a x, ((![v162] : Fin 1 → IVec S16 32) a x).toNat < S4096.size a)
theorem k0_idx82_inb : ∀ (v162 : IVec S16 32) (k0_hw91 : k0_chk91 v162), ∀ a x, ((![v162] : Fin 1 → IVec S16 32) a x).toNat < S4096.size a := fun v162 k0_hw91 => k0_hw91

def k0_chk92 (v168 : IVec S16 32) : Prop :=
  (∀ a x, ((![v168] : Fin 1 → IVec S16 32) a x).toNat < S16400.size a)
theorem k0_idx83_inb : ∀ (v168 : IVec S16 32) (k0_hw92 : k0_chk92 v168), ∀ a x, ((![v168] : Fin 1 → IVec S16 32) a x).toNat < S16400.size a := fun v168 k0_hw92 => k0_hw92

def k0_chk93 (v179 : IVec S16 32) : Prop :=
  (∀ a x, ((![v179] : Fin 1 → IVec S16 32) a x).toNat < S4096.size a)
theorem k0_idx84_inb : ∀ (v179 : IVec S16 32) (k0_hw93 : k0_chk93 v179), ∀ a x, ((![v179] : Fin 1 → IVec S16 32) a x).toNat < S4096.size a := fun v179 k0_hw93 => k0_hw93

def k0_chk94 (v185 : IVec S16 32) : Prop :=
  (∀ a x, ((![v185] : Fin 1 → IVec S16 32) a x).toNat < S16400.size a)
theorem k0_idx85_inb : ∀ (v185 : IVec S16 32) (k0_hw94 : k0_chk94 v185), ∀ a x, ((![v185] : Fin 1 → IVec S16 32) a x).toNat < S16400.size a := fun v185 k0_hw94 => k0_hw94

def k0_chk95 (v196 : IVec S16 32) : Prop :=
  (∀ a x, ((![v196] : Fin 1 → IVec S16 32) a x).toNat < S4096.size a)
theorem k0_idx86_inb : ∀ (v196 : IVec S16 32) (k0_hw95 : k0_chk95 v196), ∀ a x, ((![v196] : Fin 1 → IVec S16 32) a x).toNat < S4096.size a := fun v196 k0_hw95 => k0_hw95

def k0_chk96 (v202 : IVec S16 32) : Prop :=
  (∀ a x, ((![v202] : Fin 1 → IVec S16 32) a x).toNat < S16400.size a)
theorem k0_idx87_inb : ∀ (v202 : IVec S16 32) (k0_hw96 : k0_chk96 v202), ∀ a x, ((![v202] : Fin 1 → IVec S16 32) a x).toNat < S16400.size a := fun v202 k0_hw96 => k0_hw96

def k0_chk97 (v213 : IVec S16 32) : Prop :=
  (∀ a x, ((![v213] : Fin 1 → IVec S16 32) a x).toNat < S4096.size a)
theorem k0_idx88_inb : ∀ (v213 : IVec S16 32) (k0_hw97 : k0_chk97 v213), ∀ a x, ((![v213] : Fin 1 → IVec S16 32) a x).toNat < S4096.size a := fun v213 k0_hw97 => k0_hw97
@[reducible] def k0_t20_loop (v111 : BitVec 32) : Scf.Loop 32 :=
  let c0_i32_91 : BitVec 32 := 0#32
  let c3_i32_89 : BitVec 32 := 3#32
  let v112 : BitVec 32 := Scalar.addi v111 c3_i32_89
  let c2_i32_90 : BitVec 32 := 2#32
  let v113 : BitVec 32 := Scalar.shrsi v112 c2_i32_90
  let v114 : BitVec 32 := Scalar.subi v113 c0_i32_91
  let c1_i32_93 : BitVec 32 := 1#32
  let v116 : BitVec 32 := Scalar.divsi v114 c1_i32_93
  let v117 : BitVec 32 := Scalar.muli v116 c1_i32_93
  let v118 : BitVec 32 := Scalar.addi c0_i32_91 v117
  let v115 : BitVec 32 := Scalar.addi c0_i32_91 v114
  let c1_i32_95 : BitVec 32 := 1#32
  ⟨v118, v115, c1_i32_95⟩

def k0_chk89 (v111 : BitVec 32) : Prop :=
  ((k0_t19_loop v111).OK) ∧
  ((k0_t20_loop v111).OK)
theorem k0_t19_ok : ∀ (v111 : BitVec 32) (k0_hw89 : k0_chk89 v111), (k0_t19_loop v111).OK := fun v111 k0_hw89 => k0_hw89.1
theorem k0_t20_ok : ∀ (v111 : BitVec 32) (k0_hw89 : k0_chk89 v111), (k0_t20_loop v111).OK := fun v111 k0_hw89 => k0_hw89.2

def k0_chk98 (v151 : IVec S16 32) : Prop :=
  (∀ a x, ((![v151] : Fin 1 → IVec S16 32) a x).toNat < S16400.size a)
theorem k0_idx89_inb : ∀ (v151 : IVec S16 32) (k0_hw98 : k0_chk98 v151), ∀ a x, ((![v151] : Fin 1 → IVec S16 32) a x).toNat < S16400.size a := fun v151 k0_hw98 => k0_hw98

def k0_chk99 (v162 : IVec S16 32) : Prop :=
  (∀ a x, ((![v162] : Fin 1 → IVec S16 32) a x).toNat < S4096.size a)
theorem k0_idx90_inb : ∀ (v162 : IVec S16 32) (k0_hw99 : k0_chk99 v162), ∀ a x, ((![v162] : Fin 1 → IVec S16 32) a x).toNat < S4096.size a := fun v162 k0_hw99 => k0_hw99

def k0_chk100 (v168 : IVec S16 32) : Prop :=
  (∀ a x, ((![v168] : Fin 1 → IVec S16 32) a x).toNat < S16400.size a)
theorem k0_idx91_inb : ∀ (v168 : IVec S16 32) (k0_hw100 : k0_chk100 v168), ∀ a x, ((![v168] : Fin 1 → IVec S16 32) a x).toNat < S16400.size a := fun v168 k0_hw100 => k0_hw100

def k0_chk101 (v179 : IVec S16 32) : Prop :=
  (∀ a x, ((![v179] : Fin 1 → IVec S16 32) a x).toNat < S4096.size a)
theorem k0_idx92_inb : ∀ (v179 : IVec S16 32) (k0_hw101 : k0_chk101 v179), ∀ a x, ((![v179] : Fin 1 → IVec S16 32) a x).toNat < S4096.size a := fun v179 k0_hw101 => k0_hw101

def k0_chk102 (v185 : IVec S16 32) : Prop :=
  (∀ a x, ((![v185] : Fin 1 → IVec S16 32) a x).toNat < S16400.size a)
theorem k0_idx93_inb : ∀ (v185 : IVec S16 32) (k0_hw102 : k0_chk102 v185), ∀ a x, ((![v185] : Fin 1 → IVec S16 32) a x).toNat < S16400.size a := fun v185 k0_hw102 => k0_hw102

def k0_chk103 (v196 : IVec S16 32) : Prop :=
  (∀ a x, ((![v196] : Fin 1 → IVec S16 32) a x).toNat < S4096.size a)
theorem k0_idx94_inb : ∀ (v196 : IVec S16 32) (k0_hw103 : k0_chk103 v196), ∀ a x, ((![v196] : Fin 1 → IVec S16 32) a x).toNat < S4096.size a := fun v196 k0_hw103 => k0_hw103

def k0_chk104 (v202 : IVec S16 32) : Prop :=
  (∀ a x, ((![v202] : Fin 1 → IVec S16 32) a x).toNat < S16400.size a)
theorem k0_idx95_inb : ∀ (v202 : IVec S16 32) (k0_hw104 : k0_chk104 v202), ∀ a x, ((![v202] : Fin 1 → IVec S16 32) a x).toNat < S16400.size a := fun v202 k0_hw104 => k0_hw104

def k0_chk105 (v213 : IVec S16 32) : Prop :=
  (∀ a x, ((![v213] : Fin 1 → IVec S16 32) a x).toNat < S4096.size a)
theorem k0_idx96_inb : ∀ (v213 : IVec S16 32) (k0_hw105 : k0_chk105 v213), ∀ a x, ((![v213] : Fin 1 → IVec S16 32) a x).toNat < S4096.size a := fun v213 k0_hw105 => k0_hw105
@[reducible] def k0_t21_loop : Scf.Loop 32 :=
  let c0_i32_98 : BitVec 32 := 0#32
  let c32_i32_99 : BitVec 32 := 32#32
  let v123 : BitVec 32 := Scalar.addi c0_i32_98 c32_i32_99
  let c1_i32_100 : BitVec 32 := 1#32
  ⟨c0_i32_98, v123, c1_i32_100⟩
def k0_off31 (k0_t21 : Fin k0_t21_loop.trips) (c0_i32_114 : BitVec 32) : Fin 1 → Nat :=
  let c255_i32_115 : BitVec 32 := 255#32
  let c0_i32_98 : BitVec 32 := 0#32
  let c1_i32_100 : BitVec 32 := 1#32
  let arg12 : BitVec 32 := Scf.iv c0_i32_98 c1_i32_100 k0_t21
  let c8_i32_113 : BitVec 32 := 8#32
  let v146 : BitVec 32 := Scalar.muli arg12 c8_i32_113
  let v147 : BitVec 32 := Scalar.addi v146 c0_i32_114
  let v148 : BitVec 32 := Scalar.subi c255_i32_115 v147
  let c16_i32_116 : BitVec 32 := 16#32
  let v149 : BitVec 32 := Scalar.muli v148 c16_i32_116
  let v150 : Index := Scalar.indexCast v149
  ![v150.toNat]
def k0_off32 (k0_t21 : Fin k0_t21_loop.trips) (c0_i32_114 : BitVec 32) : Fin 1 → Nat :=
  let c255_i32_115 : BitVec 32 := 255#32
  let c0_i32_98 : BitVec 32 := 0#32
  let c1_i32_100 : BitVec 32 := 1#32
  let arg12 : BitVec 32 := Scf.iv c0_i32_98 c1_i32_100 k0_t21
  let c8_i32_113 : BitVec 32 := 8#32
  let v146 : BitVec 32 := Scalar.muli arg12 c8_i32_113
  let v147 : BitVec 32 := Scalar.addi v146 c0_i32_114
  let v148 : BitVec 32 := Scalar.subi c255_i32_115 v147
  let c16_i32_117 : BitVec 32 := 16#32
  let v153 : BitVec 32 := Scalar.muli v148 c16_i32_117
  let v154 : Index := Scalar.indexCast v153
  ![v154.toNat]
@[reducible] def k0_t22_loop : Scf.Loop 32 :=
  let c0_i32_104 : BitVec 32 := 0#32
  let c8_i32_105 : BitVec 32 := 8#32
  let v125 : BitVec 32 := Scalar.addi c0_i32_104 c8_i32_105
  let c1_i32_106 : BitVec 32 := 1#32
  ⟨c0_i32_104, v125, c1_i32_106⟩
def k0_off33 (arg13 : BitVec 32) (arg14 : BitVec 32) : Fin 1 → Nat :=
  let v146 : BitVec 32 := Scalar.subi arg14 arg13
  let c1_i32_113 : BitVec 32 := 1#32
  let v147 : BitVec 32 := Scalar.addi v146 c1_i32_113
  let c1_i32_114 : BitVec 32 := 1#32
  let v148 : BitVec 32 := Scalar.shrsi v147 c1_i32_114
  let v149 : BitVec 32 := Scalar.addi arg13 v148
  let c16_i32_115 : BitVec 32 := 16#32
  let v150 : BitVec 32 := Scalar.muli v149 c16_i32_115
  let v151 : Index := Scalar.indexCast v150
  ![v151.toNat]

def k0_chk106 (arg13 : BitVec 32) (arg14 : BitVec 32) : Prop :=
  (∀ a, (k0_off33 arg13 arg14) a + S16.size a ≤ S4112.size a)
theorem k0_off33_inb : ∀ (arg13 : BitVec 32) (arg14 : BitVec 32) (k0_hw106 : k0_chk106 arg13 arg14), ∀ a, (k0_off33 arg13 arg14) a + S16.size a ≤ S4112.size a := fun arg13 arg14 k0_hw106 => k0_hw106

def k0_off34 (v126_0 : BitVec 32) : Fin 1 → Nat :=
  let c1_i32_108 : BitVec 32 := 1#32
  let v127 : BitVec 32 := Scalar.addi v126_0 c1_i32_108
  let c16_i32_109 : BitVec 32 := 16#32
  let v128 : BitVec 32 := Scalar.muli v127 c16_i32_109
  let v129 : Index := Scalar.indexCast v128
  ![v129.toNat]

def k0_chk107 (v126_0 : BitVec 32) : Prop :=
  (∀ a, (k0_off34 v126_0) a + S16.size a ≤ S4112.size a)
theorem k0_off34_inb : ∀ (v126_0 : BitVec 32) (k0_hw107 : k0_chk107 v126_0), ∀ a, (k0_off34 v126_0) a + S16.size a ≤ S4112.size a := fun v126_0 k0_hw107 => k0_hw107

def k0_chk108 (v143 : IVec S16 32) : Prop :=
  (∀ a x, ((![v143] : Fin 1 → IVec S16 32) a x).toNat < S64.size a)
theorem k0_idx97_inb : ∀ (v143 : IVec S16 32) (k0_hw108 : k0_chk108 v143), ∀ a x, ((![v143] : Fin 1 → IVec S16 32) a x).toNat < S64.size a := fun v143 k0_hw108 => k0_hw108
def k0_off35 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_8 : BitVec 32 := 64#32
  let v9 : BitVec 32 := Scalar.muli v1 c64_i32_8
  ![v9.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2048x16384 : Shape := ⟨2, ![2048, 16384]⟩
abbrev S2048x64 : Shape := ⟨2, ![2048, 64]⟩
abbrev S2048x1 : Shape := ⟨2, ![2048, 1]⟩
abbrev S2048 : Shape := ⟨1, ![2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x64, .f32⟩
  | .hbm, ⟨2, _⟩ => ⟨S2048x64, .i32⟩
  | .hbm, ⟨3, _⟩ => ⟨S2048x1, .f32⟩
  | .hbm, ⟨4, _⟩ => ⟨S2048, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Encoder.lean ====
abbrev S1x2048x768 : Shape := ⟨3, ![1, 2048, 768]⟩
abbrev S16384x768 : Shape := ⟨2, ![16384, 768]⟩
abbrev S16384 : Shape := ⟨1, ![16384]⟩
abbrev S2048x768 : Shape := ⟨2, ![2048, 768]⟩
abbrev S1x16384 : Shape := ⟨2, ![1, 16384]⟩
abbrev S2048x16384 : Shape := ⟨2, ![2048, 16384]⟩
abbrev S1024x768 : Shape := ⟨2, ![1024, 768]⟩
abbrev S1x1024 : Shape := ⟨2, ![1, 1024]⟩
abbrev S2048x1024 : Shape := ⟨2, ![2048, 1024]⟩

abbrev nBuf : Space → Nat
  | .hbm => 8
  | .vmem => 9
  | .smem => 0
  | _ => 0

abbrev bufTy : (tb : Table) → Fin (tcTables nBuf tb) → BufTy
  | .hbm, ⟨0, _⟩ => ⟨S1x2048x768, .f32⟩
  | .hbm, ⟨1, _⟩ => ⟨S16384x768, .f32⟩
  | .hbm, ⟨2, _⟩ => ⟨S16384, .f32⟩
  | .hbm, ⟨3, _⟩ => ⟨S16384, .f32⟩
  | .hbm, ⟨4, _⟩ => ⟨S2048x768, .f32⟩
  | .hbm, ⟨5, _⟩ => ⟨S1x16384, .f32⟩
  | .hbm, ⟨6, _⟩ => ⟨S1x16384, .f32⟩
  | .hbm, ⟨7, _⟩ => ⟨S2048x16384, .f32⟩
  | .local _ .vmem, ⟨0, _⟩ => ⟨S2048x768, .f32⟩
  | .local _ .vmem, ⟨1, _⟩ => ⟨S1024x768, .f32⟩
  | .local _ .vmem, ⟨2, _⟩ => ⟨S1024x768, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S2048x1024, .f32⟩
  | .local _ .vmem, ⟨8, _⟩ => ⟨S2048x1024, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EncoderReferenceIdeal.lean ====
abbrev S1x2048x768 : Shape := ⟨3, ![1, 2048, 768]⟩
abbrev S16384x768 : Shape := ⟨2, ![16384, 768]⟩
abbrev S16384 : Shape := ⟨1, ![16384]⟩
abbrev S1x2048x16384 : Shape := ⟨3, ![1, 2048, 16384]⟩
abbrev S1x1x16384 : Shape := ⟨3, ![1, 1, 16384]⟩
abbrev S2048x16384 : Shape := ⟨2, ![2048, 16384]⟩

abbrev nBuf : Space → Nat
  | .hbm => 14
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S16384x768, .f32⟩
  | .hbm, ⟨2, _⟩ => ⟨S16384, .f32⟩
  | .hbm, ⟨3, _⟩ => ⟨S16384, .f32⟩
  | .hbm, ⟨4, _⟩ => ⟨S1x2048x16384, .f32⟩
  | .hbm, ⟨5, _⟩ => ⟨S1x1x16384, .f32⟩
  | .hbm, ⟨6, _⟩ => ⟨S1x2048x16384, .f32⟩
  | .hbm, ⟨7, _⟩ => ⟨S1x2048x16384, .f32⟩
  | .hbm, ⟨8, _⟩ => ⟨S1x1x16384, .f32⟩
  | .hbm, ⟨9, _⟩ => ⟨S1x2048x16384, .f32⟩
  | .hbm, ⟨10, _⟩ => ⟨S1x2048x16384, .i1⟩
  | .hbm, ⟨11, _⟩ => ⟨S1x2048x16384, .f32⟩
  | .hbm, ⟨12, _⟩ => ⟨S1x2048x16384, .f32⟩
  | .hbm, ⟨13, _⟩ => ⟨S2048x16384, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Decoder.lean ====
abbrev S2048x16384 : Shape := ⟨2, ![2048, 16384]⟩
abbrev S2048 : Shape := ⟨1, ![2048]⟩
abbrev S768x16384 : Shape := ⟨2, ![768, 16384]⟩
abbrev S768 : Shape := ⟨1, ![768]⟩
abbrev S2048x1 : Shape := ⟨2, ![2048, 1]⟩
abbrev S1x768 : Shape := ⟨2, ![1, 768]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x16384, .f32⟩
  | .hbm, ⟨1, _⟩ => ⟨S2048, .f32⟩
  | .hbm, ⟨2, _⟩ => ⟨S768x16384, .f32⟩
  | .hbm, ⟨3, _⟩ => ⟨S768, .f32⟩
  | .hbm, ⟨4, _⟩ => ⟨S2048x1, .f32⟩
  | .hbm, ⟨5, _⟩ => ⟨S1x768, .f32⟩
  | .hbm, ⟨6, _⟩ => ⟨S2048x768, .f32⟩
  | .local _ .vmem, ⟨0, _⟩ => ⟨S2048x1024, .f32⟩
  | .local _ .vmem, ⟨1, _⟩ => ⟨S2048x1024, .f32⟩
  | .local _ .vmem, ⟨2, _⟩ => ⟨S2048x1, .f32⟩
  | .local _ .vmem, ⟨3, _⟩ => ⟨S768x1024, .f32⟩
  | .local _ .vmem, ⟨4, _⟩ => ⟨S768x1024, .f32⟩
  | .local _ .vmem, ⟨5, _⟩ => ⟨S1x768, .f32⟩
  | .local _ .vmem, ⟨6, _⟩ => ⟨S2048x768, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_6 : BitVec 32 := 0#32
  let v11 : BitVec 1 := Scalar.cmpi .ne v10 c0_i32_6
  v11

def k0_cond2 (i : grid0.Coords) : BitVec 1 :=
  let arg0 : BitVec 32 := BitVec.ofNat 32 (i 0).val
  let c0_i32_7 : BitVec 32 := 0#32
  let v12 : BitVec 1 := Scalar.cmpi .sgt arg0 c0_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DecoderReferenceIdeal.lean ====
abbrev S2048x16384 : Shape := ⟨2, ![2048, 16384]⟩
abbrev S2048 : Shape := ⟨1, ![2048]⟩
abbrev S768x16384 : Shape := ⟨2, ![768, 16384]⟩
abbrev S768 : Shape := ⟨1, ![768]⟩
abbrev S2048x1 : Shape := ⟨2, ![2048, 1]⟩
abbrev S_ : Shape := ⟨0, ![]⟩
abbrev S2048x768 : Shape := ⟨2, ![2048, 768]⟩
abbrev S1x768 : Shape := ⟨2, ![1, 768]⟩

abbrev nBuf : Space → Nat
  | .hbm => 15
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048, .f32⟩
  | .hbm, ⟨2, _⟩ => ⟨S768x16384, .f32⟩
  | .hbm, ⟨3, _⟩ => ⟨S768, .f32⟩
  | .hbm, ⟨4, _⟩ => ⟨S2048x1, .f32⟩
  | .hbm, ⟨5, _⟩ => ⟨S2048x16384, .f32⟩
  | .hbm, ⟨6, _⟩ => ⟨S2048x16384, .i1⟩
  | .hbm, ⟨7, _⟩ => ⟨S_, .f32⟩
  | .hbm, ⟨8, _⟩ => ⟨S_, .f32⟩
  | .hbm, ⟨9, _⟩ => ⟨S2048x16384, .f32⟩
  | .hbm, ⟨10, _⟩ => ⟨S2048x16384, .f32⟩
  | .hbm, ⟨11, _⟩ => ⟨S2048x768, .f32⟩
  | .hbm, ⟨12, _⟩ => ⟨S1x768, .f32⟩
  | .hbm, ⟨13, _⟩ => ⟨S2048x768, .f32⟩
  | .hbm, ⟨14, _⟩ => ⟨S2048x768, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== TopkReferenceIdeal.lean ====
abbrev S2048x16384 : Shape := ⟨2, ![2048, 16384]⟩
abbrev S2048 : Shape := ⟨1, ![2048]⟩
abbrev S768x16384 : Shape := ⟨2, ![768, 16384]⟩
abbrev S768 : Shape := ⟨1, ![768]⟩
abbrev S2048x64 : Shape := ⟨2, ![2048, 64]⟩
abbrev S_ : Shape := ⟨0, ![]⟩
abbrev S2048x1 : Shape := ⟨2, ![2048, 1]⟩
abbrev S2048x64x1 : Shape := ⟨3, ![2048, 64, 1]⟩
abbrev S2048x64x2 : Shape := ⟨3, ![2048, 64, 2]⟩
abbrev S2048x768 : Shape := ⟨2, ![2048, 768]⟩
abbrev S1x768 : Shape := ⟨2, ![1, 768]⟩

abbrev nBuf : Space → Nat
  | .hbm => 33
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048, .f32⟩
  | .hbm, ⟨2, _⟩ => ⟨S768x16384, .f32⟩
  | .hbm, ⟨3, _⟩ => ⟨S768, .f32⟩
  | .hbm, ⟨4, _⟩ => ⟨S2048x64, .f32⟩
  | .hbm, ⟨5, _⟩ => ⟨S2048x64, .i32⟩
  | .hbm, ⟨6, _⟩ => ⟨S_, .f32⟩
  | .hbm, ⟨7, _⟩ => ⟨S2048x16384, .f32⟩
  | .hbm, ⟨8, _⟩ => ⟨S2048, .i32⟩
  | .hbm, ⟨9, _⟩ => ⟨S2048x1, .i32⟩
  | .hbm, ⟨10, _⟩ => ⟨S_, .i32⟩
  | .hbm, ⟨11, _⟩ => ⟨S2048x1, .i32⟩
  | .hbm, ⟨12, _⟩ => ⟨S2048x1, .i1⟩
  | .hbm, ⟨13, _⟩ => ⟨S_, .i32⟩
  | .hbm, ⟨14, _⟩ => ⟨S2048x1, .i32⟩
  | .hbm, ⟨15, _⟩ => ⟨S2048x1, .i32⟩
  | .hbm, ⟨16, _⟩ => ⟨S2048x1, .i32⟩
  | .hbm, ⟨17, _⟩ => ⟨S_, .i32⟩
  | .hbm, ⟨18, _⟩ => ⟨S2048x64, .i32⟩
  | .hbm, ⟨19, _⟩ => ⟨S2048x64, .i1⟩
  | .hbm, ⟨20, _⟩ => ⟨S_, .i32⟩
  | .hbm, ⟨21, _⟩ => ⟨S2048x64, .i32⟩
  | .hbm, ⟨22, _⟩ => ⟨S2048x64, .i32⟩
  | .hbm, ⟨23, _⟩ => ⟨S2048x64, .i32⟩
  | .hbm, ⟨24, _⟩ => ⟨S2048x64, .i32⟩
  | .hbm, ⟨25, _⟩ => ⟨S2048x64x1, .i32⟩
  | .hbm, ⟨26, _⟩ => ⟨S2048x64x1, .i32⟩
  | .hbm, ⟨27, _⟩ => ⟨S2048x64x2, .i32⟩
  | .hbm, ⟨28, _⟩ => ⟨S2048x16384, .f32⟩
  | .hbm, ⟨29, _⟩ => ⟨S2048x768, .f32⟩
  | .hbm, ⟨30, _⟩ => ⟨S1x768, .f32⟩
  | .hbm, ⟨31, _⟩ => ⟨S2048x768, .f32⟩
  | .hbm, ⟨32, _⟩ => ⟨S2048x768, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Proof.Bufs.lean ====
/-
  The six scratch buffers of one vector subcore, and the rules of the operations the row selection is made of.

  `pt m g`: the scratch memref `m` is held whole and reads `g`. `own B st`: all six are held, at the contents of the
  state `st` (each buffer as a function of the coordinates the kernel addresses it by). `TW p Q st`: from the six
  buffers at `st` the program `p` runs, and ends at a value and a state that `Q` admits; the rules below say it of each
  operation, so that everything about the row selection is a statement about `TW` and pure functions.
-/
module

public import proofs.«01_k».proof.Defs
public import Idealize.ShloMosaic.Lib.SparseCore.Quiescent
public import Idealize.ShloMosaic.Lib.SparseCore.Ops
public import Idealize.ShloMosaic.Lib.Transfers
public import Idealize.ShloMosaic.Lib.Tactic
public import proofs.«01_k».proof.Proof.Gen.Kernel
public import proofs.«01_k».proof.Proof.Gen.Kernel.Skeleton

@[expose] public section

noncomputable section

namespace Cert.Proof.Select

open Cert.Kernel Cert.Kernel.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

/-- A 32-bit word: what both element types of the kernel hold at their bits. -/
abbrev Wd : Type := BitVec 32

abbrev UH : Type := URounds (GSem nD τ sig) ℕ
abbrev UU : Type := UH × Counters

local notation "𝕄" => MT nD τ sig (HIx 1) (Elt Bits) ℕ UU ℕ

/-- The thread of the vector subcore at grid coordinates `i` of device `d`. -/
abbrev thr (d : Fin nD) (i : grid0.Coords) : Thread nD τ := (d, .scVector ((i 0).castLE hcore0) ((i 1).castLE hsub0))

variable (d : Fin nD) (i : grid0.Coords)

/-- The programs of that thread. -/
abbrev Pg (α : Type) : Type 1 := Prog (TpuEff nD τ sig (Elt Bits) Λ₀ (.scVector ((i 0).castLE hcore0) ((i 1).castLE hsub0))) α

/-- The weakest precondition of a program of that thread. -/
abbrev W {α : Type} (p : Pg i α) (Φ : α → sProp 𝕄) : sProp 𝕄 :=
  wp frame (wpE (defs₀ (F := Bits)) Variants.none (thr d i) none) Set.univ p Φ

/-! ## One memref -/

section One

variable {s : Shape} {e : EltTy}

/-- The memref `m` is held whole, and reads `g`. -/
def pt (m : Memref sig .scVector .vmem s e) (g : s.Idx → Elt Bits e) : sProp 𝕄 :=
  iprop(∃ f, ⌜m.view.read (Elt Bits) f = g⌝ ∗ (m.view.loc (thr d i) ↦[m.view.set]{fullShare} f))

variable {α : Type} {Q : α → sProp 𝕄}

theorem pt_load {m : Memref sig .scVector .vmem s e} {g : s.Idx → Elt Bits e} {r : LoadRect s} {hl : m.view.LoadsAt r}
    {k : (r.shape.Idx → Elt Bits e) → Pg i α} :
    pt d i m g ⊢ iprop((pt d i m g -∗ W d i (k fun x => g (r.idx x)) Q) -∗ W d i (.op (.load m r hl) k) Q) := by
  unfold pt
  iintro ⟨%f, %hf, H⟩ HK
  iapply (wp_load (defs := defs₀ (F := Bits)) Variants.none (thr d i) none Set.univ (m := m) (r := r) (hl := hl) (k := k)
    (S := m.view.set) (q := fullShare) (f := f) (Q := Q) (m.view.setOn_subset_set _)) $$ H
  iintro H
  have e : m.view.readAt (Elt Bits) r f = fun x => g (r.idx x) := by
    funext x; rw [View.readAt_apply, hf]
  rw [e]
  iapply HK
  iexists f
  isplitr
  · ipureintro; exact hf
  · iexact H

theorem pt_store {m : Memref sig .scVector .vmem s e} {g : s.Idx → Elt Bits e} {r : Rect s} {w : r.shape.Idx → Elt Bits e}
    {hx : (m.access r).Stores Finset.univ} {hm : Finset.univ = Finset.univ ∨ ∀ a, r.stride a = 1}
    {k : PUnit → Pg i α} (g' : s.Idx → Elt Bits e) (h₁ : ∀ x, g' (r.emb x) = w x) (h₂ : ∀ y, y ∉ r.set → g' y = g y) :
    pt d i m g ⊢ iprop((pt d i m g' -∗ W d i (k ⟨⟩) Q) -∗ W d i (.op (.store m r w Finset.univ hx hm) k) Q) := by
  unfold pt
  iintro ⟨%f, %hf, H⟩ HK
  iapply (wp_store (defs := defs₀ (F := Bits)) Variants.none (thr d i) none Set.univ (m := m) (r := r) (hx := hx) (k := k) (w := w)
    (S := m.view.set) (f := f) (Q := Q) (Mk := Finset.univ) (m.setOn_access_subset r _)) $$ H
  iintro H
  iapply HK
  iexists ((m.access r).write (Elt Bits) f w Finset.univ)
  isplitr
  · ipureintro
    funext y
    by_cases hy : y ∈ r.set
    · rw [← Rect.map_emb_univ] at hy
      obtain ⟨x, -, rfl⟩ := Finset.mem_map.mp hy
      rw [h₁]; exact View.read_slice_write_emb (v := m.view) r f w (Finset.mem_univ x)
    · rw [h₂ y hy, ← hf]
      refine View.read_slice_write_of_not_mem (v := m.view) r f w Finset.univ ?_
      rw [Rect.map_emb_univ]; exact hy
  · iexact H

end One

/-! ## The state -/

/-- The kernel's memrefs and semaphores: the two operands, the six scratch buffers, the two transfers' semaphores. -/
structure Mems where
  a2 : Memref sig .scVector .hbm S2048x16384 .f32
  h2 : a2.IsWhole
  a3 : Memref sig .scVector .hbm S2048 .f32
  h3 : a3.IsWhole
  a4 : Memref sig .scVector .vmem S16384 .f32
  h4 : a4.IsWhole
  a5 : Memref sig .scVector .vmem S16400 .f32
  h5 : a5.IsWhole
  a6 : Memref sig .scVector .vmem S16400 .f32
  h6 : a6.IsWhole
  a7 : Memref sig .scVector .vmem S4096 .i32
  h7 : a7.IsWhole
  a8 : Memref sig .scVector .vmem S4112 .i32
  h8 : a8.IsWhole
  a9 : Memref sig .scVector .vmem S64 .f32
  h9 : a9.IsWhole
  r0 : DmaSems sig S_
  r1 : DmaSems sig S_

/-- What the scratch buffers hold. `row n l`: element `l` of the row's 16-lane vector `n`. `ca l j`, `cb l j`: entry `j`
    of lane `l`'s candidates (1025 places per lane). `hist b l`, `sfx b l`: bucket `b`, lane `l`. `tb r`: row `r`'s
    threshold. -/
structure St where
  row : ℕ → ℕ → Wd
  ca : ℕ → ℕ → Wd
  cb : ℕ → ℕ → Wd
  hist : ℕ → ℕ → Wd
  sfx : ℕ → ℕ → Wd
  tb : ℕ → Wd

/-- Flat index to two coordinates, `w` per row. -/
abbrev two (w : ℕ) (f : ℕ → ℕ → Wd) (n : ℕ) : Wd := f (n / w) (n % w)

/-- The six scratch buffers, held at the state. -/
def own (B : Mems) (st : St) : sProp 𝕄 :=
  iprop(pt d i B.a4 (fun x => two 16 st.row (x 0).val) ∗ pt d i B.a5 (fun x => two 1025 st.ca (x 0).val)
    ∗ pt d i B.a6 (fun x => two 1025 st.cb (x 0).val) ∗ pt d i B.a7 (fun x => two 16 st.hist (x 0).val)
    ∗ pt d i B.a8 (fun x => two 16 st.sfx (x 0).val) ∗ pt d i B.a9 (fun x => st.tb (x 0).val))

/-- From the buffers at `st`, the program runs and ends at a value and a state that `Q` admits. -/
def TW (B : Mems) {α : Type} (p : Pg i α) (Q : α → St → Prop) (st : St) : Prop :=
  own d i B st ⊢ W d i p (fun a => iprop(∃ st', ⌜Q a st'⌝ ∗ own d i B st'))

variable {d i} {B : Mems} {α β : Type} {st : St}

theorem TW.ret {a : α} {Q : α → St → Prop} (h : Q a st) : TW d i B (.ret a) Q st := by
  unfold TW W
  rw [wp_ret]
  iintro H
  imodintro
  iexists st
  isplitr
  · ipureintro; exact h
  · iexact H

theorem TW.mono {p : Pg i α} {Q Q' : α → St → Prop} (h : TW d i B p Q st) (hQ : ∀ a st', Q a st' → Q' a st') :
    TW d i B p Q' st := by
  unfold TW at h ⊢
  refine h.trans (wp_mono _ _ _ fun a => ?_)
  iintro ⟨%st', %hq, H⟩
  iexists st'
  isplitr
  · ipureintro; exact hQ _ _ hq
  · iexact H

theorem TW.bind {p : Pg i α} {k : α → Pg i β} {Q : β → St → Prop} {R : α → St → Prop} (h : TW d i B p R st)
    (hk : ∀ a st', R a st' → TW d i B (k a) Q st') : TW d i B (p >>= k) Q st := by
  unfold TW W at h ⊢
  rw [wp_bind]
  refine h.trans (wp_mono _ _ _ fun a => ?_)
  iintro ⟨%st', %hq, H⟩
  have hk' : own d i B st' ⊢ W d i (k a) _ := hk a st' hq
  iapply hk'
  iexact H

/-- A check that passes. -/
theorem TW.assume {P : Prop} {dec : Decidable P} {k : PLift P → Pg i α} {Q : α → St → Prop} (hP : P)
    (h : TW d i B (k ⟨hP⟩) Q st) : TW d i B (.op (.assume P dec) k) Q st := by
  unfold TW W at h ⊢
  rw [wp_assume_of Variants.none (thr d i) none Set.univ hP]
  exact h

/-- A loop, by an invariant over its trip, its carried value and the state. -/
theorem TW.loop {σ : Type} {L : Scf.Loop 32} {hok : L.OK} {init : σ} {body : Fin L.trips → σ → Pg i σ} (I : ℕ → σ → St → Prop)
    (h0 : I 0 init st) (hb : ∀ (k : Fin L.trips) (a : σ) (s' : St), I k.val a s' → TW d i B (body k a) (I (k.val + 1)) s') :
    TW d i B (Scf.Loop.for L hok init body) (fun a s' => I L.trips a s') st := by
  have := Scf.wp_for frame (wpE (defs₀ (F := Bits)) Variants.none (thr d i) none) Set.univ L.lb L.ub L.st hok init body
    (fun n a => iprop(∃ s', ⌜I n a s'⌝ ∗ own d i B s')) (fun k a => by
      iintro ⟨%s', %hI, H⟩
      have hb' : own d i B s' ⊢ W d i (body k a) _ := hb k a s' hI
      iapply hb'
      iexact H) (Q := fun a => iprop(∃ s', ⌜I L.trips a s'⌝ ∗ own d i B s'))
  have e : own d i B st ⊢ iprop((∃ s', ⌜I 0 init s'⌝ ∗ own d i B s') ∗
      ∀ a, (∃ s', ⌜I L.trips a s'⌝ ∗ own d i B s') -∗ ∃ s', ⌜I L.trips a s'⌝ ∗ own d i B s') := by
    iintro H
    isplitl [H]
    · iexists st
      isplitr
      · ipureintro; exact h0
      · iexact H
    · iintro %a H
      iexact H
  exact e.trans this

/-! ## Indexed stores, as functions -/

/-- Lane `l` of a 16-lane vector. -/
def ln (l : ℕ) (h : l < 16) : S16.Idx := Shape.ofLane (d := ![16]) ⟨l, h⟩

section Pure

variable {n : ℕ} {e : EltTy}

/-- An indexed store, element by element: its lanes in turn, each set lane changing the element it names. -/
theorem storeIdx_eq (f : Vec Bits ⟨1, ![n]⟩ e) (idx : IVec S16 32) (v : Vec Bits S16 e) (mask : IVec S16 1) (add : Bool)
    (h : ∀ a x, ((![idx] : Fin 1 → IVec S16 32) a x).toNat < (⟨1, ![n]⟩ : Shape).size a) (j : (⟨1, ![n]⟩ : Shape).Idx) :
    storeIdx (F := Bits) f ![idx] v mask add h j = (List.finRange 16).foldl (fun g k =>
      if mask (ln k.val k.isLt) = 1 ∧ (idx (ln k.val k.isLt)).toNat = (j 0).val then
        (if add then Elt.idxAdd e g (v (ln k.val k.isLt)) else v (ln k.val k.isLt)) else g) (f j) := by
  unfold storeIdx
  show (List.foldl _ f (List.finRange 16)) j = _
  generalize List.finRange 16 = L
  induction L generalizing f with
  | nil => rfl
  | cons k L ih =>
    refine (ih _).trans ?_
    rw [List.foldl_cons]
    congr 1
    show (if mask (ln k.val k.isLt) = 1 then _ else f) j = _
    by_cases hm : mask (ln k.val k.isLt) = 1
    · rw [if_pos hm]
      by_cases hk : (idx (ln k.val k.isLt)).toNat = (j 0).val
      · have hij : idxAt ![idx] h (ln k.val k.isLt) = j := by
          funext a; apply Fin.ext; rw [Fin.eq_zero a]; exact hk
        refine (if_pos fun a => congrArg Fin.val (congrFun hij a).symm).trans ?_
        refine Eq.trans ?_ (if_pos ⟨hm, hk⟩).symm
        rw [← hij]
        rfl
      · refine (if_neg fun hh => hk (hh 0).symm).trans ?_
        rw [if_neg (fun hh => hk hh.2)]
    · rw [if_neg hm, if_neg (fun hh => hm hh.1)]

/-- Where a set lane names the element, the element takes that lane's value. -/
theorem storeIdx_hit (f : Vec Bits ⟨1, ![n]⟩ e) (idx : IVec S16 32) (v : Vec Bits S16 e) (mask : IVec S16 1) (add : Bool)
    (h : ∀ a x, ((![idx] : Fin 1 → IVec S16 32) a x).toNat < (⟨1, ![n]⟩ : Shape).size a)
    (hinj : ∀ k l (hk : k < 16) (hl : l < 16), (idx (ln k hk)).toNat = (idx (ln l hl)).toNat → k = l) (j : (⟨1, ![n]⟩ : Shape).Idx)
    (x : ℕ) (hx : x < 16) (hm : mask (ln x hx) = 1) (hi : (idx (ln x hx)).toNat = (j 0).val) :
    storeIdx (F := Bits) f ![idx] v mask add h j = if add then Elt.idxAdd e (f j) (v (ln x hx)) else v (ln x hx) := by
  rw [storeIdx_eq]
  have key : ∀ (L : List (Fin 16)) (g : Elt Bits e), L.Nodup →
      L.foldl (fun g k =>
      if mask (ln k.val k.isLt) = 1 ∧ (idx (ln k.val k.isLt)).toNat = (j 0).val then
        (if add then Elt.idxAdd e g (v (ln k.val k.isLt)) else v (ln k.val k.isLt)) else g) g
        = if (⟨x, hx⟩ : Fin 16) ∈ L then (if add then Elt.idxAdd e g (v (ln x hx)) else v (ln x hx)) else g := by
    intro L
    induction L with
    | nil => intro g _; simp
    | cons k L ih =>
      intro g hL
      rw [List.foldl_cons, ih _ (List.nodup_cons.mp hL).2]
      have hkL := (List.nodup_cons.mp hL).1
      by_cases hk : k = ⟨x, hx⟩
      · subst hk
        rw [if_neg hkL, if_pos List.mem_cons_self, if_pos ⟨hm, hi⟩]
      · have : ¬ (mask (ln k.val k.isLt) = 1 ∧ (idx (ln k.val k.isLt)).toNat = (j 0).val) := fun hh =>
          hk (Fin.ext (hinj _ _ k.isLt hx (hh.2.trans hi.symm)))
        rw [if_neg this]
        have e2 : ((⟨x, hx⟩ : Fin 16) ∈ k :: L) ↔ (⟨x, hx⟩ : Fin 16) ∈ L := by
          rw [List.mem_cons]; exact ⟨fun hh => hh.resolve_left (Ne.symm hk), .inr⟩
        simp only [e2]
  rw [key _ _ (List.nodup_finRange _), if_pos (List.mem_finRange _)]

/-- Where no set lane names the element, it keeps its value. -/
theorem storeIdx_miss (f : Vec Bits ⟨1, ![n]⟩ e) (idx : IVec S16 32) (v : Vec Bits S16 e) (mask : IVec S16 1) (add : Bool)
    (h : ∀ a x, ((![idx] : Fin 1 → IVec S16 32) a x).toNat < (⟨1, ![n]⟩ : Shape).size a)
    (j : (⟨1, ![n]⟩ : Shape).Idx) (hj : ∀ x, mask x = 1 → (idx x).toNat ≠ (j 0).val) :
    storeIdx (F := Bits) f ![idx] v mask add h j = f j := by
  rw [storeIdx_eq]
  generalize List.finRange 16 = L
  induction L with
  | nil => rfl
  | cons k L ih =>
    rw [List.foldl_cons, if_neg (fun hh => hj _ hh.1 hh.2), ih]

/-- Where every lane names the element and all the lanes hold `t`, one set lane makes the element `t`. -/
theorem storeIdx_one (f : Vec Bits ⟨1, ![n]⟩ .f32) (idx : IVec S16 32) (v : Vec Bits S16 .f32) (mask : IVec S16 1)
    (h : ∀ a x, ((![idx] : Fin 1 → IVec S16 32) a x).toNat < (⟨1, ![n]⟩ : Shape).size a) {j : (⟨1, ![n]⟩ : Shape).Idx} (t : Wd)
    (hv : ∀ x, v x = t) (hj : ∀ x, (idx x).toNat = (j 0).val) (x : ℕ) (hx : x < 16) (hm : mask (ln x hx) = 1) :
    storeIdx (F := Bits) f ![idx] v mask false h j = t := by
  rw [storeIdx_eq]
  have key : ∀ (L : List (Fin 16)) (g : Wd), ((⟨x, hx⟩ : Fin 16) ∈ L ∨ g = t) →
      L.foldl (fun g k =>
      if mask (ln k.val k.isLt) = 1 ∧ (idx (ln k.val k.isLt)).toNat = (j 0).val then
        (if false then Elt.idxAdd .f32 g (v (ln k.val k.isLt)) else v (ln k.val k.isLt)) else g) g = t := by
    intro L
    induction L with
    | nil => intro g hg; exact hg.resolve_left (by simp)
    | cons k L ih =>
      intro g hg
      rw [List.foldl_cons]
      apply ih
      by_cases hk : mask (ln k.val k.isLt) = 1
      · right
        rw [if_pos ⟨hk, hj _⟩]
        exact hv _
      · rw [if_neg (fun hh => hk hh.1)]
        rcases hg with hg | hg
        · rcases List.mem_cons.mp hg with he | he
          · exact absurd (he ▸ hm) hk
          · exact .inl he
        · exact .inr hg
  exact key _ _ (.inl (List.mem_finRange _))

end Pure

/-! ## The operations over the state -/

/-- The vector whose lane `l` holds `f l`. -/
abbrev vec (f : ℕ → Wd) : S16.Idx → Wd := fun x => f (x 0).val

theorem lane_lt (x : S16.Idx) : (x 0).val < 16 := (x 0).isLt

/-- The place of lane `l` of the 16-lane vector `m`. -/
theorem two_at {f : ℕ → ℕ → Wd} {m l k : ℕ} (hl : l < 16) (hk : k = 16 * m + l) : two 16 f k = f m l := by
  subst hk
  show f _ _ = _
  rw [show (16 * m + l) / 16 = m by omega, show (16 * m + l) % 16 = l by omega]

theorem twoc_at {f : ℕ → ℕ → Wd} {m l k : ℕ} (hl : l < 1025) (hk : k = 1025 * m + l) : two 1025 f k = f m l := by
  subst hk
  show f _ _ = _
  rw [show (1025 * m + l) / 1025 = m by omega, show (1025 * m + l) % 1025 = l by omega]

section Ops

variable {off : Fin 1 → ℕ} {m : ℕ} {Q : α → St → Prop}

theorem TW.load_row {inb : ∀ a, off a + S16.size a ≤ S16384.size a} {hl : B.a4.view.LoadsAt (Rect.unit (s := S16384) off S16.size inb).toLoadRect}
    {k : Vec Bits S16 .f32 → Pg i α} (ho : off 0 = 16 * m) (h : TW d i B (k (vec (st.row m))) Q st) :
    TW d i B (.op (.load B.a4 (Rect.unit (s := S16384) off S16.size inb).toLoadRect hl) k) Q st := by
  unfold TW own at h ⊢
  iintro ⟨H4, H⟩
  iapply (pt_load d i) $$ H4
  iintro H4
  have e : (fun x : S16.Idx => two 16 st.row ((Rect.unit (s := S16384) off S16.size inb).toLoadRect.idx x 0).val) = vec (st.row m) := by
    funext x
    refine two_at (lane_lt x) ?_
    show off 0 + 1 * (x 0).val = _
    omega
  rw [← e] at h
  iapply h
  iframe H4 H

theorem TW.load_hist {inb : ∀ a, off a + S16.size a ≤ S4096.size a} {hl : B.a7.view.LoadsAt (Rect.unit (s := S4096) off S16.size inb).toLoadRect}
    {k : Vec Bits S16 .i32 → Pg i α} (ho : off 0 = 16 * m) (h : TW d i B (k (vec (st.hist m))) Q st) :
    TW d i B (.op (.load B.a7 (Rect.unit (s := S4096) off S16.size inb).toLoadRect hl) k) Q st := by
  unfold TW own at h ⊢
  iintro ⟨H4, H5, H6, H7, H⟩
  iapply (pt_load d i) $$ H7
  iintro H7
  have e : (fun x : S16.Idx => two 16 st.hist ((Rect.unit (s := S4096) off S16.size inb).toLoadRect.idx x 0).val) = vec (st.hist m) := by
    funext x
    refine two_at (lane_lt x) ?_
    show off 0 + 1 * (x 0).val = _
    omega
  rw [← e] at h
  iapply h
  iframe H4 H5 H6 H7 H

theorem TW.load_sfx {inb : ∀ a, off a + S16.size a ≤ S4112.size a} {hl : B.a8.view.LoadsAt (Rect.unit (s := S4112) off S16.size inb).toLoadRect}
    {k : Vec Bits S16 .i32 → Pg i α} (ho : off 0 = 16 * m) (h : TW d i B (k (vec (st.sfx m))) Q st) :
    TW d i B (.op (.load B.a8 (Rect.unit (s := S4112) off S16.size inb).toLoadRect hl) k) Q st := by
  unfold TW own at h ⊢
  iintro ⟨H4, H5, H6, H7, H8, H⟩
  iapply (pt_load d i) $$ H8
  iintro H8
  have e : (fun x : S16.Idx => two 16 st.sfx ((Rect.unit (s := S4112) off S16.size inb).toLoadRect.idx x 0).val) = vec (st.sfx m) := by
    funext x
    refine two_at (lane_lt x) ?_
    show off 0 + 1 * (x 0).val = _
    omega
  rw [← e] at h
  iapply h
  iframe H4 H5 H6 H7 H8 H

/-- One vector of a two-coordinate buffer replaced. -/
def setRow (f : ℕ → ℕ → Wd) (m : ℕ) (v : S16.Idx → Wd) : ℕ → ℕ → Wd := fun b l =>
  if b = m then v (ln (l % 16) (Nat.mod_lt _ (by decide))) else f b l

theorem setRow_hit {f : ℕ → ℕ → Wd} {v : S16.Idx → Wd} (x : S16.Idx) : setRow f m v m (x 0).val = v x := by
  unfold setRow
  rw [if_pos rfl]
  congr 1
  funext a
  apply Fin.ext
  rw [Fin.eq_zero a]
  exact Nat.mod_eq_of_lt (lane_lt x)

theorem setRow_miss {m : ℕ} {f : ℕ → ℕ → Wd} {v : S16.Idx → Wd} {b l : ℕ} (h : b ≠ m) : setRow f m v b l = f b l := if_neg h

theorem TW.store_hist {inb : ∀ a, off a + S16.size a ≤ S4096.size a} {v : Vec Bits S16 .i32}
    {hx : (B.a7.access (Rect.unit (s := S4096) off S16.size inb)).Stores Finset.univ} {hm : Finset.univ = Finset.univ ∨ ∀ a, (Rect.unit (s := S4096) off S16.size inb).stride a = 1}
    {k : PUnit → Pg i α} (ho : off 0 = 16 * m) (h : TW d i B (k ⟨⟩) Q { st with hist := setRow st.hist m v }) :
    TW d i B (.op (.store B.a7 (Rect.unit (s := S4096) off S16.size inb) v Finset.univ hx hm) k) Q st := by
  unfold TW own at h ⊢
  iintro ⟨H4, H5, H6, H7, H⟩
  iapply (pt_store d i (fun x => two 16 (setRow st.hist m v) (x 0).val) ?_ ?_) $$ H7
  · intro x
    refine (two_at (lane_lt x) ?_).trans (setRow_hit x)
    show off 0 + 1 * (x 0).val = _
    omega
  · intro y hy
    refine setRow_miss fun hb => hy ?_
    rw [Rect.mem_set_unit]
    intro a
    rw [Fin.eq_zero a]
    show off 0 ≤ (y 0).val ∧ (y 0).val < off 0 + 16
    omega
  iintro H7
  iapply h
  iframe H4 H5 H6 H7 H

theorem TW.store_sfx {inb : ∀ a, off a + S16.size a ≤ S4112.size a} {v : Vec Bits S16 .i32}
    {hx : (B.a8.access (Rect.unit (s := S4112) off S16.size inb)).Stores Finset.univ} {hm : Finset.univ = Finset.univ ∨ ∀ a, (Rect.unit (s := S4112) off S16.size inb).stride a = 1}
    {k : PUnit → Pg i α} (ho : off 0 = 16 * m) (h : TW d i B (k ⟨⟩) Q { st with sfx := setRow st.sfx m v }) :
    TW d i B (.op (.store B.a8 (Rect.unit (s := S4112) off S16.size inb) v Finset.univ hx hm) k) Q st := by
  unfold TW own at h ⊢
  iintro ⟨H4, H5, H6, H7, H8, H⟩
  iapply (pt_store d i (fun x => two 16 (setRow st.sfx m v) (x 0).val) ?_ ?_) $$ H8
  · intro x
    refine (two_at (lane_lt x) ?_).trans (setRow_hit x)
    show off 0 + 1 * (x 0).val = _
    omega
  · intro y hy
    refine setRow_miss fun hb => hy ?_
    rw [Rect.mem_set_unit]
    intro a
    rw [Fin.eq_zero a]
    show off 0 ≤ (y 0).val ∧ (y 0).val < off 0 + 16
    omega
  iintro H8
  iapply h
  iframe H4 H5 H6 H7 H8 H

/-- The gather of entry `j l` of each lane `l`'s candidates. -/
theorem TW.gather_a {idx : IVec S16 32} {hi : ∀ a x, ((![idx] : Fin 1 → IVec S16 32) a x).toNat < S16400.size a} {hl : B.a5.view.Loads}
    {k : Vec Bits S16 .f32 → Pg i α} (j : ℕ → ℕ) (hj : ∀ l < 16, j l < 1025) (ho : ∀ x, (idx x).toNat = 1025 * (x 0).val + j (x 0).val)
    (h : TW d i B (k (vec fun l => st.ca l (j l))) Q st) :
    TW d i B (SparseCore.vectorLoadIdx B.a5 ![idx] hi hl >>= k) Q st := by
  unfold TW own at h ⊢
  iintro ⟨H4, H5, H⟩
  rw [show (SparseCore.vectorLoadIdx B.a5 ![idx] hi hl >>= k)
    = .op (.load B.a5 (.whole S16400) (View.loadsAt_whole hl)) fun f => k (loadIdx f ![idx] hi) from rfl]
  iapply (pt_load d i) $$ H5
  iintro H5
  have e : loadIdx (F := Bits) (e := .f32) (fun x : S16400.Idx => two 1025 st.ca (((LoadRect.whole S16400).idx x) 0).val) ![idx] hi = vec fun l => st.ca l (j l) := by
    funext x
    refine twoc_at (hj _ (lane_lt x)) ?_
    show 0 + 1 * (idx x).toNat = _
    rw [ho]; omega
  rw [← e] at h
  iapply h
  iframe H4 H5 H

theorem TW.gather_b {idx : IVec S16 32} {hi : ∀ a x, ((![idx] : Fin 1 → IVec S16 32) a x).toNat < S16400.size a} {hl : B.a6.view.Loads}
    {k : Vec Bits S16 .f32 → Pg i α} (j : ℕ → ℕ) (hj : ∀ l < 16, j l < 1025) (ho : ∀ x, (idx x).toNat = 1025 * (x 0).val + j (x 0).val)
    (h : TW d i B (k (vec fun l => st.cb l (j l))) Q st) :
    TW d i B (SparseCore.vectorLoadIdx B.a6 ![idx] hi hl >>= k) Q st := by
  unfold TW own at h ⊢
  iintro ⟨H4, H5, H6, H⟩
  rw [show (SparseCore.vectorLoadIdx B.a6 ![idx] hi hl >>= k)
    = .op (.load B.a6 (.whole S16400) (View.loadsAt_whole hl)) fun f => k (loadIdx f ![idx] hi) from rfl]
  iapply (pt_load d i) $$ H6
  iintro H6
  have e : loadIdx (F := Bits) (e := .f32) (fun x : S16400.Idx => two 1025 st.cb (((LoadRect.whole S16400).idx x) 0).val) ![idx] hi = vec fun l => st.cb l (j l) := by
    funext x
    refine twoc_at (hj _ (lane_lt x)) ?_
    show 0 + 1 * (idx x).toNat = _
    rw [ho]; omega
  rw [← e] at h
  iapply h
  iframe H4 H5 H6 H

/-- The indexed store of one memref, at the head of a program. -/
theorem pt_storeIdx {n : ℕ} {e : EltTy} {m : Memref sig .scVector .vmem ⟨1, ![n]⟩ e} {g : (⟨1, ![n]⟩ : Shape).Idx → Elt Bits e}
    {idx : IVec S16 32} {v : Vec Bits S16 e} {mask : IVec S16 1} {add : Bool}
    {hi : ∀ a x, ((![idx] : Fin 1 → IVec S16 32) a x).toNat < (⟨1, ![n]⟩ : Shape).size a} {hs : (m.access (.whole ⟨1, ![n]⟩)).Stores Finset.univ}
    {k : PUnit → Pg i α} {Q : α → sProp 𝕄} (g' : (⟨1, ![n]⟩ : Shape).Idx → Elt Bits e) (h : storeIdx (F := Bits) g ![idx] v mask add hi = g') :
    pt d i m g ⊢ iprop((pt d i m g' -∗ W d i (k ⟨⟩) Q) -∗ W d i (SparseCore.vectorStoreIdx m ![idx] v mask add hi hs >>= k) Q) := by
  iintro H HK
  rw [show (SparseCore.vectorStoreIdx m ![idx] v mask add hi hs >>= k)
    = .op (.load m (.whole _) (View.loadsAt_rect hs.loads)) fun f =>
        .op (.store m (.whole _) (storeIdx f ![idx] v mask add hi) Finset.univ hs (.inl rfl)) k from rfl]
  iapply (pt_load d i) $$ H
  iintro H
  have e1 : (fun x => g ((LoadRect.whole ⟨1, ![n]⟩).idx x)) = g := by
    funext x; congr 1; exact Rect.emb_whole_apply _ x
  rw [e1, h]
  iapply (pt_store d i g' ?_ ?_) $$ H
  · intro x; congr 1; exact Rect.emb_whole_apply _ x
  · intro y hy; rw [Rect.set_whole] at hy; exact absurd (Finset.mem_univ y) hy
  iexact HK

/-- What an accumulating scatter of ones makes of the histogram: bucket `b l` of every set lane `l` counts one more. -/
def bump (f : ℕ → ℕ → Wd) (b : ℕ → ℕ) (ms : ℕ → Prop) [DecidablePred ms] : ℕ → ℕ → Wd := fun c l =>
  if ms l ∧ b l = c then f c l + 1#32 else f c l

theorem TW.scatter_hist {idx : IVec S16 32} {v : Vec Bits S16 .i32} {mask : IVec S16 1}
    {hi : ∀ a x, ((![idx] : Fin 1 → IVec S16 32) a x).toNat < S4096.size a} {hs : (B.a7.access (.whole S4096)).Stores Finset.univ}
    {k : PUnit → Pg i α} (b : ℕ → ℕ) (ms : ℕ → Prop) [DecidablePred ms] (hv : ∀ x, v x = 1#32)
    (ho : ∀ x, (idx x).toNat = 16 * b (x 0).val + (x 0).val) (hms : ∀ x, mask x = 1 ↔ ms (x 0).val)
    (h : TW d i B (k ⟨⟩) Q { st with hist := bump st.hist b ms }) :
    TW d i B (SparseCore.vectorStoreIdx B.a7 ![idx] v mask true hi hs >>= k) Q st := by
  unfold TW own at h ⊢
  iintro ⟨H4, H5, H6, H7, H⟩
  iapply (pt_storeIdx (fun x => two 16 (bump st.hist b ms) (x 0).val) ?_) $$ H7
  · funext j
    have hlt : (j 0).val % 16 < 16 := Nat.mod_lt _ (by decide)
    show _ = bump st.hist b ms ((j 0).val / 16) ((j 0).val % 16)
    unfold bump
    split
    · rename_i hc
      have hx := ho (ln ((j 0).val % 16) hlt)
      rw [storeIdx_hit _ _ _ _ _ _ ?_ j ((j 0).val % 16) hlt ((hms _).mpr hc.1) ?_, hv]
      · rfl
      · intro k l hk hl hxy
        have h1 : _ = 16 * b k + k := ho (ln k hk)
        have h2 : _ = 16 * b l + l := ho (ln l hl)
        omega
      · rw [hx]
        show 16 * b ((j 0).val % 16) + (j 0).val % 16 = _
        rw [hc.2]; omega
    · rename_i hc
      rw [storeIdx_miss]
      intro x hm he
      have h1 := ho x; have h3 := lane_lt x
      have h5 : (j 0).val % 16 = (x 0).val := by omega
      refine hc ⟨?_, ?_⟩
      · rw [h5]; exact (hms x).mp hm
      · rw [h5]; omega
  iintro H7
  iapply h
  iframe H4 H5 H6 H7 H

/-- What a scatter of one element per set lane makes of the candidates: entry `o l` of lane `l` becomes `v l`. -/
def push (f : ℕ → ℕ → Wd) (o : ℕ → ℕ) (ms : ℕ → Prop) [DecidablePred ms] (v : ℕ → Wd) : ℕ → ℕ → Wd := fun l c =>
  if ms l ∧ o l = c then v l else f l c

theorem storeIdx_push {f : ℕ → ℕ → Wd} {idx : IVec S16 32} {v : ℕ → Wd} {mask : IVec S16 1}
    {hi : ∀ a x, ((![idx] : Fin 1 → IVec S16 32) a x).toNat < S16400.size a} (o : ℕ → ℕ) (ms : ℕ → Prop) [DecidablePred ms]
    (hb : ∀ l < 16, o l < 1025) (ho : ∀ x, (idx x).toNat = 1025 * (x 0).val + o (x 0).val) (hms : ∀ x, mask x = 1 ↔ ms (x 0).val) :
    storeIdx (F := Bits) (e := .f32) (fun x : S16400.Idx => two 1025 f (x 0).val) ![idx] (vec v) mask false hi
      = fun x => two 1025 (push f o ms v) (x 0).val := by
  funext j
  have hj : (j 0).val < 16400 := (j 0).isLt
  have hlt : (j 0).val / 1025 < 16 := by omega
  show _ = push f o ms v ((j 0).val / 1025) ((j 0).val % 1025)
  unfold push
  split
  · rename_i hc
    have hx := ho (ln ((j 0).val / 1025) hlt)
    rw [storeIdx_hit _ _ _ _ _ _ ?_ j ((j 0).val / 1025) hlt ((hms _).mpr hc.1) ?_]
    · rfl
    · intro k l hk hl hxy
      have h1 : _ = 1025 * k + o k := ho (ln k hk)
      have h2 : _ = 1025 * l + o l := ho (ln l hl)
      have h3 := hb _ hk; have h4 := hb _ hl
      omega
    · rw [hx]
      show 1025 * ((j 0).val / 1025) + o ((j 0).val / 1025) = _
      rw [hc.2]; omega
  · rename_i hc
    rw [storeIdx_miss]
    intro x hm he
    have h1 := ho x; have h3 := hb _ (lane_lt x)
    have h5 : (j 0).val / 1025 = (x 0).val := by omega
    refine hc ⟨?_, ?_⟩
    · rw [h5]; exact (hms x).mp hm
    · rw [h5]; omega

theorem TW.scatter_a {idx : IVec S16 32} {v : Vec Bits S16 .f32} {mask : IVec S16 1}
    {hi : ∀ a x, ((![idx] : Fin 1 → IVec S16 32) a x).toNat < S16400.size a} {hs : (B.a5.access (.whole S16400)).Stores Finset.univ}
    {k : PUnit → Pg i α} (o : ℕ → ℕ) (ms : ℕ → Prop) [DecidablePred ms] (w : ℕ → Wd) (hw : v = vec w)
    (hb : ∀ l < 16, o l < 1025) (ho : ∀ x, (idx x).toNat = 1025 * (x 0).val + o (x 0).val) (hms : ∀ x, mask x = 1 ↔ ms (x 0).val)
    (h : TW d i B (k ⟨⟩) Q { st with ca := push st.ca o ms w }) :
    TW d i B (SparseCore.vectorStoreIdx B.a5 ![idx] v mask false hi hs >>= k) Q st := by
  subst hw
  unfold TW own at h ⊢
  iintro ⟨H4, H5, H⟩
  iapply (pt_storeIdx (fun x => two 1025 (push st.ca o ms w) (x 0).val) (storeIdx_push o ms hb ho hms)) $$ H5
  iintro H5
  iapply h
  iframe H4 H5 H

theorem TW.scatter_b {idx : IVec S16 32} {v : Vec Bits S16 .f32} {mask : IVec S16 1}
    {hi : ∀ a x, ((![idx] : Fin 1 → IVec S16 32) a x).toNat < S16400.size a} {hs : (B.a6.access (.whole S16400)).Stores Finset.univ}
    {k : PUnit → Pg i α} (o : ℕ → ℕ) (ms : ℕ → Prop) [DecidablePred ms] (w : ℕ → Wd) (hw : v = vec w)
    (hb : ∀ l < 16, o l < 1025) (ho : ∀ x, (idx x).toNat = 1025 * (x 0).val + o (x 0).val) (hms : ∀ x, mask x = 1 ↔ ms (x 0).val)
    (h : TW d i B (k ⟨⟩) Q { st with cb := push st.cb o ms w }) :
    TW d i B (SparseCore.vectorStoreIdx B.a6 ![idx] v mask false hi hs >>= k) Q st := by
  subst hw
  unfold TW own at h ⊢
  iintro ⟨H4, H5, H6, H⟩
  iapply (pt_storeIdx (fun x => two 1025 (push st.cb o ms w) (x 0).val) (storeIdx_push o ms hb ho hms)) $$ H6
  iintro H6
  iapply h
  iframe H4 H5 H6 H

/-- The store of one row's threshold: lane 0 of `v`, at place `r`. -/
theorem TW.scatter_t {idx : IVec S16 32} {v : Vec Bits S16 .f32} {mask : IVec S16 1}
    {hi : ∀ a x, ((![idx] : Fin 1 → IVec S16 32) a x).toNat < S64.size a} {hs : (B.a9.access (.whole S64)).Stores Finset.univ}
    {k : PUnit → Pg i α} (r : ℕ) (t : Wd) (hv : ∀ x, v x = t) (ho : ∀ x, (idx x).toNat = r) (hms : ∀ x, mask x = 1 ↔ (x 0).val = 0)
    (h : TW d i B (k ⟨⟩) Q { st with tb := fun n => if n = r then t else st.tb n }) :
    TW d i B (SparseCore.vectorStoreIdx B.a9 ![idx] v mask false hi hs >>= k) Q st := by
  unfold TW own at h ⊢
  iintro ⟨H4, H5, H6, H7, H8, H9⟩
  iapply (pt_storeIdx (fun x => (fun n => if n = r then t else st.tb n) (x 0).val) ?_) $$ H9
  · funext j
    show _ = if (j 0).val = r then t else st.tb (j 0).val
    split
    · rename_i hc
      exact storeIdx_one _ _ _ _ _ t hv (fun x => (ho x).trans hc.symm) 0 (by decide) ((hms _).mpr rfl)
    · rename_i hc
      rw [storeIdx_miss]
      intro x hm he
      exact hc (he.symm.trans (ho x))
  iintro H9
  iapply h
  iframe H4 H5 H6 H7 H8 H9

end Ops

end Cert.Proof.Select
-- ==== Proof.Words.lean ====
/-
  Words and counts: the element-wise facts of the kernel's index arithmetic at 32-bit words, and the arithmetic of the
  radix selection — histograms, suffix counts, and the step from one digit of the threshold to the next.
-/
module

public import proofs.«01_k».proof.Proof.Bufs

@[expose] public section

noncomputable section

namespace Cert.Proof.Select

open Idealize.ShloMosaic Cert.Kernel

/-! ## Words -/

theorem shr_toNat (w : Wd) (n : ℕ) (hn : n < 32) : (IntOp.shrui .vector w (BitVec.ofNat 32 n)).toNat = w.toNat / 2 ^ n := by
  have h1 : (BitVec.ofNat 32 n).toNat = n := by rw [BitVec.toNat_ofNat]; exact Nat.mod_eq_of_lt (by omega)
  unfold IntOp.shrui
  rw [if_pos (by rw [h1]; exact hn), BitVec.ushiftRight_eq', h1, BitVec.toNat_ushiftRight, Nat.shiftRight_eq_div_pow]

theorem and_toNat (w m : Wd) (n : ℕ) (hm : m.toNat = 2 ^ n - 1) : (IntOp.andi w m).toNat = w.toNat % 2 ^ n := by
  unfold IntOp.andi
  rw [BitVec.toNat_and, hm, Nat.and_two_pow_sub_one_eq_mod]

/-- Bucket `q`, lane `l` in the histogram: place `16 q + l`. -/
theorem idx_toNat (q l : Wd) (hq : q.toNat < 256) (hl : l.toNat < 16) :
    (IntOp.ori (IntOp.shli .vector q 4#32) l).toNat = 16 * q.toNat + l.toNat := by
  unfold IntOp.ori IntOp.shli
  rw [if_pos (by decide), BitVec.toNat_or, BitVec.shiftLeft_eq', BitVec.toNat_shiftLeft]
  have h1 : q.toNat <<< (4#32).toNat % 2 ^ 32 = q.toNat <<< 4 := by
    rw [show (4#32).toNat = 4 from rfl, Nat.shiftLeft_eq]; omega
  rw [h1, ← Nat.shiftLeft_add_eq_or_of_lt (by omega), Nat.shiftLeft_eq]
  omega

/-- Entry `j` of lane `l`: place `1025 l + j`. -/
theorem cand_toNat (l j : Wd) (hl : l.toNat < 16) (hj : j.toNat < 1025) :
    (IntOp.addi (IntOp.muli l 1025#32) j).toNat = 1025 * l.toNat + j.toNat := by
  unfold IntOp.addi IntOp.muli
  rw [BitVec.toNat_add, BitVec.toNat_mul, show (1025#32).toNat = 1025 from rfl]
  omega

theorem ofBool_eq_one {b : Bool} : BitVec.ofBool b = 1 ↔ b = true := by cases b <;> decide

theorem slt_iff (a b : Wd) (ha : a.toNat < 2 ^ 31) (hb : b.toNat < 2 ^ 31) : IntOp.cmpi .slt a b = 1 ↔ a.toNat < b.toNat := by
  unfold IntOp.cmpi
  rw [ofBool_eq_one]
  dsimp only
  rw [BitVec.slt_iff_toInt_lt, BitVec.toInt_eq_toNat_of_lt (by omega), BitVec.toInt_eq_toNat_of_lt (by omega)]
  omega

theorem sge_iff (a b : Wd) (ha : a.toNat < 2 ^ 31) (hb : b.toNat < 2 ^ 31) : IntOp.cmpi .sge a b = 1 ↔ b.toNat ≤ a.toNat := by
  unfold IntOp.cmpi
  rw [ofBool_eq_one]
  dsimp only
  rw [BitVec.sle_iff_toInt_le, BitVec.toInt_eq_toNat_of_lt (by omega), BitVec.toInt_eq_toNat_of_lt (by omega)]
  omega

theorem eq_iff (a b : Wd) : IntOp.cmpi .eq a b = 1 ↔ a.toNat = b.toNat := by
  unfold IntOp.cmpi
  rw [ofBool_eq_one]
  dsimp only
  rw [beq_iff_eq]
  exact ⟨fun h => h ▸ rfl, BitVec.eq_of_toNat_eq⟩

/-- The next free place of a lane: one further where the mask is set. -/
theorem next_toNat (o : Wd) (m : BitVec 1) (ho : o.toNat < 2000) :
    (IntOp.addi o (m.setWidth 32)).toNat = if m = 1 then o.toNat + 1 else o.toNat := by
  unfold IntOp.addi
  have : m = 0 ∨ m = 1 := by revert m; decide
  rcases this with rfl | rfl
  · rw [if_neg (by decide), BitVec.toNat_add, show ((0 : BitVec 1).setWidth 32).toNat = 0 from rfl]; omega
  · rw [if_pos rfl, BitVec.toNat_add, show ((1 : BitVec 1).setWidth 32).toNat = 1 from rfl]; omega

theorem and_one_iff (a b : BitVec 1) : IntOp.andi a b = 1 ↔ a = 1 ∧ b = 1 := by
  revert a b; decide

theorem ofNat_toNat {n : ℕ} (h : n < 2 ^ 32) : (BitVec.ofNat 32 n).toNat = n := by
  rw [BitVec.toNat_ofNat]; exact Nat.mod_eq_of_lt h

/-! ## Sums and maxima over the lanes -/

theorem scan_lanes : ((List.finRange 16).filter fun k : Fin 16 => decide (0 < k.val ∧ k.val ≤ 15)) = [1, 2, 3, 4, 5, 6, 7, 8, 9, 10, 11, 12, 13, 14, 15] := by
  decide

theorem scan_at (kind : ScanKind) (v : IVec S16 32) (x : S16.Idx) (n : ℕ) (hx : (x 0).val = n) :
    scan kind v x = ((List.finRange 16).filter fun k : Fin 16 => decide (0 < k.val ∧ k.val ≤ n)).foldl
      (fun r k => kind.step r (v (ln k.val k.isLt))) (v (ln 0 (by decide))) := by
  subst hx
  unfold scan
  rfl

/-- The last lane of a running reduction: the fold over the lanes in order. -/
theorem scan_last (kind : ScanKind) (v : IVec S16 32) (hp : ∀ a, (![15] : Fin 1 → ℕ) a < S16.size a) :
    extractAt ![15] (scan kind v) hp
      = ([1, 2, 3, 4, 5, 6, 7, 8, 9, 10, 11, 12, 13, 14, 15] : List (Fin 16)).foldl (fun r k => kind.step r (v (ln k.val k.isLt))) (v (ln 0 (by decide))) := by
  unfold extractAt
  rw [scan_at kind v _ 15 rfl, scan_lanes]

/-- The last lane of the running sum: the sum of all the lanes. -/
theorem sum_lanes (v : IVec S16 32) (c : ℕ → ℕ) (h : ∀ x, v x = BitVec.ofNat 32 (c (x 0).val))
    (hp : ∀ a, (![15] : Fin 1 → ℕ) a < S16.size a) :
    extractAt ![15] (scan .sum v) hp = BitVec.ofNat 32 (((List.range 16).map c).sum) := by
  rw [scan_last]
  have key : ∀ (L : List (Fin 16)) (n : ℕ), L.foldl (fun r k => ScanKind.sum.step r (v (ln k.val k.isLt))) (BitVec.ofNat 32 n)
      = BitVec.ofNat 32 (n + (L.map fun k => c k.val).sum) := by
    intro L
    induction L with
    | nil => intro n; simp
    | cons k L ih =>
      intro n
      rw [List.foldl_cons, List.map_cons, List.sum_cons, ← Nat.add_assoc, ← ih]
      congr 1
      rw [h]
      exact (BitVec.ofNat_add _ _).symm
  rw [h, key]
  congr 1

theorem flip_sign : ∀ n : Fin 1025, (BitVec.ofNat 32 n.val ^^^ 2147483648#32) = BitVec.ofNat 32 (2147483648 + n.val)
    ∧ (BitVec.ofNat 32 (2147483648 + n.val) ^^^ 2147483648#32) = BitVec.ofNat 32 n.val := by decide +kernel

/-- The last lane of the running maximum, the sign bit flipped before and after: a bound of all the lanes. -/
theorem max_lanes (v : IVec S16 32) (hv : ∀ x, (v x).toNat ≤ 1024) (hp : ∀ a, (![15] : Fin 1 → ℕ) a < S16.size a) :
    ∃ m ≤ 1024, extractAt ![15] (xori (scan .max (xori v (broadcast S16 2147483648#32))) (broadcast S16 2147483648#32)) hp = BitVec.ofNat 32 m
      ∧ ∀ x, (v x).toNat ≤ m := by
  have h0 : ∀ k, (xori v (broadcast S16 2147483648#32)) k = BitVec.ofNat 32 (2147483648 + (v k).toNat) := by
    intro k
    have h1 := (flip_sign ⟨(v k).toNat, by have := hv k; omega⟩).1
    simp only [BitVec.ofNat_toNat, BitVec.setWidth_eq] at h1
    exact h1
  have key : ∀ (L : List (Fin 16)) (n : ℕ), n ≤ 1024 →
      ∃ m ≤ 1024, n ≤ m ∧ (∀ k ∈ L, (v (ln k.val k.isLt)).toNat ≤ m) ∧
        L.foldl (fun r k => ScanKind.max.step r (xori v (broadcast S16 2147483648#32) (ln k.val k.isLt))) (BitVec.ofNat 32 (2147483648 + n))
          = BitVec.ofNat 32 (2147483648 + m) := by
    intro L
    induction L with
    | nil => exact fun n hn => ⟨n, hn, le_refl _, by simp, rfl⟩
    | cons k L ih =>
      intro n hn
      have hk := hv (ln k.val k.isLt)
      obtain ⟨m, hm, hnm, hL, he⟩ := ih (max n (v (ln k.val k.isLt)).toNat) (by omega)
      refine ⟨m, hm, by omega, ?_, ?_⟩
      · intro j hj
        rcases List.mem_cons.mp hj with rfl | hj
        · omega
        · exact hL j hj
      · rw [List.foldl_cons, ← he]
        congr 1
        rw [h0]
        show (if _ then _ else _) = _
        split
        · rename_i hlt
          rw [BitVec.ult_iff_lt, BitVec.lt_def, ofNat_toNat (by omega), ofNat_toNat (by omega)] at hlt
          congr 1; omega
        · rename_i hlt
          rw [BitVec.ult_iff_lt, BitVec.lt_def, ofNat_toNat (by omega), ofNat_toNat (by omega)] at hlt
          congr 1; omega
  obtain ⟨m, hm, hz, hL, he⟩ := key [1, 2, 3, 4, 5, 6, 7, 8, 9, 10, 11, 12, 13, 14, 15] (v (ln 0 (by decide))).toNat (hv _)
  refine ⟨m, hm, ?_, fun x => ?_⟩
  · refine Eq.trans ?_ (flip_sign ⟨m, by omega⟩).2
    refine Eq.trans ?_ (congrArg (· ^^^ 2147483648#32) he)
    rw [← h0]
    exact congrArg (· ^^^ 2147483648#32) (scan_last .max _ hp)
  have hxl : x = ln (x 0).val (lane_lt x) := by
    funext a; rw [Fin.eq_zero a]; rfl
  by_cases h : (x 0).val = 0
  · have : x = ln 0 (by decide) := by
      funext a; rw [Fin.eq_zero a]; exact Fin.ext h
    rw [this]; exact hz
  · have hmem : (⟨(x 0).val, lane_lt x⟩ : Fin 16) ∈ ([1, 2, 3, 4, 5, 6, 7, 8, 9, 10, 11, 12, 13, 14, 15] : List (Fin 16)) := by
      have : ∀ k : Fin 16, k.val ≠ 0 → k ∈ ([1, 2, 3, 4, 5, 6, 7, 8, 9, 10, 11, 12, 13, 14, 15] : List (Fin 16)) := by decide
      exact this _ h
    have := hL _ hmem
    rw [hxl]; exact this

end Cert.Proof.Select
-- ==== Proof.Counts.lean ====
/-
  Counts over sixteen lists of words, one per lane: what a histogram, its suffix sums and the candidates' places hold.
-/
module

public import proofs.«01_k».proof.Proof.Words

@[expose] public section

noncomputable section

namespace Cert.Proof.Select

open Idealize.ShloMosaic Cert.Kernel

/-- How many of a lane's words lie in bucket `b`. -/
def inB (key : Wd → ℕ) (b : ℕ) (L : List Wd) : ℕ := L.countP fun u => decide (key u = b)

/-- How many of a lane's words lie in bucket `b` or above. -/
def geB (key : Wd → ℕ) (b : ℕ) (L : List Wd) : ℕ := L.countP fun u => decide (b ≤ key u)

theorem geB_split (key : Wd → ℕ) (b : ℕ) (L : List Wd) : geB key b L = geB key (b + 1) L + inB key b L := by
  unfold geB inB
  induction L with
  | nil => rfl
  | cons u L ih =>
    simp only [List.countP_cons, ih, decide_eq_true_eq]
    rcases Nat.lt_trichotomy (key u) b with h | h | h
    · rw [if_neg (by omega), if_neg (by omega), if_neg (by omega)]; rfl
    · rw [if_pos (by omega), if_neg (by omega), if_pos (by omega)]; omega
    · rw [if_pos (by omega), if_pos (by omega), if_neg (by omega)]; omega

theorem geB_top {key : Wd → ℕ} {b : ℕ} {L : List Wd} (h : ∀ u ∈ L, key u < b) : geB key b L = 0 := by
  unfold geB
  rw [List.countP_eq_zero]
  intro u hu
  have := h u hu
  simp only [decide_eq_true_eq]
  omega

def HistZero (h : ℕ → ℕ → Wd) : Prop := ∀ b < 256, ∀ l < 16, h b l = 0#32

/-- `h` counts each lane's words by bucket. -/
def HistIs (key : Wd → ℕ) (Ls : ℕ → List Wd) (h : ℕ → ℕ → Wd) : Prop :=
  ∀ b < 256, ∀ l < 16, h b l = BitVec.ofNat 32 (inB key b (Ls l))

/-- `f` holds each lane's words in order. -/
def Held (f : ℕ → ℕ → Wd) (Ls : ℕ → List Wd) : Prop := ∀ l < 16, ∀ j (h : j < (Ls l).length), f l j = (Ls l)[j]

/-- From `c` up, `s` holds each lane's suffix counts. -/
def SfxIs (key : Wd → ℕ) (Ls : ℕ → List Wd) (c : ℕ) (s : ℕ → ℕ → Wd) : Prop :=
  ∀ b, c ≤ b → b ≤ 256 → ∀ l < 16, s b l = BitVec.ofNat 32 (geB key b (Ls l))

theorem HistIs.nil {key : Wd → ℕ} {h : ℕ → ℕ → Wd} (hz : HistZero h) : HistIs key (fun _ => []) h := by
  intro b hb l hl
  rw [hz b hb l hl]
  rfl

theorem HistIs.congr {key : Wd → ℕ} {h : ℕ → ℕ → Wd} {Ls Ls' : ℕ → List Wd} (hh : HistIs key Ls h) (e : ∀ l < 16, Ls' l = Ls l) : HistIs key Ls' h := by
  intro b hb l hl
  rw [hh b hb l hl, e l hl]

theorem HistIs.bump {key : Wd → ℕ} {h : ℕ → ℕ → Wd} {Ls Ls' : ℕ → List Wd} (hh : HistIs key Ls h) (b : ℕ → ℕ) (ms : ℕ → Prop) [DecidablePred ms]
    (w : ℕ → Wd) (hb : ∀ l < 16, ms l → b l = key (w l)) (hL : ∀ l < 16, Ls' l = if ms l then Ls l ++ [w l] else Ls l) :
    HistIs key Ls' (bump h b ms) := by
  intro c hc l hl
  rw [hL l hl]
  unfold Select.bump
  by_cases hm : ms l
  · rw [if_pos hm]
    unfold inB
    rw [List.countP_append, List.countP_singleton]
    by_cases e : b l = c
    · rw [if_pos ⟨hm, e⟩, hh c hc l hl, if_pos (by rw [← hb l hl hm]; exact decide_eq_true e)]
      exact (BitVec.ofNat_add _ _).symm
    · rw [if_neg (fun h => e h.2), hh c hc l hl, if_neg (by rw [← hb l hl hm]; simpa using e)]
      rfl
  · rw [if_neg hm, if_neg (fun h => hm h.1), hh c hc l hl]

theorem Held.push {f : ℕ → ℕ → Wd} {Ls Ls' : ℕ → List Wd} (hf : Held f Ls) (o : ℕ → ℕ) (ms : ℕ → Prop) [DecidablePred ms] (w : ℕ → Wd)
    (ho : ∀ l < 16, o l = (Ls l).length) (hL : ∀ l < 16, Ls' l = if ms l then Ls l ++ [w l] else Ls l) : Held (push f o ms w) Ls' := by
  intro l hl j hj
  have e := hL l hl
  unfold Select.push
  by_cases hm : ms l
  · rw [if_pos hm] at e
    simp only [e, List.getElem_append]
    have hj' : j < (Ls l).length + 1 := by rw [e] at hj; simpa using hj
    by_cases hc : o l = j
    · rw [if_pos ⟨hm, hc⟩, dif_neg (by have := ho l hl; omega)]
      simp
    · rw [if_neg (fun h => hc h.2), dif_pos (by have := ho l hl; omega)]
      exact hf l hl j _
  · rw [if_neg hm] at e
    simp only [e]
    rw [if_neg (fun h => hm h.1)]
    exact hf l hl j _

/-- The first `n` words of lane `l` of a row. -/
def firsts (row : ℕ → ℕ → Wd) (n : ℕ) (l : ℕ) : List Wd := (List.range n).map fun k => row k l

theorem firsts_succ (row : ℕ → ℕ → Wd) (n l : ℕ) : firsts row (n + 1) l = firsts row n l ++ [row n l] := by
  unfold firsts
  rw [List.range_succ, List.map_append]
  rfl

theorem take_step (L : List Wd) (m : ℕ) (w : Wd) (hw : ∀ h : m < L.length, w = L[m]) :
    L.take (m + 1) = if m < L.length then L.take m ++ [w] else L.take m := by
  split
  · rename_i h
    rw [hw h, List.take_append_getElem]
  · rw [List.take_of_length_le (by omega), List.take_of_length_le (by omega)]

/-- The scan after its first `n` buckets, from the top: `acc` is the running count, the suffix counts are in from
    `256 - n` up, where the histogram is cleared. -/
structure ScanI (key : Wd → ℕ) (Ls : ℕ → List Wd) (n : ℕ) (h s : ℕ → ℕ → Wd) (acc : IVec S16 32) : Prop where
  acc : ∀ x, acc x = BitVec.ofNat 32 (geB key (256 - n) (Ls (x 0).val))
  sfx : SfxIs key Ls (256 - n) s
  zero : ∀ b, 256 - n ≤ b → b < 256 → ∀ l < 16, h b l = 0#32
  hist : ∀ b < 256 - n, ∀ l < 16, h b l = BitVec.ofNat 32 (inB key b (Ls l))

theorem setRow_at {f : ℕ → ℕ → Wd} {m : ℕ} {v : S16.Idx → Wd} {l : ℕ} (hl : l < 16) : setRow f m v m l = v (ln l hl) :=
  setRow_hit (ln l hl)

theorem setRow_other {f : ℕ → ℕ → Wd} {m b : ℕ} {v : S16.Idx → Wd} {l : ℕ} (hb : b ≠ m) : setRow f m v b l = f b l := by
  unfold setRow
  exact if_neg hb

theorem ScanI.start {key : Wd → ℕ} {Ls : ℕ → List Wd} {h s : ℕ → ℕ → Wd} {acc : IVec S16 32} (hk : ∀ l < 16, ∀ u ∈ Ls l, key u < 256)
    (hh : HistIs key Ls h) (hs : ∀ l < 16, s 256 l = 0#32) (ha : ∀ x, acc x = 0#32) : ScanI key Ls 0 h s acc where
  acc x := by rw [ha, geB_top (hk _ (lane_lt x))]
  sfx b h1 h2 l hl := by
    have : b = 256 := by omega
    subst this
    rw [hs l hl, geB_top (hk l hl)]
  zero b h1 h2 := by omega
  hist := hh

theorem ScanI.step {key : Wd → ℕ} {Ls : ℕ → List Wd} {n : ℕ} {h s : ℕ → ℕ → Wd} {acc acc' z : IVec S16 32} (hI : ScanI key Ls n h s acc) {c : ℕ}
    (hn : n < 256) (hc : c = 255 - n) (ha : ∀ x, acc' x = acc x + h c (x 0).val) (hz : ∀ x, z x = 0#32) :
    ScanI key Ls (n + 1) (setRow h c z) (setRow s c acc') acc' := by
  have e : ∀ x, acc' x = BitVec.ofNat 32 (geB key (256 - (n + 1)) (Ls (x 0).val)) := by
    intro x
    rw [ha, hI.acc, hI.hist c (by omega) _ (lane_lt x), ← BitVec.ofNat_add]
    congr 1
    rw [show 256 - (n + 1) = c by omega, show 256 - n = c + 1 by omega]
    exact (geB_split _ _ _).symm
  refine ⟨e, ?_, ?_, ?_⟩
  · intro b h1 h2 l hl
    by_cases hb : b = c
    · subst hb
      rw [setRow_at hl, e, show 256 - (n + 1) = b by omega]
      rfl
    · rw [setRow_other hb]
      exact hI.sfx b (by omega) h2 l hl
  · intro b h1 h2 l hl
    by_cases hb : b = c
    · subst hb
      rw [setRow_at hl, hz]
    · rw [setRow_other hb]
      exact hI.zero b (by omega) h2 l hl
  · intro b h1 l hl
    rw [setRow_other (by omega)]
    exact hI.hist b (by omega) l hl

/-! ## Totals over the lanes -/

def tot (p : Wd → Bool) (Ls : ℕ → List Wd) : ℕ := ((List.range 16).map fun l => (Ls l).countP p).sum

theorem tot_congr {p q : Wd → Bool} {Ls Ls' : ℕ → List Wd} (h : ∀ l < 16, (Ls l).countP p = (Ls' l).countP q) : tot p Ls = tot q Ls' := by
  unfold tot
  congr 1
  refine List.map_congr_left fun l hl => h l (List.mem_range.mp hl)

theorem tot_add {p q r : Wd → Bool} {Ls Ls' Ls'' : ℕ → List Wd} (h : ∀ l < 16, (Ls l).countP p = (Ls' l).countP q + (Ls'' l).countP r) :
    tot p Ls = tot q Ls' + tot r Ls'' := by
  unfold tot
  rw [← List.sum_map_add]
  congr 1
  refine List.map_congr_left fun l hl => h l (List.mem_range.mp hl)

theorem tot_mem {p : Wd → Bool} {Ls : ℕ → List Wd} (h : 0 < tot p Ls) : ∃ l < 16, ∃ u ∈ Ls l, p u = true := by
  by_contra hn
  push Not at hn
  have : tot p Ls = 0 := by
    unfold tot
    rw [List.sum_eq_zero]
    intro x hx
    obtain ⟨l, hl, rfl⟩ := List.mem_map.mp hx
    rw [List.countP_eq_zero]
    intro u hu
    exact hn l (List.mem_range.mp hl) u hu
  omega

/-- The number of words in bucket `b` or above, all lanes together. -/
def geT (key : Wd → ℕ) (b : ℕ) (Ls : ℕ → List Wd) : ℕ := tot (fun u => decide (b ≤ key u)) Ls

theorem geT_split (key : Wd → ℕ) (b : ℕ) (Ls : ℕ → List Wd) : geT key b Ls = geT key (b + 1) Ls + tot (fun u => decide (key u = b)) Ls :=
  tot_add fun l _ => geB_split key b (Ls l)

theorem countP_split {p q r : Wd → Bool} (L : List Wd) (h : ∀ u, (if p u then 1 else 0 : ℕ) = (if q u then 1 else 0) + (if r u then 1 else 0)) :
    L.countP p = L.countP q + L.countP r := by
  induction L with
  | nil => rfl
  | cons u L ih => simp only [List.countP_cons, ih, h u]; omega

/-! ## The digits -/

/-- After some digits: `P` the digits so far, over words divided by `D`; `r` the rank left among the words that begin with
    them. -/
structure Lvl (X : ℕ → List Wd) (D P r : ℕ) : Prop where
  above : r + tot (fun u => decide (P < u.toNat / D)) X = 64
  pos : 1 ≤ r
  le : r ≤ tot (fun u => decide (u.toNat / D = P)) X

/-- The words that begin with the digits `P`. -/
def begins (X : ℕ → List Wd) (D P : ℕ) (l : ℕ) : List Wd := (X l).filter fun u => decide (u.toNat / D = P)

theorem geT_zero (key : Wd → ℕ) (X : ℕ → List Wd) (D P : ℕ) : geT key 0 (begins X D P) = tot (fun u => decide (u.toNat / D = P)) X := by
  refine tot_congr fun l _ => ?_
  unfold begins
  rw [List.countP_filter]
  exact List.countP_congr fun u _ => by simp

theorem Lvl.next {X : ℕ → List Wd} {D S P r b : ℕ} (hD : 0 < D) (hS : 0 < S) (h : Lvl X (D * S) P r) (hb : b < S)
    (h1 : r ≤ geT (fun u => u.toNat / D % S) b (begins X (D * S) P))
    (h2 : geT (fun u => u.toNat / D % S) (b + 1) (begins X (D * S) P) < r) :
    Lvl X D (P * S + b) (r - geT (fun u => u.toNat / D % S) (b + 1) (begins X (D * S) P)) := by
  have hdiv : ∀ u : Wd, u.toNat / (D * S) = u.toNat / D / S := fun u => (Nat.div_div_eq_div_mul _ _ _).symm
  have hq : ∀ u : Wd, u.toNat / D / S * S + u.toNat / D % S = u.toNat / D := fun u => by rw [Nat.mul_comm]; exact Nat.div_add_mod _ _
  have hm : ∀ u : Wd, u.toNat / D % S < S := fun u => Nat.mod_lt _ hS
  have cmp : ∀ (Q q : ℕ), Q < P → q < S → Q * S + q < P * S := fun Q q hQ hq => by
    have := Nat.mul_le_mul_right S (show Q + 1 ≤ P by omega)
    rw [Nat.add_mul, Nat.one_mul] at this
    omega
  have cmp' : ∀ (Q : ℕ), P < Q → P * S + S ≤ Q * S := fun Q hQ => by
    have := Nat.mul_le_mul_right S (show P + 1 ≤ Q by omega)
    rw [Nat.add_mul, Nat.one_mul] at this
    omega
  have hA : tot (fun u => decide (P * S + b < u.toNat / D)) X
      = tot (fun u => decide (P < u.toNat / (D * S))) X + geT (fun u => u.toNat / D % S) (b + 1) (begins X (D * S) P) := by
    refine tot_add fun l _ => ?_
    unfold begins
    rw [List.countP_filter]
    refine countP_split _ fun u => ?_
    simp only [decide_eq_true_eq, Bool.and_eq_true, hdiv]
    have e := hq u; have e2 := hm u
    rcases Nat.lt_trichotomy (u.toNat / D / S) P with c | c | c
    · have := cmp _ _ c e2
      rw [if_neg (by omega), if_neg (by omega), if_neg (by omega)]
    · rw [c] at e
      by_cases hb : b + 1 ≤ u.toNat / D % S
      · rw [if_pos (by omega), if_neg (by omega), if_pos ⟨hb, c⟩]
      · rw [if_neg (by omega), if_neg (by omega), if_neg (by omega)]
    · have := cmp' _ c
      rw [if_pos (by omega), if_pos (by omega), if_neg (by omega)]
  have hB : tot (fun u => decide (u.toNat / D = P * S + b)) X = tot (fun u => decide (u.toNat / D % S = b)) (begins X (D * S) P) := by
    refine tot_congr fun l _ => ?_
    unfold begins
    rw [List.countP_filter]
    refine List.countP_congr fun u _ => ?_
    simp only [decide_eq_true_eq, Bool.and_eq_true, hdiv]
    have e := hq u; have e2 := hm u
    rcases Nat.lt_trichotomy (u.toNat / D / S) P with c | c | c
    · have := cmp _ _ c e2
      constructor <;> intro h' <;> omega
    · rw [c] at e
      constructor
      · intro h'; exact ⟨by omega, c⟩
      · intro h'; omega
    · have := cmp' _ c
      constructor <;> intro h' <;> omega
  have hs := geT_split (fun u => u.toNat / D % S) b (begins X (D * S) P)
  have := h.above
  exact ⟨by rw [hA]; omega, by omega, by rw [hB]; omega⟩

/-- The next digit's candidates are those of this digit's that lie in its bucket. -/
theorem begins_next (X : ℕ → List Wd) (D S P b l : ℕ) (hS : 0 < S) (hb : b < S) :
    (begins X (D * S) P l).filter (fun u => decide (u.toNat / D % S = b)) = begins X D (P * S + b) l := by
  unfold begins
  rw [List.filter_filter]
  refine List.filter_congr fun u _ => ?_
  rw [← Bool.decide_and]
  refine decide_eq_decide.mpr ?_
  rw [(Nat.div_div_eq_div_mul u.toNat D S).symm]
  have hq : u.toNat / D / S * S + u.toNat / D % S = u.toNat / D := by rw [Nat.mul_comm]; exact Nat.div_add_mod _ _
  have hm : u.toNat / D % S < S := Nat.mod_lt _ hS
  constructor
  · rintro ⟨h1, h2⟩; rw [← hq, h1, h2]
  · intro h
    have h1 : u.toNat / D / S = P := by
      rw [h, Nat.mul_comm P S, Nat.mul_add_div hS, Nat.div_eq_of_lt hb, Nat.add_zero]
    refine ⟨?_, h1⟩
    rw [h, Nat.mul_comm P S, Nat.mul_add_mod, Nat.mod_eq_of_lt hb]

/-- `w` is the 64th largest word, with multiplicity. -/
def IsKth (X : ℕ → List Wd) (w : ℕ) : Prop :=
  tot (fun u => decide (w < u.toNat)) X < 64 ∧ 64 ≤ tot (fun u => decide (w ≤ u.toNat)) X

theorem Lvl.isKth {X : ℕ → List Wd} {P r : ℕ} (h : Lvl X 1 P r) : IsKth X P := by
  have h1 := h.above; have h2 := h.pos; have h3 := h.le
  simp only [Nat.div_one] at h1 h3
  refine ⟨by omega, ?_⟩
  have : tot (fun u => decide (P ≤ u.toNat)) X = tot (fun u => decide (P < u.toNat)) X + tot (fun u => decide (u.toNat = P)) X :=
    tot_add fun l _ => countP_split _ fun u => by
      simp only [decide_eq_true_eq]
      rcases Nat.lt_trichotomy u.toNat P with c | c | c
      · rw [if_neg (by omega), if_neg (by omega), if_neg (by omega)]
      · rw [if_pos (by omega), if_neg (by omega), if_pos (by omega)]
      · rw [if_pos (by omega), if_pos (by omega), if_neg (by omega)]
  omega

theorem tot_mono {p q : Wd → Bool} {X : ℕ → List Wd} (h : ∀ u, p u = true → q u = true) : tot p X ≤ tot q X := by
  unfold tot
  exact List.sum_le_sum fun l _ => List.countP_mono_left fun u _ => h u

theorem IsKth.unique {X : ℕ → List Wd} {w w' : ℕ} (h : IsKth X w) (h' : IsKth X w') : w = w' := by
  by_contra hne
  rcases Nat.lt_or_gt_of_ne hne with c | c
  · have : tot (fun u => decide (w' ≤ u.toNat)) X ≤ tot (fun u => decide (w < u.toNat)) X :=
      tot_mono fun u hu => by simp only [decide_eq_true_eq] at *; omega
    have := h.1; have := h'.2; omega
  · have : tot (fun u => decide (w ≤ u.toNat)) X ≤ tot (fun u => decide (w' < u.toNat)) X :=
      tot_mono fun u hu => by simp only [decide_eq_true_eq] at *; omega
    have := h.2; have := h'.1; omega

end Cert.Proof.Select
-- ==== Proof.Loops.lean ====
/-
  The loops of the row's selection, each run once at a symbolic trip: the histograms, their suffix scans, the searches, and
  the passes that keep the candidates of a bucket.
-/
module

public import proofs.«01_k».proof.Proof.Counts

@[expose] public section

noncomputable section

namespace Cert.Proof.Select

open Cert.Kernel Cert.Kernel.Gen
open Idealize.ShloMosaic
open Idealize.SL Idealize.SL.BI Idealize.SL.Sem
open Idealize.ShloMosaic.Rounds

variable {nn : ℕ} {d : Fin nD} {i : grid0.Coords} {B : Mems} {α β : Type} {st : St}

def key1 (u : Wd) : ℕ := u.toNat / 2 ^ 23
def key2 (u : Wd) : ℕ := u.toNat / 2 ^ 15 % 256
def key3 (u : Wd) : ℕ := u.toNat / 2 ^ 7 % 256
def key4 (u : Wd) : ℕ := u.toNat % 128

theorem h1_toNat {u w : Wd} {l : ℕ} (hw : w.toNat = l) (hl : l < 16) (hu : u.toNat < 2 ^ 31) :
    (IntOp.ori (IntOp.shli .vector (IntOp.shrui .vector u 23#32) 4#32) w).toNat = 16 * key1 u + l := by
  have h : (IntOp.shrui .vector u 23#32).toNat = key1 u := shr_toNat u 23 (by decide)
  have h2 : key1 u < 256 := by unfold key1; omega
  rw [idx_toNat _ _ (by omega) (by omega), h, hw]

theorem chk_hist {idx : IVec S16 32} (h : ∀ x, ∃ b, (idx x).toNat = 16 * b + (x 0).val ∧ b < 256) :
    ∀ a x, ((![idx] : Fin 1 → IVec S16 32) a x).toNat < S4096.size a := by
  intro a x
  rw [Fin.eq_zero a]
  show (idx x).toNat < 4096
  obtain ⟨b, e, hb⟩ := h x
  have := lane_lt x
  rw [e]; omega

/-- A counting store: the histogram of the lists with each set lane's word appended. -/
theorem TW.count {idx : IVec S16 32} {v : Vec Bits S16 .i32} {mask : IVec S16 1}
    {hi : ∀ a x, ((![idx] : Fin 1 → IVec S16 32) a x).toNat < S4096.size a} {hs : (B.a7.access (.whole S4096)).Stores Finset.univ}
    {hl : B.a7.view.LoadsAt (.whole S4096)} {hm : Finset.univ = Finset.univ ∨ ∀ a, (Rect.whole S4096).stride a = 1}
    {k : PUnit → Pg i α} {Q : α → St → Prop} {key : Wd → ℕ} {Ls : ℕ → List Wd} (hH : HistIs key Ls st.hist) (Ls' : ℕ → List Wd)
    (ms : ℕ → Prop) [DecidablePred ms] (w : ℕ → Wd) (hL : ∀ l < 16, Ls' l = if ms l then Ls l ++ [w l] else Ls l)
    (b : ℕ → ℕ) (hb : ∀ l < 16, ms l → b l = key (w l)) (hv : ∀ x, v x = 1#32)
    (ho : ∀ x, (idx x).toNat = 16 * b (x 0).val + (x 0).val) (hms : ∀ x, mask x = 1 ↔ ms (x 0).val)
    (h : ∀ g, HistIs key Ls' g → TW d i B (k ⟨⟩) Q { st with hist := g }) :
    TW d i B (.op (.load B.a7 (.whole S4096) hl) fun f => .op (.store B.a7 (.whole S4096) (storeIdx f ![idx] v mask true hi) Finset.univ hs hm) k) Q st :=
  TW.scatter_hist (hi := hi) b ms hv ho hms (h _ (hH.bump b ms w hb hL))

/-- The counting store of the first histogram: the row's next vector, every lane. -/
theorem TW.count_row {idx : IVec S16 32} {v : Vec Bits S16 .i32} {mask : IVec S16 1}
    {hi : ∀ a x, ((![idx] : Fin 1 → IVec S16 32) a x).toNat < S4096.size a} {hs : (B.a7.access (.whole S4096)).Stores Finset.univ}
    {hl : B.a7.view.LoadsAt (.whole S4096)} {hm : Finset.univ = Finset.univ ∨ ∀ a, (Rect.whole S4096).stride a = 1}
    {k : PUnit → Pg i α} {Q : α → St → Prop} {row g₀ : ℕ → ℕ → Wd} {n : ℕ} (hH : HistIs key1 (firsts row n) g₀)
    (hv : ∀ x, v x = 1#32) (ho : ∀ x, (idx x).toNat = 16 * key1 (row n (x 0).val) + (x 0).val) (hms : ∀ x, mask x = 1)
    (h : ∀ g, HistIs key1 (firsts row (n + 1)) g → TW d i B (k ⟨⟩) Q { st with hist := g }) :
    TW d i B (.op (.load B.a7 (.whole S4096) hl) fun f => .op (.store B.a7 (.whole S4096) (storeIdx f ![idx] v mask true hi) Finset.univ hs hm) k) Q { st with hist := g₀ } :=
  TW.count (st := { st with hist := g₀ }) hH (firsts row (n + 1)) (fun _ => True) (fun l => row n l) (fun l _ => (firsts_succ row n l).trans (if_pos trivial).symm)
    (fun l => key1 (row n l)) (fun _ _ _ => rfl) hv ho (fun x => ⟨fun _ => trivial, fun _ => hms x⟩) h

theorem TW.load_row' {off : Fin 1 → Nat} {inb : ∀ a, off a + S16.size a ≤ S16384.size a} {hl : B.a4.view.LoadsAt (Rect.unit (s := S16384) off S16.size inb).toLoadRect}
    {k : Vec Bits S16 .f32 → Pg i α} {Q : α → St → Prop} {n : ℕ} {P : St → ℕ → Prop} (_ : P st n) (ho : off 0 = 16 * n) (h : TW d i B (k (vec (st.row n))) Q st) :
    TW d i B (.op (.load B.a4 (Rect.unit (s := S16384) off S16.size inb).toLoadRect hl) k) Q st :=
  TW.load_row ho h

theorem spec_h1 {v1 c0 c1 : BitVec 32} {v2 v3 : IVec S16 32} {t2 : Fin k0_t2_loop.trips} (hv2 : ∀ x, (v2 x).toNat = (x 0).val) (hv3 : ∀ x, v3 x = 1#32)
    (hrow : ∀ n l, (st.row n l).toNat < 2 ^ 31) (hz : HistZero st.hist) :
    TW d i B (Scf.Loop.for k0_t3_loop k0_t3_ok 0#32
        (k0_t3_body i B.a2 B.h2 B.a3 B.h3 B.a4 B.h4 B.a5 B.h5 B.a6 B.h6 B.a7 B.h7 B.a8 B.h8 B.a9 B.h9 B.r0 B.r1 v1 v2 v3 c0 c1 t2))
      (fun _ st' => ∃ h, st' = { st with hist := h } ∧ HistIs key1 (firsts st.row 1024) h) st := by
  refine TW.mono (TW.loop (fun k _ st' => ∃ h, st' = { st with hist := h } ∧ HistIs key1 (firsts st.row (8 * k)) h) ⟨_, rfl, .nil hz⟩ ?_) ?_
  · rintro k a _ ⟨h, rfl, hH⟩
    have hidx : ∀ {n : ℕ} (x : S16.Idx), (IntOp.ori (IntOp.shli .vector (IntOp.shrui .vector (st.row n (x 0).val) 23#32) 4#32) (v2 x)).toNat
        = 16 * key1 (st.row n (x 0).val) + (x 0).val := fun x => h1_toNat (hv2 x) (lane_lt x) (hrow _ _)
    have hk : ∀ {n : ℕ}, ∀ l < 16, key1 (st.row n l) < 256 := by
      intro n l _
      have := hrow n l
      unfold key1
      omega
    iterate 8
      refine TW.load_row' (P := fun st' n => HistIs key1 (firsts st.row n) st'.hist) hH ?_ ?_
      · simp only [k0_off3_eq, k0_off4_eq, k0_off5_eq, k0_off6_eq, k0_off7_eq, k0_off8_eq, k0_off9_eq, k0_off10_eq, Matrix.cons_val_fin_one]
        omega
      refine TW.assume ?_ ?_
      · exact chk_hist fun x => ⟨_, hidx x, hk _ (lane_lt x)⟩
      refine TW.count_row (st := st) hH hv3 hidx (fun _ => rfl) ?_
      clear hH
      intro h hH
    exact TW.ret ⟨_, rfl, hH⟩
  · rintro a _ ⟨h, rfl, hH⟩
    exact ⟨h, rfl, hH⟩

/-! ## The suffix scan -/

/-- One bucket of the scan: its count joins the running count, which is stored, and the bucket is cleared. -/
theorem TW.scan_copy {h s : ℕ → ℕ → Wd} {key : Wd → ℕ} {Ls : ℕ → List Wd} {acc : IVec S16 32} (n : ℕ) {o1 o2 o3 o4 o5 : Fin 1 → Nat}
    {b1 : ∀ a, o1 a + S16.size a ≤ S4096.size a} {b2 : ∀ a, o2 a + S16.size a ≤ S4112.size a} {b3 : ∀ a, o3 a + S16.size a ≤ S4112.size a}
    {b4 : ∀ a, o4 a + S16.size a ≤ S4096.size a} {b5 : ∀ a, o5 a + S16.size a ≤ S4096.size a}
    {l1 : B.a7.view.LoadsAt (Rect.unit (s := S4096) o1 S16.size b1).toLoadRect}
    {l2 : B.a8.view.LoadsAt (Rect.unit (s := S4112) o2 S16.size b2).toLoadRect}
    {l4 : B.a7.view.LoadsAt (Rect.unit (s := S4096) o4 S16.size b4).toLoadRect}
    {x3 : (B.a8.access (Rect.unit (s := S4112) o3 S16.size b3)).Stores Finset.univ} {m3 : Finset.univ = Finset.univ ∨ ∀ a, (Rect.unit (s := S4112) o3 S16.size b3).stride a = 1}
    {x5 : (B.a7.access (Rect.unit (s := S4096) o5 S16.size b5)).Stores Finset.univ} {m5 : Finset.univ = Finset.univ ∨ ∀ a, (Rect.unit (s := S4096) o5 S16.size b5).stride a = 1}
    {v : Vec Bits S16 .i32 → Vec Bits S16 .i32} {z : Vec Bits S16 .i32} {k : Vec Bits S16 .i32 → Pg i α} {Q : α → St → Prop}
    (hI : ScanI key Ls n h s acc) (hn : n < 256)
    (e1 : o1 0 = 16 * (255 - n)) (e2 : o2 0 = 16 * (255 - n)) (e3 : o3 0 = 16 * (255 - n)) (e4 : o4 0 = 16 * (255 - n)) (e5 : o5 0 = 16 * (255 - n))
    (hv : ∀ g x, v g x = acc x + g x) (hz : ∀ x, z x = 0#32)
    (c : ∀ h' s', ScanI key Ls (n + 1) h' s' (v (vec (h (255 - n)))) → TW d i B (k (vec (h (255 - n)))) Q { st with hist := h', sfx := s' }) :
    TW d i B (.op (.load B.a7 (Rect.unit (s := S4096) o1 S16.size b1).toLoadRect l1) fun g =>
      .op (.load B.a8 (Rect.unit (s := S4112) o2 S16.size b2).toLoadRect l2) fun _ =>
      .op (.store B.a8 (Rect.unit (s := S4112) o3 S16.size b3) (v g) Finset.univ x3 m3) fun _ =>
      .op (.load B.a7 (Rect.unit (s := S4096) o4 S16.size b4).toLoadRect l4) fun _ =>
      .op (.store B.a7 (Rect.unit (s := S4096) o5 S16.size b5) z Finset.univ x5 m5) fun _ => k g) Q { st with hist := h, sfx := s } := by
  refine TW.load_hist e1 ?_
  refine TW.load_sfx e2 ?_
  refine TW.store_sfx e3 ?_
  refine TW.load_hist e4 ?_
  refine TW.store_hist e5 ?_
  exact c _ _ (hI.step hn rfl (fun x => hv _ x) hz)

theorem off_scan (k : Fin k0_t4_loop.trips) (r : Fin 8) :
    k0_off11 k (BitVec.ofNat 32 r.val) 0 = 16 * (255 - (8 * k.val + r.val)) ∧ k0_off12 k (BitVec.ofNat 32 r.val) 0 = 16 * (255 - (8 * k.val + r.val)) := by
  have hk : k.val < 32 := k.isLt
  refine ⟨(congrFun (k0_off11_eq k r) 0).trans ?_, (congrFun (k0_off12_eq k r) 0).trans ?_⟩
  · show 4080 - (128 * k.val + 16 * r.val) = _
    omega
  · show 4080 - (128 * k.val + 16 * r.val) = _
    omega

theorem spec_scan1 {v1 c0 c1 : BitVec 32} {v2 v3 : IVec S16 32} {t2 : Fin k0_t2_loop.trips} {key : Wd → ℕ} {Ls : ℕ → List Wd} {z : IVec S16 32}
    (hI : ScanI key Ls 0 st.hist st.sfx z) :
    TW d i B (Scf.Loop.for k0_t4_loop k0_t4_ok z
        (k0_t4_body i B.a2 B.h2 B.a3 B.h3 B.a4 B.h4 B.a5 B.h5 B.a6 B.h6 B.a7 B.h7 B.a8 B.h8 B.a9 B.h9 B.r0 B.r1 v1 v2 v3 c0 c1 t2))
      (fun _ st' => ∃ h s, st' = { st with hist := h, sfx := s } ∧ HistZero h ∧ SfxIs key Ls 0 s) st := by
  refine TW.mono (TW.loop (fun k acc st' => ∃ h s, st' = { st with hist := h, sfx := s } ∧ ScanI key Ls (8 * k) h s acc) ⟨_, _, rfl, hI⟩ ?_) ?_
  · rintro k a _ ⟨h, s, rfl, hI⟩
    have hk : k.val < 32 := k.isLt
    have o7 := fun r => (off_scan k r).1
    have o8 := fun r => (off_scan k r).2
    refine TW.scan_copy (8 * k.val + 0) hI (by omega) (o7 0) (o8 0) (o8 0) (o7 0) (o7 0) (fun _ _ => rfl) (fun _ => rfl) fun h s hI => ?_
    refine TW.scan_copy (8 * k.val + 1) hI (by omega) (o7 1) (o8 1) (o8 1) (o7 1) (o7 1) (fun _ _ => rfl) (fun _ => rfl) fun h s hI => ?_
    refine TW.scan_copy (8 * k.val + 2) hI (by omega) (o7 2) (o8 2) (o8 2) (o7 2) (o7 2) (fun _ _ => rfl) (fun _ => rfl) fun h s hI => ?_
    refine TW.scan_copy (8 * k.val + 3) hI (by omega) (o7 3) (o8 3) (o8 3) (o7 3) (o7 3) (fun _ _ => rfl) (fun _ => rfl) fun h s hI => ?_
    refine TW.scan_copy (8 * k.val + 4) hI (by omega) (o7 4) (o8 4) (o8 4) (o7 4) (o7 4) (fun _ _ => rfl) (fun _ => rfl) fun h s hI => ?_
    refine TW.scan_copy (8 * k.val + 5) hI (by omega) (o7 5) (o8 5) (o8 5) (o7 5) (o7 5) (fun _ _ => rfl) (fun _ => rfl) fun h s hI => ?_
    refine TW.scan_copy (8 * k.val + 6) hI (by omega) (o7 6) (o8 6) (o8 6) (o7 6) (o7 6) (fun _ _ => rfl) (fun _ => rfl) fun h s hI => ?_
    refine TW.scan_copy (8 * k.val + 7) hI (by omega) (o7 7) (o8 7) (o8 7) (o7 7) (o7 7) (fun _ _ => rfl) (fun _ => rfl) fun h s hI => ?_
    exact TW.ret ⟨_, _, rfl, hI⟩
  · rintro a _ ⟨h, s, rfl, hI⟩
    exact ⟨h, s, rfl, fun b hb l hl => hI.zero b (Nat.zero_le _) hb l hl, hI.sfx⟩

theorem spec_scan2 {v19 v27 c0 c1 : BitVec 32} {v2 v3 v4 : IVec S16 32} {key : Wd → ℕ} {Ls : ℕ → List Wd} {z : IVec S16 32}
    (hI : ScanI key Ls 0 st.hist st.sfx z) :
    TW d i B (Scf.Loop.for k0_t9_loop k0_t9_ok z
        (k0_t9_body i B.a2 B.h2 B.a3 B.h3 B.a4 B.h4 B.a5 B.h5 B.a6 B.h6 B.a7 B.h7 B.a8 B.h8 B.a9 B.h9 B.r0 B.r1 v2 v3 v4 v19 v27 c0 c1))
      (fun _ st' => ∃ h s, st' = { st with hist := h, sfx := s } ∧ HistZero h ∧ SfxIs key Ls 0 s) st :=
  spec_scan1 (v1 := 0#32) (c0 := 0#32) (c1 := 0#32) (v2 := v2) (v3 := v3) (t2 := ⟨0, by decide⟩) hI

theorem spec_scan3 {v35 v50 v58 : BitVec 32} {w19 : k0_chk19 v35} {v2 v3 v4 v29 : IVec S16 32} {key : Wd → ℕ} {Ls : ℕ → List Wd} {z : IVec S16 32}
    (hI : ScanI key Ls 0 st.hist st.sfx z) :
    TW d i B (Scf.Loop.for k0_t15_loop k0_t15_ok z
        (k0_t15_body i B.a2 B.h2 B.a3 B.h3 B.a4 B.h4 B.a5 B.h5 B.a6 B.h6 B.a7 B.h7 B.a8 B.h8 B.a9 B.h9 B.r0 B.r1 v2 v3 v4 v29 v35 w19 v50 v58))
      (fun _ st' => ∃ h s, st' = { st with hist := h, sfx := s } ∧ HistZero h ∧ SfxIs key Ls 0 s) st :=
  spec_scan1 (v1 := 0#32) (c0 := 0#32) (c1 := 0#32) (v2 := v2) (v3 := v3) (t2 := ⟨0, by decide⟩) hI

theorem spec_scan4 {key : Wd → ℕ} {Ls : ℕ → List Wd} {z : IVec S16 32}
    (hI : ScanI key Ls 0 st.hist st.sfx z) :
    TW d i B (Scf.Loop.for k0_t21_loop k0_t21_ok z
        (k0_t21_body i B.a2 B.h2 B.a3 B.h3 B.a4 B.h4 B.a5 B.h5 B.a6 B.h6 B.a7 B.h7 B.a8 B.h8 B.a9 B.h9 B.r0 B.r1 k0_pay227 0#32 1#32))
      (fun _ st' => ∃ h s, st' = { st with hist := h, sfx := s } ∧ HistZero h ∧ SfxIs key Ls 0 s) st :=
  spec_scan1 (v1 := 0#32) (c0 := 0#32) (c1 := 0#32) (v2 := fun _ => 0#32) (v3 := fun _ => 0#32) (t2 := ⟨0, by decide⟩) hI

end Cert.Proof.Select
-- ==== Proof.Search.lean ====
/-
  The search of the bucket a rank falls in: eight halvings of the range 0..255, over the suffix counts.
-/
module

public import proofs.«01_k».proof.Proof.Loops

@[expose] public section

noncomputable section

namespace Cert.Proof.Select

open Cert.Kernel Cert.Kernel.Gen
open Idealize.ShloMosaic
open Idealize.SL Idealize.SL.BI Idealize.SL.Sem
open Idealize.ShloMosaic.Rounds

variable {d : Fin nD} {i : grid0.Coords} {B : Mems} {α β : Type} {st : St}

theorem geT_anti {key : Wd → ℕ} {Ls : ℕ → List Wd} {a b : ℕ} (h : a ≤ b) : geT key b Ls ≤ geT key a Ls :=
  tot_mono fun u hu => by simp only [decide_eq_true_eq] at *; omega

theorem geT_top {key : Wd → ℕ} {Ls : ℕ → List Wd} {b : ℕ} (h : ∀ l < 16, ∀ u ∈ Ls l, key u < b) : geT key b Ls = 0 := by
  unfold geT tot
  rw [List.sum_eq_zero]
  intro x hx
  obtain ⟨l, hl, rfl⟩ := List.mem_map.mp hx
  exact geB_top (h l (List.mem_range.mp hl))

/-- The suffix counts' vector at bucket `b`, summed over its lanes. -/
theorem sfx_sum {key : Wd → ℕ} {Ls : ℕ → List Wd} {s : ℕ → ℕ → Wd} (hs : SfxIs key Ls 0 s) {b : ℕ} (hb : b ≤ 256)
    (hp : ∀ a, (![15] : Fin 1 → ℕ) a < S16.size a) : extractAt ![15] (scan .sum (vec (s b))) hp = BitVec.ofNat 32 (geT key b Ls) :=
  sum_lanes (vec (s b)) (fun l => geB key b (Ls l)) (fun x => hs b (Nat.zero_le _) hb _ (lane_lt x)) hp

theorem mid_toNat {lo hi : Wd} (h1 : lo.toNat ≤ hi.toNat) (h2 : hi.toNat < 256) :
    (Scalar.addi lo (Scalar.shrsi (Scalar.addi (Scalar.subi hi lo) 1#32) 1#32)).toNat = lo.toNat + (hi.toNat - lo.toNat + 1) / 2 := by
  have e : (Scalar.addi (Scalar.subi hi lo) 1#32).toNat = hi.toNat - lo.toNat + 1 := by
    show (hi - lo + 1#32).toNat = _
    rw [BitVec.toNat_add, BitVec.toNat_sub, show (1#32).toNat = 1 from rfl]
    omega
  have m : (Scalar.addi (Scalar.subi hi lo) 1#32).msb = false := by
    rw [BitVec.msb_eq_false_iff_two_mul_lt, e]; omega
  have f : (Scalar.shrsi (Scalar.addi (Scalar.subi hi lo) 1#32) 1#32).toNat = (hi.toNat - lo.toNat + 1) / 2 := by
    unfold Scalar.shrsi IntOp.shrsi
    rw [if_pos (by decide), BitVec.sshiftRight', BitVec.sshiftRight_eq_of_msb_false m, BitVec.toNat_ushiftRight, e, Nat.shiftRight_eq_div_pow]
    rfl
  show (lo + Scalar.shrsi _ _).toNat = _
  rw [BitVec.toNat_add, f]
  omega

theorem mul16_toNat {w : Wd} (h : w.toNat < 300) : (Scalar.muli w 16#32).toNat = 16 * w.toNat := by
  show (w * 16#32).toNat = _
  rw [BitVec.toNat_mul, show (16#32).toNat = 16 from rfl]
  omega

theorem off_mid {lo hi : Wd} (h1 : lo.toNat ≤ hi.toNat) (h2 : hi.toNat < 256) :
    k0_off25 lo hi 0 = 16 * (lo.toNat + (hi.toNat - lo.toNat + 1) / 2) := by
  show (Scalar.muli (Scalar.addi lo (Scalar.shrsi (Scalar.addi (Scalar.subi hi lo) 1#32) 1#32)) 16#32).toNat = _
  rw [mul16_toNat (by rw [mid_toNat h1 h2]; omega), mid_toNat h1 h2]

theorem off_next {lo : Wd} (h2 : lo.toNat < 256) : k0_off26 lo 0 = 16 * (lo.toNat + 1) := by
  have e : (Scalar.addi lo 1#32).toNat = lo.toNat + 1 := by
    show (lo + 1#32).toNat = _
    rw [BitVec.toNat_add, show (1#32).toNat = 1 from rfl]
    omega
  show (Scalar.muli (Scalar.addi lo 1#32) 16#32).toNat = _
  rw [mul16_toNat (by omega), e]

theorem pred_toNat {w : Wd} (h : 0 < w.toNat) : (Scalar.subi w 1#32).toNat = w.toNat - 1 := by
  show (w - 1#32).toNat = _
  rw [BitVec.toNat_sub, show (1#32).toNat = 1 from rfl]
  have := w.isLt
  omega

/-- The range still searched before halving `k`. -/
structure SearchI (key : Wd → ℕ) (Ls : ℕ → List Wd) (r k : ℕ) (lo hi : Wd) : Prop where
  le : lo.toNat ≤ hi.toNat
  lt : hi.toNat < 256
  width : hi.toNat - lo.toNat < 2 ^ (8 - k)
  low : r ≤ geT key lo.toNat Ls
  high : geT key (hi.toNat + 1) Ls < r

theorem SearchI.step {key : Wd → ℕ} {Ls : ℕ → List Wd} {r k : ℕ} {lo hi mid : Wd} {c : BitVec 1} (h : SearchI key Ls r k lo hi) (hk : k < 8)
    (hm : mid.toNat = lo.toNat + (hi.toNat - lo.toNat + 1) / 2) (hc : c = 1 ↔ r ≤ geT key mid.toNat Ls) :
    SearchI key Ls r (k + 1) (Scalar.select c mid lo) (Scalar.select c hi (Scalar.subi mid 1#32)) := by
  have hw := h.width; have h1 := h.le; have h2 := h.lt
  have e : 2 ^ (8 - k) = 2 * 2 ^ (8 - (k + 1)) := by rw [show 8 - k = 8 - (k + 1) + 1 by omega, Nat.pow_succ, Nat.mul_comm]
  rw [e] at hw
  unfold Scalar.select
  by_cases hcc : c = 1
  · rw [if_pos hcc, if_pos hcc]
    exact ⟨by omega, h2, by omega, hc.mp hcc, h.high⟩
  · rw [if_neg hcc, if_neg hcc]
    have hlt : geT key mid.toNat Ls < r := by
      by_contra hn; exact hcc (hc.mpr (by omega))
    have hne : lo.toNat < mid.toNat := by
      by_contra hn
      have : mid.toNat = lo.toNat := by omega
      rw [this] at hlt
      have := h.low
      omega
    have hp := pred_toNat (w := mid) (by omega)
    exact ⟨by omega, by omega, by omega, h.low, by rw [hp, Nat.sub_add_cancel (by omega)]; exact hlt⟩

theorem SearchI.start {key : Wd → ℕ} {Ls : ℕ → List Wd} {r : ℕ} (hk : ∀ l < 16, ∀ u ∈ Ls l, key u < 256) (h1 : 1 ≤ r) (h2 : r ≤ geT key 0 Ls) :
    SearchI key Ls r 0 0#32 255#32 where
  le := by decide
  lt := by decide
  width := by decide
  low := by rw [show (0#32).toNat = 0 from rfl]; exact h2
  high := by
    rw [show (255#32).toNat + 1 = 256 from rfl, geT_top hk]
    omega

/-- What the search finds: the last bucket whose suffix count reaches the rank. -/
structure Found (key : Wd → ℕ) (Ls : ℕ → List Wd) (r : ℕ) (b : Wd) : Prop where
  lt : b.toNat < 256
  low : r ≤ geT key b.toNat Ls
  high : geT key (b.toNat + 1) Ls < r

theorem spec_bs2 {v19 v27 c0 c1 : BitVec 32} {v2 v3 v4 : IVec S16 32} {key : Wd → ℕ} {Ls : ℕ → List Wd}
    (hs : SfxIs key Ls 0 st.sfx) (hk : ∀ l < 16, ∀ u ∈ Ls l, key u < 256) (hT : geT key 0 Ls < 2 ^ 31) (h1 : 1 ≤ v27.toNat) (h2 : v27.toNat ≤ geT key 0 Ls) :
    TW d i B (Scf.Loop.for k0_t10_loop k0_t10_ok (0#32, 255#32)
        (k0_t10_body i B.a2 B.h2 B.a3 B.h3 B.a4 B.h4 B.a5 B.h5 B.a6 B.h6 B.a7 B.h7 B.a8 B.h8 B.a9 B.h9 B.r0 B.r1 v2 v3 v4 v19 v27 c0 c1))
      (fun a st' => st' = st ∧ Found key Ls v27.toNat a.1) st := by
  refine TW.mono (TW.loop (fun k a st' => st' = st ∧ SearchI key Ls v27.toNat k a.1 a.2)
    ⟨rfl, .start hk h1 h2⟩ ?_) ?_
  · rintro k ⟨lo, hi⟩ s ⟨rfl, hI⟩
    have hI : SearchI key Ls v27.toNat k lo hi := hI
    have hkk : k.val < 8 := k.isLt
    have ho := off_mid hI.le hI.lt
    have hm := mid_toNat hI.le hI.lt
    have hle := hI.le
    have hlt := hI.lt
    have hc : IntOp.cmpi .sge (extractAt ![15] (scan .sum (vec (s.sfx (lo.toNat + (hi.toNat - lo.toNat + 1) / 2)))) inpos_S16_p15) v27 = 1
        ↔ v27.toNat ≤ geT key (Scalar.addi lo (Scalar.shrsi (Scalar.addi (Scalar.subi hi lo) 1#32) 1#32)).toNat Ls := by
      have hb : geT key (lo.toNat + (hi.toNat - lo.toNat + 1) / 2) Ls < 2 ^ 31 := (geT_anti (Nat.zero_le _)).trans_lt hT
      rw [sfx_sum hs (by omega), hm, sge_iff _ _ (by rw [ofNat_toNat (by omega)]; exact hb) (by omega), ofNat_toNat (by omega)]
    refine TW.assume ?_ ?_
    · intro a
      rw [Fin.eq_zero a]
      show k0_off25 lo hi 0 + 16 ≤ 4112
      rw [ho]
      omega
    refine TW.load_sfx ho ?_
    exact TW.ret ⟨rfl, hI.step hkk hm hc⟩
  · rintro a s' ⟨rfl, hI⟩
    have hw : _ < 2 ^ (8 - k0_t10_loop.trips) := hI.width
    rw [show k0_t10_loop.trips = 8 from by decide] at hw
    have : a.1.toNat = a.2.toNat := by have := hI.le; omega
    exact ⟨rfl, ⟨by rw [this]; exact hI.lt, hI.low, by rw [this]; exact hI.high⟩⟩

theorem spec_bs1 {v1 c0 c1 : BitVec 32} {v2 v3 : IVec S16 32} {t2 : Fin k0_t2_loop.trips} {key : Wd → ℕ} {Ls : ℕ → List Wd}
    (hs : SfxIs key Ls 0 st.sfx) (hk : ∀ l < 16, ∀ u ∈ Ls l, key u < 256) (hT : geT key 0 Ls < 2 ^ 31) (h2 : 64 ≤ geT key 0 Ls) :
    TW d i B (Scf.Loop.for k0_t5_loop k0_t5_ok (0#32, 255#32)
        (k0_t5_body i B.a2 B.h2 B.a3 B.h3 B.a4 B.h4 B.a5 B.h5 B.a6 B.h6 B.a7 B.h7 B.a8 B.h8 B.a9 B.h9 B.r0 B.r1 v1 v2 v3 c0 c1 t2))
      (fun a st' => st' = st ∧ Found key Ls 64 a.1) st :=
  spec_bs2 (v27 := 64#32) (v19 := 0#32) (c0 := 0#32) (c1 := 0#32) (v2 := v2) (v3 := v3) (v4 := v3) hs hk hT (by decide) h2

theorem spec_bs3 {v35 v50 v58 : BitVec 32} {w19 : k0_chk19 v35} {v2 v3 v4 v29 : IVec S16 32} {key : Wd → ℕ} {Ls : ℕ → List Wd}
    (hs : SfxIs key Ls 0 st.sfx) (hk : ∀ l < 16, ∀ u ∈ Ls l, key u < 256) (hT : geT key 0 Ls < 2 ^ 31) (h1 : 1 ≤ v58.toNat) (h2 : v58.toNat ≤ geT key 0 Ls) :
    TW d i B (Scf.Loop.for k0_t16_loop k0_t16_ok (0#32, 255#32)
        (k0_t16_body i B.a2 B.h2 B.a3 B.h3 B.a4 B.h4 B.a5 B.h5 B.a6 B.h6 B.a7 B.h7 B.a8 B.h8 B.a9 B.h9 B.r0 B.r1 v2 v3 v4 v29 v35 w19 v50 v58))
      (fun a st' => st' = st ∧ Found key Ls v58.toNat a.1) st :=
  spec_bs2 (v19 := 0#32) (c0 := 0#32) (c1 := 0#32) (v2 := v2) (v3 := v3) (v4 := v3) hs hk hT h1 h2

theorem spec_bs4 {v96 : BitVec 32} {key : Wd → ℕ} {Ls : ℕ → List Wd}
    (hs : SfxIs key Ls 0 st.sfx) (hk : ∀ l < 16, ∀ u ∈ Ls l, key u < 256) (hT : geT key 0 Ls < 2 ^ 31) (h1 : 1 ≤ v96.toNat) (h2 : v96.toNat ≤ geT key 0 Ls) :
    TW d i B (Scf.Loop.for k0_t22_loop k0_t22_ok (0#32, 255#32)
        (k0_t22_body i B.a2 B.h2 B.a3 B.h3 B.a4 B.h4 B.a5 B.h5 B.a6 B.h6 B.a7 B.h7 B.a8 B.h8 B.a9 B.h9 B.r0 B.r1 v96))
      (fun a st' => st' = st ∧ Found key Ls v96.toNat a.1) st :=
  spec_bs2 (v19 := 0#32) (c0 := 0#32) (c1 := 0#32) (v2 := fun _ => 0#32) (v3 := fun _ => 0#32) (v4 := fun _ => 0#32) hs hk hT h1 h2

end Cert.Proof.Select
-- ==== Proof.Cand.lean ====
/-
  The passes over the candidates: the first pass over the row, which keeps the words of the chosen top digit; the
  histograms of the kept words' next digits; and the passes that keep, of those, the words of the chosen next digit.
-/
module

public import proofs.«01_k».proof.Proof.Loops

@[expose] public section

noncomputable section

namespace Cert.Proof.Select

open Cert.Kernel Cert.Kernel.Gen
open Idealize.ShloMosaic
open Idealize.SL Idealize.SL.BI Idealize.SL.Sem
open Idealize.ShloMosaic.Rounds

variable {d : Fin nD} {i : grid0.Coords} {B : Mems} {α β : Type} {st : St}

/-- The digit of `u` in base `S` above the place `D`. -/
def dg (D S : ℕ) (u : Wd) : ℕ := u.toNat / D % S

theorem dg_toNat (u m : Wd) (n k : ℕ) (hn : n < 32) (hm : m.toNat = 2 ^ k - 1) :
    (IntOp.andi (IntOp.shrui .vector u (BitVec.ofNat 32 n)) m).toNat = dg (2 ^ n) (2 ^ k) u := by
  rw [and_toNat _ _ k hm, shr_toNat u n hn]
  rfl

theorem dg_lt {D S : ℕ} (hS : 0 < S) (u : Wd) : dg D S u < S := Nat.mod_lt _ hS

theorem dgIdx_toNat {u m w : Wd} {l n k : ℕ} (hw : w.toNat = l) (hl : l < 16) (hn : n < 32) (hm : m.toNat = 2 ^ k - 1) (hk : 2 ^ k ≤ 256) :
    (IntOp.ori (IntOp.shli .vector (IntOp.andi (IntOp.shrui .vector u (BitVec.ofNat 32 n)) m) 4#32) w).toNat = 16 * dg (2 ^ n) (2 ^ k) u + l := by
  have h := dg_toNat u m n k hn hm
  have := dg_lt (D := 2 ^ n) (Nat.two_pow_pos k) u
  rw [idx_toNat _ _ (by omega) (by omega), h, hw]

theorem chk_cand {idx : IVec S16 32} (h : ∀ x, ∃ j, (idx x).toNat = 1025 * (x 0).val + j ∧ j < 1025) :
    ∀ a x, ((![idx] : Fin 1 → IVec S16 32) a x).toNat < S16400.size a := by
  intro a x
  rw [Fin.eq_zero a]
  show (idx x).toNat < 16400
  obtain ⟨b, e, hb⟩ := h x
  have := lane_lt x
  rw [e]; omega

/-- Lane by lane, the place of entry `n` of the lane's candidates. -/
theorem idx_of {v2 o : IVec S16 32} {n : ℕ → ℕ} (hv2 : ∀ x, (v2 x).toNat = (x 0).val) (ho : ∀ x, (o x).toNat = n (x 0).val) (hn : ∀ l < 16, n l < 1025)
    (x : S16.Idx) : (IntOp.addi (IntOp.muli (v2 x) 1025#32) (o x)).toNat = 1025 * (x 0).val + n (x 0).val := by
  have h1 := lane_lt x
  have h2 := hn _ h1
  rw [cand_toNat _ _ (by rw [hv2]; exact h1) (by rw [ho]; exact h2), hv2, ho]

/-- `f` is the flat reading of the candidates `g`. -/
def Reads (f : S16400.Idx → Wd) (g : ℕ → ℕ → Wd) : Prop := ∀ x, f x = two 1025 g (x 0).val

theorem Reads.at {f : S16400.Idx → Wd} {g : ℕ → ℕ → Wd} (h : Reads f g) {idx : IVec S16 32}
    {hi : ∀ a x, ((![idx] : Fin 1 → IVec S16 32) a x).toNat < S16400.size a} {x : S16.Idx} {j : ℕ} (hj : j < 1025)
    (ho : (idx x).toNat = 1025 * (x 0).val + j) : loadIdx (F := Bits) (e := .f32) f ![idx] hi x = g (x 0).val j :=
  (h _).trans (twoc_at hj ho)

theorem TW.read_a {hl : B.a5.view.LoadsAt (.whole S16400)} {k : Vec Bits S16400 .f32 → Pg i α} {Q : α → St → Prop}
    (h : ∀ f, Reads f st.ca → TW d i B (k f) Q st) : TW d i B (.op (.load B.a5 (.whole S16400) hl) k) Q st := by
  have h' := h (fun x => two 1025 st.ca (((LoadRect.whole S16400).idx x) 0).val)
    (fun x => congrArg (fun y : S16400.Idx => two 1025 st.ca (y 0).val) (Rect.emb_whole_apply S16400 x))
  unfold TW own at h' ⊢
  iintro ⟨H4, H5, H⟩
  iapply (pt_load d i) $$ H5
  iintro H5
  iapply h'
  iframe H4 H5 H

theorem TW.read_b {hl : B.a6.view.LoadsAt (.whole S16400)} {k : Vec Bits S16400 .f32 → Pg i α} {Q : α → St → Prop}
    (h : ∀ f, Reads f st.cb → TW d i B (k f) Q st) : TW d i B (.op (.load B.a6 (.whole S16400) hl) k) Q st := by
  have h' := h (fun x => two 1025 st.cb (((LoadRect.whole S16400).idx x) 0).val)
    (fun x => congrArg (fun y : S16400.Idx => two 1025 st.cb (y 0).val) (Rect.emb_whole_apply S16400 x))
  unfold TW own at h' ⊢
  iintro ⟨H4, H5, H6, H⟩
  iapply (pt_load d i) $$ H6
  iintro H6
  iapply h'
  iframe H4 H5 H6 H

/-! ## The histogram of the candidates' next digit -/

/-- The candidates' words counted so far: the first `m` of each lane. -/
abbrev upto (A : ℕ → List Wd) (m : ℕ) (l : ℕ) : List Wd := (A l).take m

/-- What a counting store of entry `m` of each lane does: `w` the gathered words. -/
theorem TW.count_upto {idx : IVec S16 32} {v : Vec Bits S16 .i32} {mask : IVec S16 1}
    {hi : ∀ a x, ((![idx] : Fin 1 → IVec S16 32) a x).toNat < S4096.size a} {hs : (B.a7.access (.whole S4096)).Stores Finset.univ}
    {hl : B.a7.view.LoadsAt (.whole S4096)} {hm : Finset.univ = Finset.univ ∨ ∀ a, (Rect.whole S4096).stride a = 1}
    {k : PUnit → Pg i α} {Q : α → St → Prop} {h₀ g : ℕ → ℕ → Wd} {key : Wd → ℕ} {A : ℕ → List Wd} {m : ℕ} (hH : HistIs key (upto A m) h₀)
    (hg : Held g A) (hv : ∀ x, v x = 1#32) (ho : ∀ x, (idx x).toNat = 16 * key (g (x 0).val m) + (x 0).val)
    (hms : ∀ x, mask x = 1 ↔ m < (A (x 0).val).length)
    (h : ∀ h', HistIs key (upto A (m + 1)) h' → TW d i B (k ⟨⟩) Q { st with hist := h' }) :
    TW d i B (.op (.load B.a7 (.whole S4096) hl) fun f => .op (.store B.a7 (.whole S4096) (storeIdx f ![idx] v mask true hi) Finset.univ hs hm) k) Q { st with hist := h₀ } :=
  TW.count (st := { st with hist := h₀ }) hH (upto A (m + 1)) (fun l => m < (A l).length) (fun l => g l m)
    (fun l hl => take_step _ _ _ fun hj => hg l hl m hj) (fun l => key (g l m)) (fun _ _ _ => rfl) hv ho hms h

/-- One entry of the histogram pass: a gather, then a counting store. -/
theorem TW.hist_a {idx' : (S16400.Idx → Wd) → IVec S16 32} {v : Vec Bits S16 .i32} {mask : IVec S16 1}
    {P' : (S16400.Idx → Wd) → Prop} {dP' : ∀ f, Decidable (P' f)}
    {hi' : ∀ f, P' f → ∀ a x, ((![idx' f] : Fin 1 → IVec S16 32) a x).toNat < S4096.size a} {hs : (B.a7.access (.whole S4096)).Stores Finset.univ}
    {hl5 : B.a5.view.LoadsAt (.whole S16400)} {hl : B.a7.view.LoadsAt (.whole S4096)} {hm : Finset.univ = Finset.univ ∨ ∀ a, (Rect.whole S4096).stride a = 1}
    {k : Pg i α} {Q : α → St → Prop} {h₀ : ℕ → ℕ → Wd} {key : Wd → ℕ} {A : ℕ → List Wd} (m : ℕ) (hH : HistIs key (upto A m) h₀)
    (hg : Held st.ca A) (hv : ∀ x, v x = 1#32) (hP' : ∀ f, P' f)
    (ho : ∀ f, Reads f st.ca → ∀ x, (idx' f x).toNat = 16 * key (st.ca (x 0).val m) + (x 0).val)
    (hms : ∀ x, mask x = 1 ↔ m < (A (x 0).val).length)
    (h : ∀ h', HistIs key (upto A (m + 1)) h' → TW d i B k Q { st with hist := h' }) :
    TW d i B (.op (.load B.a5 (.whole S16400) hl5) fun (f : Vec Bits S16400 .f32) => .op (.assume (P' f) (dP' f)) fun p =>
      .op (.load B.a7 (.whole S4096) hl) fun g => .op (.store B.a7 (.whole S4096) (storeIdx g ![idx' f] v mask true (hi' f p.down)) Finset.univ hs hm) fun _ => k)
      Q { st with hist := h₀ } := by
  refine TW.read_a fun f hf => ?_
  refine TW.assume (hP' f) ?_
  exact TW.count_upto (st := st) hH hg hv (ho f hf) hms h

theorem TW.hist_b {idx' : (S16400.Idx → Wd) → IVec S16 32} {v : Vec Bits S16 .i32} {mask : IVec S16 1}
    {P' : (S16400.Idx → Wd) → Prop} {dP' : ∀ f, Decidable (P' f)}
    {hi' : ∀ f, P' f → ∀ a x, ((![idx' f] : Fin 1 → IVec S16 32) a x).toNat < S4096.size a} {hs : (B.a7.access (.whole S4096)).Stores Finset.univ}
    {hl5 : B.a6.view.LoadsAt (.whole S16400)} {hl : B.a7.view.LoadsAt (.whole S4096)} {hm : Finset.univ = Finset.univ ∨ ∀ a, (Rect.whole S4096).stride a = 1}
    {k : Pg i α} {Q : α → St → Prop} {h₀ : ℕ → ℕ → Wd} {key : Wd → ℕ} {A : ℕ → List Wd} (m : ℕ) (hH : HistIs key (upto A m) h₀)
    (hg : Held st.cb A) (hv : ∀ x, v x = 1#32) (hP' : ∀ f, P' f)
    (ho : ∀ f, Reads f st.cb → ∀ x, (idx' f x).toNat = 16 * key (st.cb (x 0).val m) + (x 0).val)
    (hms : ∀ x, mask x = 1 ↔ m < (A (x 0).val).length)
    (h : ∀ h', HistIs key (upto A (m + 1)) h' → TW d i B k Q { st with hist := h' }) :
    TW d i B (.op (.load B.a6 (.whole S16400) hl5) fun (f : Vec Bits S16400 .f32) => .op (.assume (P' f) (dP' f)) fun p =>
      .op (.load B.a7 (.whole S4096) hl) fun g => .op (.store B.a7 (.whole S4096) (storeIdx g ![idx' f] v mask true (hi' f p.down)) Finset.univ hs hm) fun _ => k)
      Q { st with hist := h₀ } := by
  refine TW.read_b fun f hf => ?_
  refine TW.assume (hP' f) ?_
  exact TW.count_upto (st := st) hH hg hv (ho f hf) hms h

/-- The entry a copy of the loop's body takes up. -/
theorem entry_toNat {t r : ℕ} (ht : t < 256) (hr : r < 4) :
    (Scalar.addi (Scalar.muli (Scf.iv 0#32 1#32 t) 4#32) (BitVec.ofNat 32 r)).toNat = 4 * t + r := by
  show ((0#32 + BitVec.ofNat 32 t * 1#32) * 4#32 + BitVec.ofNat 32 r).toNat = _
  rw [BitVec.zero_add, BitVec.mul_one, BitVec.toNat_add, BitVec.toNat_mul, ofNat_toNat (n := t) (by omega), ofNat_toNat (n := 4) (by omega), ofNat_toNat (n := r) (by omega)]
  omega

/-- The loops over the candidates: a quarter of the largest count, rounded up, and then nothing left over. -/
theorem trips_main : ∀ n : Fin 1025, (k0_t7_loop (BitVec.ofNat 32 n.val)).trips = (n.val + 3) / 4 := by decide +kernel
theorem trips_rest : ∀ n : Fin 1025, (k0_t8_loop (BitVec.ofNat 32 n.val)).trips = 0 := by decide +kernel
theorem trips_ok : ∀ n : Fin 1025, (k0_t7_loop (BitVec.ofNat 32 n.val)).OK ∧ (k0_t8_loop (BitVec.ofNat 32 n.val)).OK := by decide +kernel

theorem chk19_of {n : ℕ} (hn : n ≤ 1024) : k0_chk19 (BitVec.ofNat 32 n) :=
  have h := trips_ok ⟨n, by omega⟩
  ⟨h.1, h.2, h.1, h.2⟩
theorem chk54_of {n : ℕ} (hn : n ≤ 1024) : k0_chk54 (BitVec.ofNat 32 n) :=
  have h := trips_ok ⟨n, by omega⟩
  ⟨h.1, h.2, h.1, h.2⟩
theorem chk89_of {n : ℕ} (hn : n ≤ 1024) : k0_chk89 (BitVec.ofNat 32 n) :=
  have h := trips_ok ⟨n, by omega⟩
  ⟨h.1, h.2⟩

/-- A loop of no trips. -/
theorem TW.loop_zero {σ : Type} {L : Scf.Loop 32} {hok : L.OK} {init : σ} {body : Fin L.trips → σ → Pg i σ} (h : L.trips = 0) :
    TW d i B (Scf.Loop.for L hok init body) (fun a s' => a = init ∧ s' = st) st :=
  TW.loop (fun _ a s' => a = init ∧ s' = st) ⟨rfl, rfl⟩ fun k => absurd k.isLt (by omega)

/-- What the passes know of the candidates: each lane's list `A`, its length in `cnt`, none longer than `n`. -/
structure Cands (A : ℕ → List Wd) (cnt : IVec S16 32) (n : ℕ) : Prop where
  cnt : ∀ x, (cnt x).toNat = (A (x 0).val).length
  len : ∀ l < 16, (A l).length ≤ n
  le : n ≤ 1024

theorem Cands.more {A : ℕ → List Wd} {cnt : IVec S16 32} {n : ℕ} (h : Cands A cnt n) {j : Wd} {m : ℕ} (hj : j.toNat = m) (hm : m < 1025) (x : S16.Idx) :
    IntOp.cmpi .slt j (cnt x) = 1 ↔ m < (A (x 0).val).length := by
  have := h.cnt x
  have := h.len _ (lane_lt x)
  have := h.le
  rw [slt_iff _ _ (by omega) (by omega)]
  omega

theorem upto_all {A : ℕ → List Wd} {m l : ℕ} (h : (A l).length ≤ m) : upto A m l = A l := List.take_of_length_le h

/-! ## Keeping the candidates of a bucket -/

/-- The kept words among the first `m` candidates of a lane: those of bucket `b`. -/
abbrev kept (key : Wd → ℕ) (b : ℕ) (A : ℕ → List Wd) (m : ℕ) (l : ℕ) : List Wd := (upto A m l).filter fun u => decide (key u = b)

theorem kept_step {key : Wd → ℕ} {b m l : ℕ} {A : ℕ → List Wd} {w : Wd} (hw : ∀ h : m < (A l).length, w = (A l)[m]) :
    kept key b A (m + 1) l = if m < (A l).length ∧ key w = b then kept key b A m l ++ [w] else kept key b A m l := by
  unfold kept
  rw [show upto A (m + 1) l = _ from take_step (A l) m w hw]
  by_cases h1 : m < (A l).length
  · rw [if_pos h1, List.filter_append]
    by_cases h2 : key w = b
    · rw [if_pos ⟨h1, h2⟩, List.filter_singleton, decide_eq_true h2]
      rfl
    · rw [if_neg (fun h => h2 h.2), List.filter_singleton, decide_eq_false h2, cond_false, List.append_nil]
  · rw [if_neg h1, if_neg (fun h => h1 h.1)]

theorem Cands.kept_lt {A : ℕ → List Wd} {cnt : IVec S16 32} {n : ℕ} (h : Cands A cnt n) {key : Wd → ℕ} {b m l : ℕ} (hl : l < 16) :
    (kept key b A m l).length < 1025 := by
  have h1 : (kept key b A m l).length ≤ (upto A m l).length := List.length_filter_le _ _
  have h2 : (upto A m l).length ≤ (A l).length := List.length_take_le' _ _
  have := h.len l hl
  have := h.le
  omega

/-- Each lane's count, one more where a word was kept. -/
theorem next_len (o : IVec S16 32) {mask : IVec S16 1} {ms : ℕ → Prop} [DecidablePred ms] {Ls Ls' : ℕ → List Wd} {w : ℕ → Wd}
    (hms : ∀ x, mask x = 1 ↔ ms (x 0).val) (hO : ∀ x, (o x).toNat = (Ls (x 0).val).length) (hlt : ∀ l < 16, (Ls l).length < 1025)
    (hL : ∀ l < 16, Ls' l = if ms l then Ls l ++ [w l] else Ls l) (x : S16.Idx) :
    (IntOp.addi (o x) ((mask x).setWidth 32)).toNat = (Ls' (x 0).val).length := by
  have h1 := lane_lt x
  have h2 := hlt _ h1
  rw [next_toNat _ _ (by rw [hO]; omega), hL _ h1, hO]
  by_cases h : ms (x 0).val
  · rw [if_pos ((hms x).mpr h), if_pos h, List.length_append]
    rfl
  · rw [if_neg (fun hh => h ((hms x).mp hh)), if_neg h]

/-- A store of one word per set lane, each after its lane's words. -/
theorem TW.push_a {idx : IVec S16 32} {v : Vec Bits S16 .f32} {mask : IVec S16 1}
    {hi : ∀ a x, ((![idx] : Fin 1 → IVec S16 32) a x).toNat < S16400.size a} {hs : (B.a5.access (.whole S16400)).Stores Finset.univ}
    {hl : B.a5.view.LoadsAt (.whole S16400)} {hm : Finset.univ = Finset.univ ∨ ∀ a, (Rect.whole S16400).stride a = 1}
    {k : PUnit → Pg i α} {Q : α → St → Prop} {g₀ : ℕ → ℕ → Wd} {Ls : ℕ → List Wd} (hH : Held g₀ Ls) (Ls' : ℕ → List Wd) (ms : ℕ → Prop) [DecidablePred ms] (w : ℕ → Wd)
    (hL : ∀ l < 16, Ls' l = if ms l then Ls l ++ [w l] else Ls l) (hb : ∀ l < 16, (Ls l).length < 1025) (hv : ∀ x, v x = w (x 0).val)
    (ho : ∀ x, (idx x).toNat = 1025 * (x 0).val + (Ls (x 0).val).length) (hms : ∀ x, mask x = 1 ↔ ms (x 0).val)
    (h : ∀ g, Held g Ls' → TW d i B (k ⟨⟩) Q { st with ca := g }) :
    TW d i B (.op (.load B.a5 (.whole S16400) hl) fun f => .op (.store B.a5 (.whole S16400) (storeIdx f ![idx] v mask false hi) Finset.univ hs hm) k) Q { st with ca := g₀ } :=
  TW.scatter_a (hi := hi) (st := { st with ca := g₀ }) (fun l => (Ls l).length) ms w (funext hv) hb ho hms (h _ (hH.push _ ms w (fun _ _ => rfl) hL))

theorem TW.push_b {idx : IVec S16 32} {v : Vec Bits S16 .f32} {mask : IVec S16 1}
    {hi : ∀ a x, ((![idx] : Fin 1 → IVec S16 32) a x).toNat < S16400.size a} {hs : (B.a6.access (.whole S16400)).Stores Finset.univ}
    {hl : B.a6.view.LoadsAt (.whole S16400)} {hm : Finset.univ = Finset.univ ∨ ∀ a, (Rect.whole S16400).stride a = 1}
    {k : PUnit → Pg i α} {Q : α → St → Prop} {g₀ : ℕ → ℕ → Wd} {Ls : ℕ → List Wd} (hH : Held g₀ Ls) (Ls' : ℕ → List Wd) (ms : ℕ → Prop) [DecidablePred ms] (w : ℕ → Wd)
    (hL : ∀ l < 16, Ls' l = if ms l then Ls l ++ [w l] else Ls l) (hb : ∀ l < 16, (Ls l).length < 1025) (hv : ∀ x, v x = w (x 0).val)
    (ho : ∀ x, (idx x).toNat = 1025 * (x 0).val + (Ls (x 0).val).length) (hms : ∀ x, mask x = 1 ↔ ms (x 0).val)
    (h : ∀ g, Held g Ls' → TW d i B (k ⟨⟩) Q { st with cb := g }) :
    TW d i B (.op (.load B.a6 (.whole S16400) hl) fun f => .op (.store B.a6 (.whole S16400) (storeIdx f ![idx] v mask false hi) Finset.univ hs hm) k) Q { st with cb := g₀ } :=
  TW.scatter_b (hi := hi) (st := { st with cb := g₀ }) (fun l => (Ls l).length) ms w (funext hv) hb ho hms (h _ (hH.push _ ms w (fun _ _ => rfl) hL))

/-- One entry of a pass that keeps: a gather from the one buffer, then a store of the lanes kept, after those kept before. -/
theorem TW.keep_ab {idx' : (S16400.Idx → Wd) → IVec S16 32} {v : (S16400.Idx → Wd) → Vec Bits S16 .f32} {mask : (S16400.Idx → Wd) → IVec S16 1}
    {P' : (S16400.Idx → Wd) → Prop} {dP' : ∀ f, Decidable (P' f)}
    {hi' : ∀ f, P' f → ∀ a x, ((![idx' f] : Fin 1 → IVec S16 32) a x).toNat < S16400.size a} {hs : (B.a6.access (.whole S16400)).Stores Finset.univ}
    {hl5 : B.a5.view.LoadsAt (.whole S16400)} {hl : B.a6.view.LoadsAt (.whole S16400)} {hm : Finset.univ = Finset.univ ∨ ∀ a, (Rect.whole S16400).stride a = 1}
    {k : (S16400.Idx → Wd) → Pg i α} {Q : α → St → Prop} {g₀ : ℕ → ℕ → Wd} {key : Wd → ℕ} {b n : ℕ} {A : ℕ → List Wd} {cnt : IVec S16 32} (hA : Cands A cnt n)
    (m : ℕ) (hH : Held g₀ (kept key b A m)) (hg : Held st.ca A) (o : (S16400.Idx → Wd) → IVec S16 32) (hO : ∀ f x, (o f x).toNat = (kept key b A m (x 0).val).length)
    (hP' : ∀ f, P' f) (hv : ∀ f, Reads f st.ca → ∀ x, v f x = st.ca (x 0).val m)
    (ho : ∀ f x, (idx' f x).toNat = 1025 * (x 0).val + (kept key b A m (x 0).val).length)
    (hms : ∀ f, Reads f st.ca → ∀ x, mask f x = 1 ↔ m < (A (x 0).val).length ∧ key (st.ca (x 0).val m) = b)
    (h : ∀ f g, Held g (kept key b A (m + 1)) → (∀ x, (IntOp.addi (o f x) ((mask f x).setWidth 32)).toNat = (kept key b A (m + 1) (x 0).val).length) →
      TW d i B (k f) Q { st with cb := g }) :
    TW d i B (.op (.load B.a5 (.whole S16400) hl5) fun (f : Vec Bits S16400 .f32) => .op (.assume (P' f) (dP' f)) fun p =>
      .op (.load B.a6 (.whole S16400) hl) fun g => .op (.store B.a6 (.whole S16400) (storeIdx g ![idx' f] (v f) (mask f) false (hi' f p.down)) Finset.univ hs hm) fun _ => k f)
      Q { st with cb := g₀ } := by
  refine TW.read_a fun f hf => ?_
  refine TW.assume (hP' f) ?_
  have hs : ∀ l < 16, kept key b A (m + 1) l = if m < (A l).length ∧ key (st.ca l m) = b then kept key b A m l ++ [st.ca l m] else kept key b A m l :=
    fun l hl => kept_step fun hj => hg l hl m hj
  refine TW.push_b (st := st) (hi := hi' f (hP' f)) hH (kept key b A (m + 1)) (fun l => m < (A l).length ∧ key (st.ca l m) = b) (fun l => st.ca l m) hs
    (fun l hl => hA.kept_lt hl) (hv f hf) (ho f) (hms f hf) fun g hg' => ?_
  exact h f g hg' (next_len (o f) (hms f hf) (hO f) (fun l hl => hA.kept_lt hl) hs)

theorem TW.keep_ba {idx' : (S16400.Idx → Wd) → IVec S16 32} {v : (S16400.Idx → Wd) → Vec Bits S16 .f32} {mask : (S16400.Idx → Wd) → IVec S16 1}
    {P' : (S16400.Idx → Wd) → Prop} {dP' : ∀ f, Decidable (P' f)}
    {hi' : ∀ f, P' f → ∀ a x, ((![idx' f] : Fin 1 → IVec S16 32) a x).toNat < S16400.size a} {hs : (B.a5.access (.whole S16400)).Stores Finset.univ}
    {hl5 : B.a6.view.LoadsAt (.whole S16400)} {hl : B.a5.view.LoadsAt (.whole S16400)} {hm : Finset.univ = Finset.univ ∨ ∀ a, (Rect.whole S16400).stride a = 1}
    {k : (S16400.Idx → Wd) → Pg i α} {Q : α → St → Prop} {g₀ : ℕ → ℕ → Wd} {key : Wd → ℕ} {b n : ℕ} {A : ℕ → List Wd} {cnt : IVec S16 32} (hA : Cands A cnt n)
    (m : ℕ) (hH : Held g₀ (kept key b A m)) (hg : Held st.cb A) (o : (S16400.Idx → Wd) → IVec S16 32) (hO : ∀ f x, (o f x).toNat = (kept key b A m (x 0).val).length)
    (hP' : ∀ f, P' f) (hv : ∀ f, Reads f st.cb → ∀ x, v f x = st.cb (x 0).val m)
    (ho : ∀ f x, (idx' f x).toNat = 1025 * (x 0).val + (kept key b A m (x 0).val).length)
    (hms : ∀ f, Reads f st.cb → ∀ x, mask f x = 1 ↔ m < (A (x 0).val).length ∧ key (st.cb (x 0).val m) = b)
    (h : ∀ f g, Held g (kept key b A (m + 1)) → (∀ x, (IntOp.addi (o f x) ((mask f x).setWidth 32)).toNat = (kept key b A (m + 1) (x 0).val).length) →
      TW d i B (k f) Q { st with ca := g }) :
    TW d i B (.op (.load B.a6 (.whole S16400) hl5) fun (f : Vec Bits S16400 .f32) => .op (.assume (P' f) (dP' f)) fun p =>
      .op (.load B.a5 (.whole S16400) hl) fun g => .op (.store B.a5 (.whole S16400) (storeIdx g ![idx' f] (v f) (mask f) false (hi' f p.down)) Finset.univ hs hm) fun _ => k f)
      Q { st with ca := g₀ } := by
  refine TW.read_b fun f hf => ?_
  refine TW.assume (hP' f) ?_
  have hs : ∀ l < 16, kept key b A (m + 1) l = if m < (A l).length ∧ key (st.cb l m) = b then kept key b A m l ++ [st.cb l m] else kept key b A m l :=
    fun l hl => kept_step fun hj => hg l hl m hj
  refine TW.push_a (st := st) (hi := hi' f (hP' f)) hH (kept key b A (m + 1)) (fun l => m < (A l).length ∧ key (st.cb l m) = b) (fun l => st.cb l m) hs
    (fun l hl => hA.kept_lt hl) (hv f hf) (ho f) (hms f hf) fun g hg' => ?_
  exact h f g hg' (next_len (o f) (hms f hf) (hO f) (fun l hl => hA.kept_lt hl) hs)

end Cert.Proof.Select
-- ==== Proof.Hist.lean ====
/-
  The histograms of the candidates' next digit, and the passes that keep the candidates of the chosen digit.
-/
module

public import proofs.«01_k».proof.Proof.Cand

@[expose] public section

noncomputable section

namespace Cert.Proof.Select

open Cert.Kernel Cert.Kernel.Gen
open Idealize.ShloMosaic
open Idealize.SL Idealize.SL.BI Idealize.SL.Sem
open Idealize.ShloMosaic.Rounds

variable {d : Fin nD} {i : grid0.Coords} {B : Mems} {α β : Type} {st : St}

/-- The second digit's histogram. -/
theorem spec_hist2 {v19 v27 c0 c1 : BitVec 32} {v2 v3 v4 v29 : IVec S16 32} {n : ℕ} {w19 : k0_chk19 (BitVec.ofNat 32 n)} {A : ℕ → List Wd}
    (hv2 : ∀ x, (v2 x).toNat = (x 0).val) (hv3 : ∀ x, v3 x = 1#32) (hA : Cands A v29 n) (hg : Held st.ca A) (hz : HistZero st.hist) :
    TW d i B (Scf.Loop.for (k0_t7_loop (BitVec.ofNat 32 n)) (k0_t7_ok _ w19) 0#32
        (k0_t7_body i B.a2 B.h2 B.a3 B.h3 B.a4 B.h4 B.a5 B.h5 B.a6 B.h6 B.a7 B.h7 B.a8 B.h8 B.a9 B.h9 B.r0 B.r1 v2 v3 v4 v19 v27 c0 c1 v29 _ w19))
      (fun _ st' => ∃ h, st' = { st with hist := h } ∧ HistIs (dg (2 ^ 15) (2 ^ 8)) A h) st := by
  have hn := hA.le
  have htr : (k0_t7_loop (BitVec.ofNat 32 n)).trips = (n + 3) / 4 := trips_main ⟨n, by omega⟩
  refine TW.mono (TW.loop (fun k _ st' => ∃ h, st' = { st with hist := h } ∧ HistIs (dg (2 ^ 15) (2 ^ 8)) (upto A (4 * k)) h) ⟨_, rfl, .nil hz⟩ ?_) ?_
  · rintro k a _ ⟨h, rfl, hH⟩
    have hk : k.val < 256 := by have := k.isLt; omega
    have hm : ∀ r < 4, 4 * k.val + r < 1025 := by omega
    have en := fun r (hr : r < 4) => entry_toNat hk hr
    have pl := fun r (hr : r < 4) => idx_of hv2 (o := fun _ => _) (n := fun _ => _) (fun _ => en r hr) (fun _ _ => hm r hr)
    have ky := fun (u : Wd) (x : S16.Idx) => dgIdx_toNat (u := u) (hv2 x) (lane_lt x) (n := 15) (k := 8) (m := 255#32) (by decide) rfl (by decide)
    have hD : ∀ u, dg (2 ^ 15) (2 ^ 8) u < 256 := fun u => (dg_lt (by decide) u).trans_le (by decide)
    refine TW.assume (chk_cand fun x => ⟨_, pl 0 (by decide) x, hm 0 (by decide)⟩) ?_
    refine TW.hist_a (st := st) (4 * k.val + 0) hH hg hv3 (fun f => chk_hist fun x => ⟨_, ky _ x, hD _⟩)
      (fun f hf x => (ky _ x).trans (congrArg (16 * dg (2 ^ 15) (2 ^ 8) · + (x 0).val) (hf.at (hm 0 (by decide)) (pl 0 (by decide) x)))) (hA.more (en 0 (by decide)) (hm 0 (by decide))) fun h hH => ?_
    refine TW.assume (chk_cand fun x => ⟨_, pl 1 (by decide) x, hm 1 (by decide)⟩) ?_
    refine TW.hist_a (st := st) (4 * k.val + 1) hH hg hv3 (fun f => chk_hist fun x => ⟨_, ky _ x, hD _⟩)
      (fun f hf x => (ky _ x).trans (congrArg (16 * dg (2 ^ 15) (2 ^ 8) · + (x 0).val) (hf.at (hm 1 (by decide)) (pl 1 (by decide) x)))) (hA.more (en 1 (by decide)) (hm 1 (by decide))) fun h hH => ?_
    refine TW.assume (chk_cand fun x => ⟨_, pl 2 (by decide) x, hm 2 (by decide)⟩) ?_
    refine TW.hist_a (st := st) (4 * k.val + 2) hH hg hv3 (fun f => chk_hist fun x => ⟨_, ky _ x, hD _⟩)
      (fun f hf x => (ky _ x).trans (congrArg (16 * dg (2 ^ 15) (2 ^ 8) · + (x 0).val) (hf.at (hm 2 (by decide)) (pl 2 (by decide) x)))) (hA.more (en 2 (by decide)) (hm 2 (by decide))) fun h hH => ?_
    refine TW.assume (chk_cand fun x => ⟨_, pl 3 (by decide) x, hm 3 (by decide)⟩) ?_
    refine TW.hist_a (st := st) (4 * k.val + 3) hH hg hv3 (fun f => chk_hist fun x => ⟨_, ky _ x, hD _⟩)
      (fun f hf x => (ky _ x).trans (congrArg (16 * dg (2 ^ 15) (2 ^ 8) · + (x 0).val) (hf.at (hm 3 (by decide)) (pl 3 (by decide) x)))) (hA.more (en 3 (by decide)) (hm 3 (by decide))) fun h hH => ?_
    exact TW.ret ⟨_, rfl, hH⟩
  · rintro a _ ⟨h, rfl, hH⟩
    refine ⟨h, rfl, hH.congr fun l hl => (upto_all ?_).symm⟩
    have := hA.len l hl
    omega

/-- The third digit's histogram. -/
theorem spec_hist3 {v35 v50 v58 : BitVec 32} {v2 v3 v4 v29 v67 : IVec S16 32} {w19 : k0_chk19 v35} {n : ℕ} {w54 : k0_chk54 (BitVec.ofNat 32 n)} {A : ℕ → List Wd}
    (hv2 : ∀ x, (v2 x).toNat = (x 0).val) (hv3 : ∀ x, v3 x = 1#32) (hA : Cands A v67 n) (hg : Held st.cb A) (hz : HistZero st.hist) :
    TW d i B (Scf.Loop.for (k0_t13_loop (BitVec.ofNat 32 n)) (k0_t13_ok _ w54) 0#32
        (k0_t13_body i B.a2 B.h2 B.a3 B.h3 B.a4 B.h4 B.a5 B.h5 B.a6 B.h6 B.a7 B.h7 B.a8 B.h8 B.a9 B.h9 B.r0 B.r1 v2 v3 v4 v29 v35 w19 v50 v58 v67 _ w54))
      (fun _ st' => ∃ h, st' = { st with hist := h } ∧ HistIs (dg (2 ^ 7) (2 ^ 8)) A h) st := by
  have hn := hA.le
  have htr : (k0_t13_loop (BitVec.ofNat 32 n)).trips = (n + 3) / 4 := trips_main ⟨n, by omega⟩
  refine TW.mono (TW.loop (fun k _ st' => ∃ h, st' = { st with hist := h } ∧ HistIs (dg (2 ^ 7) (2 ^ 8)) (upto A (4 * k)) h) ⟨_, rfl, .nil hz⟩ ?_) ?_
  · rintro k a _ ⟨h, rfl, hH⟩
    have hk : k.val < 256 := by have := k.isLt; omega
    have hm : ∀ r < 4, 4 * k.val + r < 1025 := by omega
    have en := fun r (hr : r < 4) => entry_toNat hk hr
    have pl := fun r (hr : r < 4) => idx_of hv2 (o := fun _ => _) (n := fun _ => _) (fun _ => en r hr) (fun _ _ => hm r hr)
    have ky := fun (u : Wd) (x : S16.Idx) => dgIdx_toNat (u := u) (hv2 x) (lane_lt x) (n := 7) (k := 8) (m := 255#32) (by decide) rfl (by decide)
    have hD : ∀ u, dg (2 ^ 7) (2 ^ 8) u < 256 := fun u => (dg_lt (by decide) u).trans_le (by decide)
    refine TW.assume (chk_cand fun x => ⟨_, pl 0 (by decide) x, hm 0 (by decide)⟩) ?_
    refine TW.hist_b (st := st) (4 * k.val + 0) hH hg hv3 (fun f => chk_hist fun x => ⟨_, ky _ x, hD _⟩)
      (fun f hf x => (ky _ x).trans (congrArg (16 * dg (2 ^ 7) (2 ^ 8) · + (x 0).val) (hf.at (hm 0 (by decide)) (pl 0 (by decide) x)))) (hA.more (en 0 (by decide)) (hm 0 (by decide))) fun h hH => ?_
    refine TW.assume (chk_cand fun x => ⟨_, pl 1 (by decide) x, hm 1 (by decide)⟩) ?_
    refine TW.hist_b (st := st) (4 * k.val + 1) hH hg hv3 (fun f => chk_hist fun x => ⟨_, ky _ x, hD _⟩)
      (fun f hf x => (ky _ x).trans (congrArg (16 * dg (2 ^ 7) (2 ^ 8) · + (x 0).val) (hf.at (hm 1 (by decide)) (pl 1 (by decide) x)))) (hA.more (en 1 (by decide)) (hm 1 (by decide))) fun h hH => ?_
    refine TW.assume (chk_cand fun x => ⟨_, pl 2 (by decide) x, hm 2 (by decide)⟩) ?_
    refine TW.hist_b (st := st) (4 * k.val + 2) hH hg hv3 (fun f => chk_hist fun x => ⟨_, ky _ x, hD _⟩)
      (fun f hf x => (ky _ x).trans (congrArg (16 * dg (2 ^ 7) (2 ^ 8) · + (x 0).val) (hf.at (hm 2 (by decide)) (pl 2 (by decide) x)))) (hA.more (en 2 (by decide)) (hm 2 (by decide))) fun h hH => ?_
    refine TW.assume (chk_cand fun x => ⟨_, pl 3 (by decide) x, hm 3 (by decide)⟩) ?_
    refine TW.hist_b (st := st) (4 * k.val + 3) hH hg hv3 (fun f => chk_hist fun x => ⟨_, ky _ x, hD _⟩)
      (fun f hf x => (ky _ x).trans (congrArg (16 * dg (2 ^ 7) (2 ^ 8) · + (x 0).val) (hf.at (hm 3 (by decide)) (pl 3 (by decide) x)))) (hA.more (en 3 (by decide)) (hm 3 (by decide))) fun h hH => ?_
    exact TW.ret ⟨_, rfl, hH⟩
  · rintro a _ ⟨h, rfl, hH⟩
    refine ⟨h, rfl, hH.congr fun l hl => (upto_all ?_).symm⟩
    have := hA.len l hl
    omega

/-- The last digit's histogram. -/
theorem spec_hist4 {v58 v73 v88 : BitVec 32} {v2 v3 v4 v67 v105 : IVec S16 32} {w54 : k0_chk54 v73} {w72 : k0_chk72 v88} {n : ℕ} {w89 : k0_chk89 (BitVec.ofNat 32 n)} {A : ℕ → List Wd}
    (hv2 : ∀ x, (v2 x).toNat = (x 0).val) (hv3 : ∀ x, v3 x = 1#32) (hA : Cands A v105 n) (hg : Held st.ca A) (hz : HistZero st.hist) :
    TW d i B (Scf.Loop.for (k0_t19_loop (BitVec.ofNat 32 n)) (k0_t19_ok _ w89) 0#32
        (k0_t19_body i B.a2 B.h2 B.a3 B.h3 B.a4 B.h4 B.a5 B.h5 B.a6 B.h6 B.a7 B.h7 B.a8 B.h8 B.a9 B.h9 B.r0 B.r1 v2 v3 v4 v58 v67 v73 w54 v88 w72 v105 _ w89))
      (fun _ st' => ∃ h, st' = { st with hist := h } ∧ HistIs (dg (2 ^ 0) (2 ^ 7)) A h) st := by
  have hn := hA.le
  have htr : (k0_t19_loop (BitVec.ofNat 32 n)).trips = (n + 3) / 4 := trips_main ⟨n, by omega⟩
  refine TW.mono (TW.loop (fun k _ st' => ∃ h, st' = { st with hist := h } ∧ HistIs (dg (2 ^ 0) (2 ^ 7)) (upto A (4 * k)) h) ⟨_, rfl, .nil hz⟩ ?_) ?_
  · rintro k a _ ⟨h, rfl, hH⟩
    have hk : k.val < 256 := by have := k.isLt; omega
    have hm : ∀ r < 4, 4 * k.val + r < 1025 := by omega
    have en := fun r (hr : r < 4) => entry_toNat hk hr
    have pl := fun r (hr : r < 4) => idx_of hv2 (o := fun _ => _) (n := fun _ => _) (fun _ => en r hr) (fun _ _ => hm r hr)
    have ky := fun (u : Wd) (x : S16.Idx) => dgIdx_toNat (u := u) (hv2 x) (lane_lt x) (n := 0) (k := 7) (m := 127#32) (by decide) rfl (by decide)
    have hD : ∀ u, dg (2 ^ 0) (2 ^ 7) u < 256 := fun u => (dg_lt (by decide) u).trans_le (by decide)
    refine TW.assume (chk_cand fun x => ⟨_, pl 0 (by decide) x, hm 0 (by decide)⟩) ?_
    refine TW.hist_a (st := st) (4 * k.val + 0) hH hg hv3 (fun f => chk_hist fun x => ⟨_, ky _ x, hD _⟩)
      (fun f hf x => (ky _ x).trans (congrArg (16 * dg (2 ^ 0) (2 ^ 7) · + (x 0).val) (hf.at (hm 0 (by decide)) (pl 0 (by decide) x)))) (hA.more (en 0 (by decide)) (hm 0 (by decide))) fun h hH => ?_
    refine TW.assume (chk_cand fun x => ⟨_, pl 1 (by decide) x, hm 1 (by decide)⟩) ?_
    refine TW.hist_a (st := st) (4 * k.val + 1) hH hg hv3 (fun f => chk_hist fun x => ⟨_, ky _ x, hD _⟩)
      (fun f hf x => (ky _ x).trans (congrArg (16 * dg (2 ^ 0) (2 ^ 7) · + (x 0).val) (hf.at (hm 1 (by decide)) (pl 1 (by decide) x)))) (hA.more (en 1 (by decide)) (hm 1 (by decide))) fun h hH => ?_
    refine TW.assume (chk_cand fun x => ⟨_, pl 2 (by decide) x, hm 2 (by decide)⟩) ?_
    refine TW.hist_a (st := st) (4 * k.val + 2) hH hg hv3 (fun f => chk_hist fun x => ⟨_, ky _ x, hD _⟩)
      (fun f hf x => (ky _ x).trans (congrArg (16 * dg (2 ^ 0) (2 ^ 7) · + (x 0).val) (hf.at (hm 2 (by decide)) (pl 2 (by decide) x)))) (hA.more (en 2 (by decide)) (hm 2 (by decide))) fun h hH => ?_
    refine TW.assume (chk_cand fun x => ⟨_, pl 3 (by decide) x, hm 3 (by decide)⟩) ?_
    refine TW.hist_a (st := st) (4 * k.val + 3) hH hg hv3 (fun f => chk_hist fun x => ⟨_, ky _ x, hD _⟩)
      (fun f hf x => (ky _ x).trans (congrArg (16 * dg (2 ^ 0) (2 ^ 7) · + (x 0).val) (hf.at (hm 3 (by decide)) (pl 3 (by decide) x)))) (hA.more (en 3 (by decide)) (hm 3 (by decide))) fun h hH => ?_
    exact TW.ret ⟨_, rfl, hH⟩
  · rintro a _ ⟨h, rfl, hH⟩
    refine ⟨h, rfl, hH.congr fun l hl => (upto_all ?_).symm⟩
    have := hA.len l hl
    omega

end Cert.Proof.Select
-- ==== Proof.Keep.lean ====
/-
  The passes that keep, of the candidates, those of the chosen digit; and the first pass over the row.
-/
module

public import proofs.«01_k».proof.Proof.Cand

@[expose] public section

noncomputable section

namespace Cert.Proof.Select

open Cert.Kernel Cert.Kernel.Gen
open Idealize.ShloMosaic
open Idealize.SL Idealize.SL.BI Idealize.SL.Sem
open Idealize.ShloMosaic.Rounds

variable {d : Fin nD} {i : grid0.Coords} {B : Mems} {α β : Type} {st : St}

/-- The candidates of the chosen second digit. -/
theorem spec_keep3 {v50 v58 : BitVec 32} {v2 v3 v4 v29 : IVec S16 32} {n : ℕ} {w19 : k0_chk19 (BitVec.ofNat 32 n)} {A : ℕ → List Wd}
    (hv2 : ∀ x, (v2 x).toNat = (x 0).val) (hv4 : ∀ x, v4 x = 0#32) (hA : Cands A v29 n) (hg : Held st.ca A) :
    TW d i B (Scf.Loop.for (k0_t11_loop (BitVec.ofNat 32 n)) (k0_t11_ok _ w19) v4
        (k0_t11_body i B.a2 B.h2 B.a3 B.h3 B.a4 B.h4 B.a5 B.h5 B.a6 B.h6 B.a7 B.h7 B.a8 B.h8 B.a9 B.h9 B.r0 B.r1 v2 v3 v4 v29 _ w19 v50 v58))
      (fun a st' => ∃ g, st' = { st with cb := g } ∧ Held g (fun l => (A l).filter fun u => decide (dg (2 ^ 15) (2 ^ 8) u = v50.toNat))
        ∧ ∀ x, (a x).toNat = ((A (x 0).val).filter fun u => decide (dg (2 ^ 15) (2 ^ 8) u = v50.toNat)).length) st := by
  have hn := hA.le
  have htr : (k0_t11_loop (BitVec.ofNat 32 n)).trips = (n + 3) / 4 := trips_main ⟨n, by omega⟩
  refine TW.mono (TW.loop (fun k a st' => ∃ g, st' = { st with cb := g } ∧ Held g (kept (dg (2 ^ 15) (2 ^ 8)) v50.toNat A (4 * k))
    ∧ ∀ x, (a x).toNat = (kept (dg (2 ^ 15) (2 ^ 8)) v50.toNat A (4 * k) (x 0).val).length) ⟨_, rfl, fun l _ j hj => absurd hj (Nat.not_lt_zero j), fun x => by rw [hv4]; rfl⟩ ?_) ?_
  · rintro k a _ ⟨g, rfl, hH, hO⟩
    have hk : k.val < 256 := by have := k.isLt; omega
    have hm : ∀ r < 4, 4 * k.val + r < 1025 := by omega
    have en := fun r (hr : r < 4) => entry_toNat hk hr
    have pl := fun r (hr : r < 4) => idx_of hv2 (o := fun _ => _) (n := fun _ => _) (fun _ => en r hr) (fun _ _ => hm r hr)
    have ms : ∀ r (hr : r < 4) (x : S16.Idx) (u : Wd), u = st.ca (x 0).val (4 * k.val + r) →
        (IntOp.andi (IntOp.cmpi .slt (Scalar.addi (Scalar.muli (Scf.iv 0#32 1#32 k.val) 4#32) (BitVec.ofNat 32 r)) (v29 x))
          (IntOp.cmpi .eq (IntOp.andi (IntOp.shrui .vector u 15#32) 255#32) v50) = 1
          ↔ 4 * k.val + r < (A (x 0).val).length ∧ dg (2 ^ 15) (2 ^ 8) (st.ca (x 0).val (4 * k.val + r)) = v50.toNat) := by
      intro r hr x u hu
      rw [and_one_iff, hA.more (en r hr) (hm r hr), eq_iff, dg_toNat u 255#32 15 8 (by decide) rfl, hu]
    refine TW.assume (chk_cand fun x => ⟨_, pl 0 (by decide) x, hm 0 (by decide)⟩) ?_
    refine TW.keep_ab (st := st) hA (4 * k.val + 0) hH hg (fun _ => _) (fun _ => hO)
      (fun f => chk_cand fun x => ⟨_, idx_of hv2 hO (fun _ => hA.kept_lt) x, hA.kept_lt (lane_lt x)⟩) (fun f hf x => hf.at (hm 0 (by decide)) (pl 0 (by decide) x))
      (fun f => idx_of hv2 hO fun _ => hA.kept_lt) (fun f hf x => ms 0 (by decide) x _ (hf.at (hm 0 (by decide)) (pl 0 (by decide) x))) ?_
    clear hH hO
    intro f g hH hO
    refine TW.assume (chk_cand fun x => ⟨_, pl 1 (by decide) x, hm 1 (by decide)⟩) ?_
    refine TW.keep_ab (st := st) hA (4 * k.val + 1) hH hg (fun _ => _) (fun _ => hO)
      (fun f => chk_cand fun x => ⟨_, idx_of hv2 hO (fun _ => hA.kept_lt) x, hA.kept_lt (lane_lt x)⟩) (fun f hf x => hf.at (hm 1 (by decide)) (pl 1 (by decide) x))
      (fun f => idx_of hv2 hO fun _ => hA.kept_lt) (fun f hf x => ms 1 (by decide) x _ (hf.at (hm 1 (by decide)) (pl 1 (by decide) x))) ?_
    clear hH hO
    intro f g hH hO
    refine TW.assume (chk_cand fun x => ⟨_, pl 2 (by decide) x, hm 2 (by decide)⟩) ?_
    refine TW.keep_ab (st := st) hA (4 * k.val + 2) hH hg (fun _ => _) (fun _ => hO)
      (fun f => chk_cand fun x => ⟨_, idx_of hv2 hO (fun _ => hA.kept_lt) x, hA.kept_lt (lane_lt x)⟩) (fun f hf x => hf.at (hm 2 (by decide)) (pl 2 (by decide) x))
      (fun f => idx_of hv2 hO fun _ => hA.kept_lt) (fun f hf x => ms 2 (by decide) x _ (hf.at (hm 2 (by decide)) (pl 2 (by decide) x))) ?_
    clear hH hO
    intro f g hH hO
    refine TW.assume (chk_cand fun x => ⟨_, pl 3 (by decide) x, hm 3 (by decide)⟩) ?_
    refine TW.keep_ab (st := st) hA (4 * k.val + 3) hH hg (fun _ => _) (fun _ => hO)
      (fun f => chk_cand fun x => ⟨_, idx_of hv2 hO (fun _ => hA.kept_lt) x, hA.kept_lt (lane_lt x)⟩) (fun f hf x => hf.at (hm 3 (by decide)) (pl 3 (by decide) x))
      (fun f => idx_of hv2 hO fun _ => hA.kept_lt) (fun f hf x => ms 3 (by decide) x _ (hf.at (hm 3 (by decide)) (pl 3 (by decide) x))) ?_
    clear hH hO
    intro f g hH hO
    exact TW.ret ⟨_, rfl, hH, hO⟩
  · rintro a _ ⟨g, rfl, hH, hO⟩
    have e : ∀ l < 16, upto A (4 * (k0_t11_loop (BitVec.ofNat 32 n)).trips) l = A l := fun l hl => upto_all (by
      have := hA.len l hl
      omega)
    refine ⟨g, rfl, ?_, ?_⟩
    · intro l hl j hj
      have := hH l hl j
      simp only [kept, e l hl] at this
      exact this hj
    · intro x
      have := hO x
      simp only [kept, e _ (lane_lt x)] at this
      exact this

/-- The candidates of the chosen third digit. -/
theorem spec_keep4 {v58 v88 : BitVec 32} {v2 v3 v4 v67 : IVec S16 32} {w72 : k0_chk72 v88} {n : ℕ} {w54 : k0_chk54 (BitVec.ofNat 32 n)} {A : ℕ → List Wd}
    (hv2 : ∀ x, (v2 x).toNat = (x 0).val) (hv4 : ∀ x, v4 x = 0#32) (hA : Cands A v67 n) (hg : Held st.cb A) :
    TW d i B (Scf.Loop.for (k0_t17_loop (BitVec.ofNat 32 n)) (k0_t17_ok _ w54) v4
        (k0_t17_body i B.a2 B.h2 B.a3 B.h3 B.a4 B.h4 B.a5 B.h5 B.a6 B.h6 B.a7 B.h7 B.a8 B.h8 B.a9 B.h9 B.r0 B.r1 v2 v3 v4 v58 v67 _ w54 v88 w72))
      (fun a st' => ∃ g, st' = { st with ca := g } ∧ Held g (fun l => (A l).filter fun u => decide (dg (2 ^ 7) (2 ^ 8) u = v88.toNat))
        ∧ ∀ x, (a x).toNat = ((A (x 0).val).filter fun u => decide (dg (2 ^ 7) (2 ^ 8) u = v88.toNat)).length) st := by
  have hn := hA.le
  have htr : (k0_t17_loop (BitVec.ofNat 32 n)).trips = (n + 3) / 4 := trips_main ⟨n, by omega⟩
  refine TW.mono (TW.loop (fun k a st' => ∃ g, st' = { st with ca := g } ∧ Held g (kept (dg (2 ^ 7) (2 ^ 8)) v88.toNat A (4 * k))
    ∧ ∀ x, (a x).toNat = (kept (dg (2 ^ 7) (2 ^ 8)) v88.toNat A (4 * k) (x 0).val).length) ⟨_, rfl, fun l _ j hj => absurd hj (Nat.not_lt_zero j), fun x => by rw [hv4]; rfl⟩ ?_) ?_
  · rintro k a _ ⟨g, rfl, hH, hO⟩
    have hk : k.val < 256 := by have := k.isLt; omega
    have hm : ∀ r < 4, 4 * k.val + r < 1025 := by omega
    have en := fun r (hr : r < 4) => entry_toNat hk hr
    have pl := fun r (hr : r < 4) => idx_of hv2 (o := fun _ => _) (n := fun _ => _) (fun _ => en r hr) (fun _ _ => hm r hr)
    have ms : ∀ r (hr : r < 4) (x : S16.Idx) (u : Wd), u = st.cb (x 0).val (4 * k.val + r) →
        (IntOp.andi (IntOp.cmpi .slt (Scalar.addi (Scalar.muli (Scf.iv 0#32 1#32 k.val) 4#32) (BitVec.ofNat 32 r)) (v67 x))
          (IntOp.cmpi .eq (IntOp.andi (IntOp.shrui .vector u 7#32) 255#32) v88) = 1
          ↔ 4 * k.val + r < (A (x 0).val).length ∧ dg (2 ^ 7) (2 ^ 8) (st.cb (x 0).val (4 * k.val + r)) = v88.toNat) := by
      intro r hr x u hu
      rw [and_one_iff, hA.more (en r hr) (hm r hr), eq_iff, dg_toNat u 255#32 7 8 (by decide) rfl, hu]
    refine TW.assume (chk_cand fun x => ⟨_, pl 0 (by decide) x, hm 0 (by decide)⟩) ?_
    refine TW.keep_ba (st := st) hA (4 * k.val + 0) hH hg (fun _ => _) (fun _ => hO)
      (fun f => chk_cand fun x => ⟨_, idx_of hv2 hO (fun _ => hA.kept_lt) x, hA.kept_lt (lane_lt x)⟩) (fun f hf x => hf.at (hm 0 (by decide)) (pl 0 (by decide) x))
      (fun f => idx_of hv2 hO fun _ => hA.kept_lt) (fun f hf x => ms 0 (by decide) x _ (hf.at (hm 0 (by decide)) (pl 0 (by decide) x))) ?_
    clear hH hO
    intro f g hH hO
    refine TW.assume (chk_cand fun x => ⟨_, pl 1 (by decide) x, hm 1 (by decide)⟩) ?_
    refine TW.keep_ba (st := st) hA (4 * k.val + 1) hH hg (fun _ => _) (fun _ => hO)
      (fun f => chk_cand fun x => ⟨_, idx_of hv2 hO (fun _ => hA.kept_lt) x, hA.kept_lt (lane_lt x)⟩) (fun f hf x => hf.at (hm 1 (by decide)) (pl 1 (by decide) x))
      (fun f => idx_of hv2 hO fun _ => hA.kept_lt) (fun f hf x => ms 1 (by decide) x _ (hf.at (hm 1 (by decide)) (pl 1 (by decide) x))) ?_
    clear hH hO
    intro f g hH hO
    refine TW.assume (chk_cand fun x => ⟨_, pl 2 (by decide) x, hm 2 (by decide)⟩) ?_
    refine TW.keep_ba (st := st) hA (4 * k.val + 2) hH hg (fun _ => _) (fun _ => hO)
      (fun f => chk_cand fun x => ⟨_, idx_of hv2 hO (fun _ => hA.kept_lt) x, hA.kept_lt (lane_lt x)⟩) (fun f hf x => hf.at (hm 2 (by decide)) (pl 2 (by decide) x))
      (fun f => idx_of hv2 hO fun _ => hA.kept_lt) (fun f hf x => ms 2 (by decide) x _ (hf.at (hm 2 (by decide)) (pl 2 (by decide) x))) ?_
    clear hH hO
    intro f g hH hO
    refine TW.assume (chk_cand fun x => ⟨_, pl 3 (by decide) x, hm 3 (by decide)⟩) ?_
    refine TW.keep_ba (st := st) hA (4 * k.val + 3) hH hg (fun _ => _) (fun _ => hO)
      (fun f => chk_cand fun x => ⟨_, idx_of hv2 hO (fun _ => hA.kept_lt) x, hA.kept_lt (lane_lt x)⟩) (fun f hf x => hf.at (hm 3 (by decide)) (pl 3 (by decide) x))
      (fun f => idx_of hv2 hO fun _ => hA.kept_lt) (fun f hf x => ms 3 (by decide) x _ (hf.at (hm 3 (by decide)) (pl 3 (by decide) x))) ?_
    clear hH hO
    intro f g hH hO
    exact TW.ret ⟨_, rfl, hH, hO⟩
  · rintro a _ ⟨g, rfl, hH, hO⟩
    have e : ∀ l < 16, upto A (4 * (k0_t17_loop (BitVec.ofNat 32 n)).trips) l = A l := fun l hl => upto_all (by
      have := hA.len l hl
      omega)
    refine ⟨g, rfl, ?_, ?_⟩
    · intro l hl j hj
      have := hH l hl j
      simp only [kept, e l hl] at this
      exact this hj
    · intro x
      have := hO x
      simp only [kept, e _ (lane_lt x)] at this
      exact this

/-! ## The first pass over the row -/

/-- The words kept of the first `n` of a lane: those whose top digit is `b`. -/
abbrev keptRow (row : ℕ → ℕ → Wd) (b n l : ℕ) : List Wd := (firsts row n l).filter fun u => decide (key1 u = b)

theorem keptRow_step (row : ℕ → ℕ → Wd) (b n l : ℕ) :
    keptRow row b (n + 1) l = if key1 (row n l) = b then keptRow row b n l ++ [row n l] else keptRow row b n l := by
  unfold keptRow
  rw [firsts_succ, List.filter_append, List.filter_singleton]
  by_cases h : key1 (row n l) = b
  · rw [if_pos h, decide_eq_true h]
    rfl
  · rw [if_neg h, decide_eq_false h, cond_false, List.append_nil]

theorem keptRow_len (row : ℕ → ℕ → Wd) (b n l : ℕ) : (keptRow row b n l).length ≤ n := by
  have h : (keptRow row b n l).length ≤ (firsts row n l).length := List.length_filter_le _ _
  have e : (firsts row n l).length = n := by unfold firsts; rw [List.length_map, List.length_range]
  omega

/-- One vector of the pass, kept where its top digit is the chosen one. -/
theorem TW.keep_row {idx : IVec S16 32} {mask : IVec S16 1} {v : Vec Bits S16 .f32}
    {hi : ∀ a x, ((![idx] : Fin 1 → IVec S16 32) a x).toNat < S16400.size a} {hs : (B.a5.access (.whole S16400)).Stores Finset.univ}
    {hl : B.a5.view.LoadsAt (.whole S16400)} {hm : Finset.univ = Finset.univ ∨ ∀ a, (Rect.whole S16400).stride a = 1}
    {k : PUnit → Pg i α} {Q : α → St → Prop} {g₀ row : ℕ → ℕ → Wd} {b n : ℕ} {o : IVec S16 32} (hn : n < 1025) (hH : Held g₀ (keptRow row b n))
    (hO : ∀ x, (o x).toNat = (keptRow row b n (x 0).val).length) (hv : ∀ x, v x = row n (x 0).val)
    (ho : ∀ x, (idx x).toNat = 1025 * (x 0).val + (keptRow row b n (x 0).val).length)
    (hms : ∀ x, mask x = 1 ↔ key1 (row n (x 0).val) = b)
    (h : ∀ g, Held g (keptRow row b (n + 1)) → (∀ x, (IntOp.addi (o x) ((mask x).setWidth 32)).toNat = (keptRow row b (n + 1) (x 0).val).length) →
      TW d i B (k ⟨⟩) Q { st with ca := g }) :
    TW d i B (.op (.load B.a5 (.whole S16400) hl) fun f => .op (.store B.a5 (.whole S16400) (storeIdx f ![idx] v mask false hi) Finset.univ hs hm) k) Q { st with ca := g₀ } := by
  have hb : ∀ l < 16, (keptRow row b n l).length < 1025 := fun l _ => (keptRow_len row b n l).trans_lt hn
  have hL : ∀ l < 16, keptRow row b (n + 1) l = _ := fun l _ => keptRow_step row b n l
  refine TW.push_a (st := st) (hi := hi) hH (keptRow row b (n + 1)) (fun l => key1 (row n l) = b) (fun l => row n l) hL hb hv ho hms fun g hg => ?_
  exact h g hg (next_len o hms hO hb hL)

theorem spec_cp {v19 v27 : BitVec 32} {v2 v3 v4 : IVec S16 32} (hv2 : ∀ x, (v2 x).toNat = (x 0).val) (hv4 : ∀ x, v4 x = 0#32) :
    TW d i B (Scf.Loop.for k0_t6_loop k0_t6_ok v4
        (k0_t6_body i B.a2 B.h2 B.a3 B.h3 B.a4 B.h4 B.a5 B.h5 B.a6 B.h6 B.a7 B.h7 B.a8 B.h8 B.a9 B.h9 B.r0 B.r1 v2 v3 v4 v19 v27 0#32 128#32))
      (fun a st' => ∃ g, st' = { st with ca := g } ∧ Held g (keptRow st.row v19.toNat 1024)
        ∧ ∀ x, (a x).toNat = (keptRow st.row v19.toNat 1024 (x 0).val).length) st := by
  refine TW.mono (TW.loop (fun k a st' => ∃ g, st' = { st with ca := g } ∧ Held g (keptRow st.row v19.toNat (8 * k))
    ∧ ∀ x, (a x).toNat = (keptRow st.row v19.toNat (8 * k) (x 0).val).length) ⟨_, rfl, fun l _ j hj => absurd hj (Nat.not_lt_zero j), fun x => by rw [hv4]; rfl⟩ ?_) ?_
  · rintro k a _ ⟨g, rfl, hH, hO⟩
    have hk : k.val < 128 := k.isLt
    have hms : ∀ (n : ℕ) (x : S16.Idx), IntOp.cmpi .eq (IntOp.shrui .vector (st.row n (x 0).val) 23#32) v19 = 1 ↔ key1 (st.row n (x 0).val) = v19.toNat := by
      intro n x
      rw [eq_iff, shr_toNat _ 23 (by decide)]
      rfl
    have hb : ∀ n < 1025, ∀ l < 16, (keptRow st.row v19.toNat n l).length < 1025 := fun n hn l _ => (keptRow_len _ _ n l).trans_lt hn
    iterate 8
      refine TW.load_row' (P := fun st' n => Held st'.ca (keptRow st'.row v19.toNat n)) hH ?_ ?_
      · simp only [k0_off15_eq, k0_off16_eq, k0_off17_eq, k0_off18_eq, k0_off19_eq, k0_off20_eq, k0_off21_eq, k0_off22_eq, Matrix.cons_val_fin_one]
        omega
      refine TW.assume (chk_cand fun x => ⟨_, idx_of hv2 hO (hb _ (by omega)) x, hb _ (by omega) _ (lane_lt x)⟩) ?_
      refine TW.keep_row (st := st) (by omega) hH hO (fun _ => rfl) (idx_of hv2 hO (hb _ (by omega))) (hms _) ?_
      clear hH hO
      intro g hH hO
    exact TW.ret ⟨_, rfl, hH, hO⟩
  · rintro a _ ⟨g, rfl, hH, hO⟩
    exact ⟨g, rfl, hH, hO⟩

end Cert.Proof.Select
-- ==== Proof.Row.lean ====
/-
  One row: the passes of its four digits, in the order the kernel runs them. Between two passes the state is `Stage`: the
  digits found so far, the rank left, a clear histogram.
-/
module

public import proofs.«01_k».proof.Proof.Search
public import proofs.«01_k».proof.Proof.Hist
public import proofs.«01_k».proof.Proof.Keep

@[expose] public section

noncomputable section

namespace Cert.Proof.Select

open Cert.Kernel Cert.Kernel.Gen
open Idealize.ShloMosaic
open Idealize.SL Idealize.SL.BI Idealize.SL.Sem
open Idealize.ShloMosaic.Rounds

variable {d : Fin nD} {i : grid0.Coords} {B : Mems} {α β : Type} {st st₀ : St}

/-! ## The row's words -/

/-- The words of a row, by lane. -/
abbrev words (row : ℕ → ℕ → Wd) : ℕ → List Wd := firsts row 1024

theorem words_mem {row : ℕ → ℕ → Wd} (hrow : ∀ n l, (row n l).toNat < 2 ^ 31) {l : ℕ} {u : Wd} (hu : u ∈ words row l) : u.toNat < 2 ^ 31 := by
  obtain ⟨k, -, rfl⟩ := List.mem_map.mp hu
  exact hrow k l

theorem tot_words (row : ℕ → ℕ → Wd) : tot (fun _ => true) (words row) = 16384 := by
  unfold tot words firsts
  simp

theorem tot_words_le (row : ℕ → ℕ → Wd) (p : Wd → Bool) : tot p (words row) ≤ 16384 := by
  rw [← tot_words row]
  exact tot_mono fun _ _ => rfl

theorem geT_lt (key : Wd → ℕ) (row : ℕ → ℕ → Wd) (D P : ℕ) : geT key 0 (begins (words row) D P) < 2 ^ 31 := by
  rw [geT_zero]
  exact (tot_words_le row _).trans_lt (by decide)

theorem begins_len (row : ℕ → ℕ → Wd) (D P l : ℕ) : (begins (words row) D P l).length ≤ 1024 := by
  refine (List.length_filter_le _ _).trans ?_
  unfold words firsts
  rw [List.length_map, List.length_range]

/-- Before the first digit: every word begins with no digits, and the rank is 64. -/
theorem Lvl.first {row : ℕ → ℕ → Wd} (hrow : ∀ n l, (row n l).toNat < 2 ^ 31) : Lvl (words row) (2 ^ 23 * 2 ^ 8) 0 64 := by
  have e : ∀ l, ∀ u ∈ words row l, u.toNat / (2 ^ 23 * 2 ^ 8) = 0 := fun l u hu => by
    have := words_mem hrow hu
    omega
  refine ⟨?_, by decide, ?_⟩
  · have : tot (fun u => decide (0 < u.toNat / (2 ^ 23 * 2 ^ 8))) (words row) = 0 := by
      by_contra hne
      obtain ⟨l, -, u, hu, hp⟩ := tot_mem (Nat.pos_of_ne_zero hne)
      have := e l u hu
      have := of_decide_eq_true hp
      omega
    omega
  · have : tot (fun u => decide (u.toNat / (2 ^ 23 * 2 ^ 8) = 0)) (words row) = tot (fun _ => true) (words row) :=
      tot_congr fun l _ => List.countP_congr fun u hu => by simp only [e l u hu, decide_true]
    rw [this, tot_words]
    decide

theorem begins_first {row : ℕ → ℕ → Wd} (hrow : ∀ n l, (row n l).toNat < 2 ^ 31) (l : ℕ) : begins (words row) (2 ^ 23 * 2 ^ 8) 0 l = words row l := by
  unfold begins
  refine List.filter_eq_self.mpr fun u hu => ?_
  have := words_mem hrow hu
  exact decide_eq_true (by omega)

/-- The first histogram's buckets are the first digit. -/
theorem HistIs.first {row h : ℕ → ℕ → Wd} (hrow : ∀ n l, (row n l).toNat < 2 ^ 31) (hh : HistIs key1 (words row) h) :
    HistIs (dg (2 ^ 23) (2 ^ 8)) (begins (words row) (2 ^ 23 * 2 ^ 8) 0) h := by
  intro b hb l hl
  rw [hh b hb l hl, begins_first hrow]
  unfold inB
  congr 1
  refine List.countP_congr fun u hu => ?_
  have := words_mem hrow hu
  have e : dg (2 ^ 23) (2 ^ 8) u = key1 u := by
    unfold dg key1
    omega
  rw [e]

/-! ## The step from a digit to the next -/

theorem dg_bound {D S : ℕ} (hS : 0 < S) (hS' : S ≤ 256) {A : ℕ → List Wd} : ∀ l < 16, ∀ u ∈ A l, dg D S u < 256 :=
  fun _ _ u _ => (Nat.mod_lt _ hS).trans_le hS'

theorem Found.lt_of {D S r : ℕ} {A : ℕ → List Wd} {b : Wd} (hS : 0 < S) (hF : Found (dg D S) A r b) (hr : 1 ≤ r) : b.toNat < S := by
  have h := hF.low
  obtain ⟨l, -, u, -, hp⟩ := tot_mem (show 0 < tot (fun u => decide (b.toNat ≤ dg D S u)) A from lt_of_lt_of_le hr h)
  have := of_decide_eq_true hp
  have : dg D S u < S := Nat.mod_lt _ hS
  omega

theorem Lvl.found {X : ℕ → List Wd} {D S E P : ℕ} {r b x : Wd} (hD : 0 < D) (hS : 0 < S) (hE : E = D * S) (h : Lvl X E P r.toNat)
    (hF : Found (dg D S) (begins X E P) r.toNat b) (hx : x = BitVec.ofNat 32 (geT (dg D S) (b.toNat + 1) (begins X E P))) :
    Lvl X D (P * S + b.toNat) (Scalar.subi r x).toNat := by
  subst hE hx
  have hh := hF.high
  have e : (Scalar.subi r (BitVec.ofNat 32 (geT (dg D S) (b.toNat + 1) (begins X (D * S) P)))).toNat
      = r.toNat - geT (dg D S) (b.toNat + 1) (begins X (D * S) P) := by
    show (r - BitVec.ofNat 32 _).toNat = _
    have := r.isLt
    rw [BitVec.toNat_sub, BitVec.toNat_ofNat, Nat.mod_eq_of_lt (a := geT _ _ _) (by omega)]
    omega
  rw [e]
  exact h.next hD hS (hF.lt_of hS h.pos) hF.low hh

/-- Between two passes of the row `st₀` holds: the digits `P` so far over words divided by `D`, the rank `r` left. -/
structure Stage (st₀ : St) (D P : ℕ) (r : Wd) (st : St) : Prop where
  row : st.row = st₀.row
  tb : st.tb = st₀.tb
  zero : HistZero st.hist
  lvl : Lvl (words st₀.row) D P r.toNat

/-- The scan can start once the row above the buckets is cleared. -/
theorem scan_ready {D S : ℕ} (hS : 0 < S) (hS' : S ≤ 256) {A : ℕ → List Wd} {h s : ℕ → ℕ → Wd} (hh : HistIs (dg D S) A h) :
    ScanI (dg D S) A 0 h (setRow s 256 (k0_pay227 : S16.Idx → Wd)) k0_pay227 :=
  .start (dg_bound hS hS') hh (fun _ hl => setRow_at hl) fun _ => rfl

theorem cands_of {A A' : ℕ → List Wd} {cnt : IVec S16 32} {n : ℕ} (hn : n ≤ 1024) (hc : ∀ x, (cnt x).toNat = (A (x 0).val).length)
    (hm : ∀ x, (cnt x).toNat ≤ n) (e : ∀ l, A l = A' l) : Cands A' cnt n := by
  have : A = A' := funext e
  subst this
  refine ⟨hc, fun l hl => ?_, hn⟩
  have := hm (ln l hl)
  rw [hc (ln l hl)] at this
  exact this

/-! ## The loops, at an upper bound known by an equation -/

theorem pass2 {v19 v27 c0 c1 v35 : BitVec 32} {v2 v3 v4 v29 : IVec S16 32} {n : ℕ} (e : v35 = BitVec.ofNat 32 n) {w19 : k0_chk19 v35} {A : ℕ → List Wd}
    (hv2 : ∀ x, (v2 x).toNat = (x 0).val) (hv3 : ∀ x, v3 x = 1#32) (hA : Cands A v29 n) (hg : Held st.ca A) (hz : HistZero st.hist) :
    TW d i B (Scf.Loop.for (k0_t7_loop v35) (k0_t7_ok _ w19) 0#32
        (k0_t7_body i B.a2 B.h2 B.a3 B.h3 B.a4 B.h4 B.a5 B.h5 B.a6 B.h6 B.a7 B.h7 B.a8 B.h8 B.a9 B.h9 B.r0 B.r1 v2 v3 v4 v19 v27 c0 c1 v29 _ w19))
      (fun _ st' => ∃ h, st' = { st with hist := h } ∧ HistIs (dg (2 ^ 15) (2 ^ 8)) A h) st := by
  subst e
  exact spec_hist2 hv2 hv3 hA hg hz

theorem pass3 {v35 v50 v58 v73 : BitVec 32} {v2 v3 v4 v29 v67 : IVec S16 32} {w19 : k0_chk19 v35} {n : ℕ} (e : v73 = BitVec.ofNat 32 n) {w54 : k0_chk54 v73} {A : ℕ → List Wd}
    (hv2 : ∀ x, (v2 x).toNat = (x 0).val) (hv3 : ∀ x, v3 x = 1#32) (hA : Cands A v67 n) (hg : Held st.cb A) (hz : HistZero st.hist) :
    TW d i B (Scf.Loop.for (k0_t13_loop v73) (k0_t13_ok _ w54) 0#32
        (k0_t13_body i B.a2 B.h2 B.a3 B.h3 B.a4 B.h4 B.a5 B.h5 B.a6 B.h6 B.a7 B.h7 B.a8 B.h8 B.a9 B.h9 B.r0 B.r1 v2 v3 v4 v29 v35 w19 v50 v58 v67 _ w54))
      (fun _ st' => ∃ h, st' = { st with hist := h } ∧ HistIs (dg (2 ^ 7) (2 ^ 8)) A h) st := by
  subst e
  exact spec_hist3 hv2 hv3 hA hg hz

theorem pass4 {v58 v73 v88 v111 : BitVec 32} {v2 v3 v4 v67 v105 : IVec S16 32} {w54 : k0_chk54 v73} {w72 : k0_chk72 v88} {n : ℕ} (e : v111 = BitVec.ofNat 32 n) {w89 : k0_chk89 v111}
    {A : ℕ → List Wd} (hv2 : ∀ x, (v2 x).toNat = (x 0).val) (hv3 : ∀ x, v3 x = 1#32) (hA : Cands A v105 n) (hg : Held st.ca A) (hz : HistZero st.hist) :
    TW d i B (Scf.Loop.for (k0_t19_loop v111) (k0_t19_ok _ w89) 0#32
        (k0_t19_body i B.a2 B.h2 B.a3 B.h3 B.a4 B.h4 B.a5 B.h5 B.a6 B.h6 B.a7 B.h7 B.a8 B.h8 B.a9 B.h9 B.r0 B.r1 v2 v3 v4 v58 v67 v73 w54 v88 w72 v105 _ w89))
      (fun _ st' => ∃ h, st' = { st with hist := h } ∧ HistIs (dg (2 ^ 0) (2 ^ 7)) A h) st := by
  subst e
  exact spec_hist4 hv2 hv3 hA hg hz

theorem keep3 {v35 v50 v58 : BitVec 32} {v2 v3 v4 v29 : IVec S16 32} {n : ℕ} (e : v35 = BitVec.ofNat 32 n) {w19 : k0_chk19 v35} {A : ℕ → List Wd}
    (hv2 : ∀ x, (v2 x).toNat = (x 0).val) (hv4 : ∀ x, v4 x = 0#32) (hA : Cands A v29 n) (hg : Held st.ca A) :
    TW d i B (Scf.Loop.for (k0_t11_loop v35) (k0_t11_ok _ w19) v4
        (k0_t11_body i B.a2 B.h2 B.a3 B.h3 B.a4 B.h4 B.a5 B.h5 B.a6 B.h6 B.a7 B.h7 B.a8 B.h8 B.a9 B.h9 B.r0 B.r1 v2 v3 v4 v29 _ w19 v50 v58))
      (fun a st' => ∃ g, st' = { st with cb := g } ∧ Held g (fun l => (A l).filter fun u => decide (dg (2 ^ 15) (2 ^ 8) u = v50.toNat))
        ∧ ∀ x, (a x).toNat = ((A (x 0).val).filter fun u => decide (dg (2 ^ 15) (2 ^ 8) u = v50.toNat)).length) st := by
  subst e
  exact spec_keep3 hv2 hv4 hA hg

theorem keep4 {v58 v88 v73 : BitVec 32} {v2 v3 v4 v67 : IVec S16 32} {w72 : k0_chk72 v88} {n : ℕ} (e : v73 = BitVec.ofNat 32 n) {w54 : k0_chk54 v73} {A : ℕ → List Wd}
    (hv2 : ∀ x, (v2 x).toNat = (x 0).val) (hv4 : ∀ x, v4 x = 0#32) (hA : Cands A v67 n) (hg : Held st.cb A) :
    TW d i B (Scf.Loop.for (k0_t17_loop v73) (k0_t17_ok _ w54) v4
        (k0_t17_body i B.a2 B.h2 B.a3 B.h3 B.a4 B.h4 B.a5 B.h5 B.a6 B.h6 B.a7 B.h7 B.a8 B.h8 B.a9 B.h9 B.r0 B.r1 v2 v3 v4 v58 v67 _ w54 v88 w72))
      (fun a st' => ∃ g, st' = { st with ca := g } ∧ Held g (fun l => (A l).filter fun u => decide (dg (2 ^ 7) (2 ^ 8) u = v88.toNat))
        ∧ ∀ x, (a x).toNat = ((A (x 0).val).filter fun u => decide (dg (2 ^ 7) (2 ^ 8) u = v88.toNat)).length) st := by
  subst e
  exact spec_keep4 hv2 hv4 hA hg

theorem no_rest {n : ℕ} (hn : n ≤ 1024) {v : BitVec 32} (e : v = BitVec.ofNat 32 n) : (k0_t8_loop v).trips = 0 := by
  subst e
  exact trips_rest ⟨n, by omega⟩

theorem TW.ret_bind {a : α} {k : α → Pg i β} {Q : β → St → Prop} (h : TW d i B (k a) Q st) : TW d i B (.ret a >>= k) Q st := h

/-! ## The second digit -/

theorem spec_part28 {v19 v27 : BitVec 32} {v2 : IVec S16 32} (hv2 : ∀ x, (v2 x).toNat = (x 0).val) (hS : Stage st₀ (2 ^ 23) v19.toNat v27 st) :
    TW d i B (k0_part28 i B.a2 B.h2 B.a3 B.h3 B.a4 B.h4 B.a5 B.h5 B.a6 B.h6 B.a7 B.h7 B.a8 B.h8 B.a9 B.h9 B.r0 B.r1 v2 k0_pay1 k0_pay2 v19 v27 0#32 128#32)
      (fun a st' => ∃ v29 v35 w b v58, a = ⟨v29, v35, w, b, v58⟩ ∧ Stage st₀ (2 ^ 15) (v19.toNat * 2 ^ 8 + b.toNat) v58 st' ∧ b.toNat < 2 ^ 8
        ∧ Held st'.ca (begins (words st₀.row) (2 ^ 23) v19.toNat) ∧ ∃ n, v35 = BitVec.ofNat 32 n ∧ Cands (begins (words st₀.row) (2 ^ 23) v19.toNat) v29 n) st := by
  obtain ⟨hr, ht, hz, hl⟩ := hS
  rw [k0_part28_eq_skeleton]
  unfold k0_part28_skel
  refine TW.bind (spec_cp hv2 fun _ => rfl) ?_
  rintro v29 _ ⟨g, rfl, hg, hc⟩
  rw [hr] at hg hc
  have hg : Held g (begins (words st₀.row) (2 ^ 23) v19.toNat) := hg
  have hc : ∀ x, (v29 x).toNat = (begins (words st₀.row) (2 ^ 23) v19.toNat (x 0).val).length := hc
  obtain ⟨n, hn, en, hm⟩ := max_lanes v29 (fun x => by rw [hc]; exact begins_len _ _ _ _) inpos_S16_p15
  have en : extractAt ![15] (k0_pay174 v29) inpos_S16_p15 = BitVec.ofNat 32 n := en
  have hA := cands_of hn hc hm fun _ => rfl
  refine TW.assume (by rw [en]; exact chk19_of hn) ?_
  refine TW.ret_bind ?_
  refine TW.bind (pass2 en hv2 (fun _ => rfl) hA hg hz) ?_
  rintro _ _ ⟨h, rfl, hh⟩
  refine TW.bind (TW.loop_zero (no_rest hn en)) ?_
  rintro _ _ ⟨-, rfl⟩
  refine TW.load_sfx (m := 256) rfl ?_
  refine TW.store_sfx (m := 256) rfl ?_
  refine TW.ret_bind ?_
  refine TW.bind (spec_scan2 (scan_ready (by decide) (by decide) hh)) ?_
  rintro _ _ ⟨h, s, rfl, hz, hs⟩
  refine TW.bind (spec_bs2 hs (dg_bound (by decide) (by decide)) (geT_lt _ _ _ _) hl.pos (by rw [geT_zero]; exact hl.le)) ?_
  rintro ⟨b, hi⟩ s' ⟨rfl, hF⟩
  have hF : Found (dg (2 ^ 15) (2 ^ 8)) (begins (words st₀.row) (2 ^ 23) v19.toNat) v27.toNat b := hF
  have hb := hF.lt
  have ho : k0_off26 b 0 = 16 * (b.toNat + 1) := off_next hb
  refine TW.assume (by
    intro a
    rw [Fin.eq_zero a, ho]
    show 16 * (b.toNat + 1) + 16 ≤ 4112
    omega) ?_
  refine TW.load_sfx ho ?_
  have hx : extractAt ![15] (k0_pay191 (F := Bits) (vec (s (b.toNat + 1)))) inpos_S16_p15 = BitVec.ofNat 32 (geT (dg (2 ^ 15) (2 ^ 8)) (b.toNat + 1) (begins (words st₀.row) (2 ^ 23) v19.toNat)) :=
    sfx_sum hs (by omega) _
  refine TW.ret ⟨_, _, _, _, _, rfl, ⟨hr, ht, hz, ?_⟩, hb, hg, n, en, hA⟩
  exact Lvl.found (D := 2 ^ 15) (S := 2 ^ 8) (by decide) (by decide) rfl hl hF hx

/-! ## The third digit -/

theorem spec_part29 {v29 : IVec S16 32} {v35 v50 v58 : BitVec 32} {w19 : k0_chk19 v35} {v2 : IVec S16 32} {P n : ℕ} (hv2 : ∀ x, (v2 x).toNat = (x 0).val)
    (hS : Stage st₀ (2 ^ 15) (P * 2 ^ 8 + v50.toNat) v58 st) (hb : v50.toNat < 2 ^ 8) (hg : Held st.ca (begins (words st₀.row) (2 ^ 23) P))
    (e : v35 = BitVec.ofNat 32 n) (hA : Cands (begins (words st₀.row) (2 ^ 23) P) v29 n) :
    TW d i B (k0_part29 i B.a2 B.h2 B.a3 B.h3 B.a4 B.h4 B.a5 B.h5 B.a6 B.h6 B.a7 B.h7 B.a8 B.h8 B.a9 B.h9 B.r0 B.r1 v2 k0_pay1 k0_pay2 v29 v35 w19 v50 v58)
      (fun a st' => ∃ v67 v73 w b w', a = ⟨v67, v73, w, b, w'⟩ ∧ Stage st₀ (2 ^ 15) (P * 2 ^ 8 + v50.toNat) v58 st'
        ∧ SfxIs (dg (2 ^ 7) (2 ^ 8)) (begins (words st₀.row) (2 ^ 15) (P * 2 ^ 8 + v50.toNat)) 0 st'.sfx
        ∧ Found (dg (2 ^ 7) (2 ^ 8)) (begins (words st₀.row) (2 ^ 15) (P * 2 ^ 8 + v50.toNat)) v58.toNat b
        ∧ Held st'.cb (begins (words st₀.row) (2 ^ 15) (P * 2 ^ 8 + v50.toNat))
        ∧ ∃ n, v73 = BitVec.ofNat 32 n ∧ Cands (begins (words st₀.row) (2 ^ 15) (P * 2 ^ 8 + v50.toNat)) v67 n) st := by
  obtain ⟨hr, ht, hz, hl⟩ := hS
  have eA : ∀ l, (begins (words st₀.row) (2 ^ 23) P l).filter (fun u => decide (dg (2 ^ 15) (2 ^ 8) u = v50.toNat))
      = begins (words st₀.row) (2 ^ 15) (P * 2 ^ 8 + v50.toNat) l := fun l => begins_next _ (2 ^ 15) (2 ^ 8) P _ l (by decide) hb
  rw [k0_part29_eq_skeleton]
  unfold k0_part29_skel
  refine TW.bind (keep3 e hv2 (fun _ => rfl) hA hg) ?_
  rintro v66 _ ⟨g, rfl, hg, hc⟩
  have hg : Held g (begins (words st₀.row) (2 ^ 15) (P * 2 ^ 8 + v50.toNat)) := by
    intro l hl j hj
    have := hg l hl j
    simp only [eA] at this
    exact this hj
  have hc : ∀ x, (v66 x).toNat = (begins (words st₀.row) (2 ^ 15) (P * 2 ^ 8 + v50.toNat) (x 0).val).length := fun x => by rw [hc, eA]
  refine TW.bind (TW.loop_zero (no_rest hA.le e)) ?_
  rintro v67 _ ⟨rfl, rfl⟩
  obtain ⟨n, hn, en, hm⟩ := max_lanes v67 (fun x => by rw [hc]; exact begins_len _ _ _ _) inpos_S16_p15
  have en : extractAt ![15] (k0_pay194 v67) inpos_S16_p15 = BitVec.ofNat 32 n := en
  have hA := cands_of hn hc hm fun _ => rfl
  refine TW.assume (by rw [en]; exact chk54_of hn) ?_
  refine TW.ret_bind ?_
  refine TW.bind (pass3 en hv2 (fun _ => rfl) hA hg hz) ?_
  rintro _ _ ⟨h, rfl, hh⟩
  refine TW.bind (TW.loop_zero (no_rest hn en)) ?_
  rintro _ _ ⟨-, rfl⟩
  refine TW.load_sfx (m := 256) rfl ?_
  refine TW.store_sfx (m := 256) rfl ?_
  refine TW.ret_bind ?_
  refine TW.bind (spec_scan3 (scan_ready (by decide) (by decide) hh)) ?_
  rintro _ _ ⟨h, s, rfl, hz, hs⟩
  refine TW.bind (spec_bs3 hs (dg_bound (by decide) (by decide)) (geT_lt _ _ _ _) hl.pos (by rw [geT_zero]; exact hl.le)) ?_
  rintro ⟨b, hi⟩ s' ⟨rfl, hF⟩
  have hF : Found (dg (2 ^ 7) (2 ^ 8)) (begins (words st₀.row) (2 ^ 15) (P * 2 ^ 8 + v50.toNat)) v58.toNat b := hF
  have ho : k0_off30 b 0 = 16 * (b.toNat + 1) := off_next hF.lt
  have hb := hF.lt
  refine TW.assume (by
    intro a
    rw [Fin.eq_zero a, ho]
    show 16 * (b.toNat + 1) + 16 ≤ 4112
    omega) ?_
  exact TW.ret ⟨_, _, _, _, _, rfl, ⟨hr, ht, hz, hl⟩, hs, hF, hg, n, en, hA⟩

/-! ## The fourth digit -/

theorem spec_part30 {v67 : IVec S16 32} {v58 v73 v88 : BitVec 32} {w54 : k0_chk54 v73} {w72 : k0_chk72 v88} {v2 : IVec S16 32} {P n : ℕ} (hv2 : ∀ x, (v2 x).toNat = (x 0).val)
    (hS : Stage st₀ (2 ^ 15) P v58 st) (hs : SfxIs (dg (2 ^ 7) (2 ^ 8)) (begins (words st₀.row) (2 ^ 15) P) 0 st.sfx)
    (hF : Found (dg (2 ^ 7) (2 ^ 8)) (begins (words st₀.row) (2 ^ 15) P) v58.toNat v88)
    (hg : Held st.cb (begins (words st₀.row) (2 ^ 15) P)) (e : v73 = BitVec.ofNat 32 n) (hA : Cands (begins (words st₀.row) (2 ^ 15) P) v67 n) :
    TW d i B (k0_part30 i B.a2 B.h2 B.a3 B.h3 B.a4 B.h4 B.a5 B.h5 B.a6 B.h6 B.a7 B.h7 B.a8 B.h8 B.a9 B.h9 B.r0 B.r1 v2 k0_pay1 k0_pay2 v58 v67 v73 w54 v88 w72)
      (fun a st' => ∃ r, a = ⟨r, k0_pay227, 0#32, 1#32⟩ ∧ st'.row = st₀.row ∧ st'.tb = st₀.tb ∧ Lvl (words st₀.row) (2 ^ 7) (P * 2 ^ 8 + v88.toNat) r.toNat
        ∧ ScanI (dg (2 ^ 0) (2 ^ 7)) (begins (words st₀.row) (2 ^ 7) (P * 2 ^ 8 + v88.toNat)) 0 st'.hist st'.sfx k0_pay227) st := by
  obtain ⟨hr, ht, hz, hl⟩ := hS
  have hb : v88.toNat < 2 ^ 8 := hF.lt
  have eA : ∀ l, (begins (words st₀.row) (2 ^ 15) P l).filter (fun u => decide (dg (2 ^ 7) (2 ^ 8) u = v88.toNat))
      = begins (words st₀.row) (2 ^ 7) (P * 2 ^ 8 + v88.toNat) l := fun l => begins_next _ (2 ^ 7) (2 ^ 8) P _ l (by decide) hb
  rw [k0_part30_eq_skeleton]
  unfold k0_part30_skel
  refine TW.load_sfx (off_next hb) ?_
  have hx : extractAt ![15] (k0_pay211 (F := Bits) (vec (st.sfx (v88.toNat + 1)))) inpos_S16_p15 = BitVec.ofNat 32 (geT (dg (2 ^ 7) (2 ^ 8)) (v88.toNat + 1) (begins (words st₀.row) (2 ^ 15) P)) :=
    sfx_sum hs (by omega) _
  refine TW.ret_bind ?_
  refine TW.bind (keep4 e hv2 (fun _ => rfl) hA hg) ?_
  rintro v104 _ ⟨g, rfl, hg, hc⟩
  have hg : Held g (begins (words st₀.row) (2 ^ 7) (P * 2 ^ 8 + v88.toNat)) := by
    intro l hl j hj
    have := hg l hl j
    simp only [eA] at this
    exact this hj
  have hc : ∀ x, (v104 x).toNat = (begins (words st₀.row) (2 ^ 7) (P * 2 ^ 8 + v88.toNat) (x 0).val).length := fun x => by rw [hc, eA]
  refine TW.bind (TW.loop_zero (no_rest hA.le e)) ?_
  rintro v105 _ ⟨rfl, rfl⟩
  obtain ⟨n, hn, en, hm⟩ := max_lanes v105 (fun x => by rw [hc]; exact begins_len _ _ _ _) inpos_S16_p15
  have en : extractAt ![15] (k0_pay214 v105) inpos_S16_p15 = BitVec.ofNat 32 n := en
  have hA := cands_of hn hc hm fun _ => rfl
  refine TW.assume (by rw [en]; exact chk89_of hn) ?_
  refine TW.ret_bind ?_
  refine TW.bind (pass4 en hv2 (fun _ => rfl) hA hg hz) ?_
  rintro _ _ ⟨h, rfl, hh⟩
  refine TW.bind (TW.loop_zero (no_rest hn en)) ?_
  rintro _ _ ⟨-, rfl⟩
  refine TW.load_sfx (m := 256) rfl ?_
  refine TW.store_sfx (m := 256) rfl ?_
  exact TW.ret ⟨_, rfl, hr, ht, Lvl.found (D := 2 ^ 7) (S := 2 ^ 8) (by decide) (by decide) rfl hl hF hx, scan_ready (by decide) (by decide) hh⟩

/-! ## The word -/

theorem or_toNat {u w : Wd} {a n : ℕ} (hu : u.toNat = a * 2 ^ n) (hw : w.toNat < 2 ^ n) : (Scalar.ori u w).toNat = a * 2 ^ n + w.toNat := by
  show (u ||| w).toNat = _
  rw [BitVec.toNat_or, hu, ← Nat.shiftLeft_eq, Nat.shiftLeft_add_eq_or_of_lt hw]

theorem shl_toNat (u : Wd) (n : ℕ) (hn : n < 32) (hu : u.toNat * 2 ^ n < 2 ^ 32) : (Scalar.shli u (BitVec.ofNat 32 n)).toNat = u.toNat * 2 ^ n := by
  have h1 : (BitVec.ofNat 32 n).toNat = n := by rw [BitVec.toNat_ofNat]; exact Nat.mod_eq_of_lt (by omega)
  unfold Scalar.shli IntOp.shli
  rw [if_pos (by rw [h1]; exact hn), BitVec.shiftLeft_eq', h1, BitVec.toNat_shiftLeft, Nat.shiftLeft_eq, Nat.mod_eq_of_lt hu]

/-- The word the four digits make. -/
abbrev word (b1 b2 b3 b4 : Wd) : Wd :=
  Scalar.ori (Scalar.ori (Scalar.ori (Scalar.shli b1 23#32) (Scalar.shli b2 15#32)) (Scalar.shli b3 7#32)) b4

theorem word_toNat {b1 b2 b3 b4 : Wd} (h1 : b1.toNat < 2 ^ 8) (h2 : b2.toNat < 2 ^ 8) (h3 : b3.toNat < 2 ^ 8) (h4 : b4.toNat < 2 ^ 7) :
    (word b1 b2 b3 b4).toNat = ((b1.toNat * 2 ^ 8 + b2.toNat) * 2 ^ 8 + b3.toNat) * 2 ^ 7 + b4.toNat := by
  have e1 := shl_toNat b1 23 (by decide) (by omega)
  have e2 := shl_toNat b2 15 (by decide) (by omega)
  have e3 := shl_toNat b3 7 (by decide) (by omega)
  have o1 := or_toNat (u := Scalar.shli b1 23#32) (w := Scalar.shli b2 15#32) e1 (by rw [e2]; omega)
  have o2 := or_toNat (u := Scalar.ori (Scalar.shli b1 23#32) (Scalar.shli b2 15#32)) (w := Scalar.shli b3 7#32) (a := b1.toNat * 2 ^ 8 + b2.toNat) (n := 15)
    (by rw [o1, e2]; omega) (by rw [e3]; omega)
  have o3 := or_toNat (u := Scalar.ori (Scalar.ori (Scalar.shli b1 23#32) (Scalar.shli b2 15#32)) (Scalar.shli b3 7#32)) (w := b4)
    (a := (b1.toNat * 2 ^ 8 + b2.toNat) * 2 ^ 8 + b3.toNat) (n := 7) (by rw [o2, e3]; omega) h4
  exact o3

/-! ## The clearing of the histogram -/

theorem spec_clear :
    TW d i B (Scf.Loop.for k0_t1_loop k0_t1_ok 0#32
        (k0_t1_body i B.a2 B.h2 B.a3 B.h3 B.a4 B.h4 B.a5 B.h5 B.a6 B.h6 B.a7 B.h7 B.a8 B.h8 B.a9 B.h9 B.r0 B.r1))
      (fun _ st' => ∃ h, st' = { st with hist := h } ∧ HistZero h) st := by
  refine TW.mono (TW.loop (fun k _ st' => ∃ h, st' = { st with hist := h } ∧ ∀ b < k, ∀ l < 16, h b l = 0#32) ⟨_, rfl, fun b hb => absurd hb (Nat.not_lt_zero b)⟩ ?_) ?_
  · rintro k a _ ⟨h, rfl, hH⟩
    have ho : k0_off1 k 0 = 16 * k.val := congrFun (k0_off1_eq k) 0
    refine TW.load_hist ho ?_
    refine TW.store_hist ho ?_
    refine TW.ret ⟨_, rfl, fun b hb l hl => ?_⟩
    by_cases hk : b = k.val
    · subst hk
      exact setRow_at hl
    · rw [setRow_other hk]
      exact hH b (by omega) l hl
  · rintro a _ ⟨h, rfl, hH⟩
    exact ⟨h, rfl, hH⟩

end Cert.Proof.Select
-- ==== Proof.Thread.lean ====
/-
  One vector subcore: the transfer that fetches a row, the row's selection, the loop over its 64 rows, and the transfer that
  hands the thresholds back.
-/
module

public import proofs.«01_k».proof.Proof.Row
public import Idealize.ShloMosaic.Lib.Pipeline.Kit
public import Idealize.ShloMosaic.Lib.Pointwise.Index

@[expose] public section

noncomputable section

namespace Cert.Proof.Select

open Cert.Kernel Cert.Kernel.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Bits) ℕ UU ℕ

/-! ## A transfer and its wait -/

section Copy

variable (d : Fin nD) (i : grid0.Coords)

/-- The evidence that the thread may wait, and its waits so far. -/
def waits (O : CellTallies nD τ sig (HIx 1)) (W₀ : Waits sig (HIx 1)) : sProp 𝕄 :=
  iprop(Transfers.MayWaits (thr d i) (none : HIx 1) O ∗ ∃ W', ⌜∀ p ∈ W', p ∈ W₀ ∨ p.2 = none⌝ ∗ owes (thr d i) O W')

variable {O : CellTallies nD τ sig (HIx 1)} {W₀ : Waits sig (HIx 1)} {α : Type} {Q : α → sProp 𝕄}

theorem copy_wait {sp sp' : Space} {s : Shape} {e : EltTy} {src srcw : Memref sig .scVector sp s e} {dst : Memref sig .scVector sp' s e} {sem : DmaSem sig}
    {h1 : src.view.WordExact} {h2 : dst.view.WordExact} {h3 : (DmaTarget.here dst : DmaTarget nD τ sig (.scVector ((i 0).castLE hcore0) ((i 1).castLE hsub0)) sp' s e).Typed sp (.dma sem)} {h4 : srcw.view.WordExact} {h5 : dst.view.WordExact}
    {k : PUnit → Pg i α} {q : PosShare TreeShare} {fs : Buf (Elt Bits) (src.view.loc (thr d i))} {fd : Buf (Elt Bits) (dst.view.loc (thr d i))}
    (hs : 0 < s.numel) :
    iprop((src.view.loc (thr d i) ↦[src.view.set]{q} fs) ∗ (dst.view.loc (thr d i) ↦[dst.view.set]{fullShare} fd) ∗ semVal (thr d i, .dma sem) 0 ∗ waits d i O W₀)
      ⊢ iprop((iprop((src.view.loc (thr d i) ↦[src.view.set]{q} fs)
            ∗ (dst.view.loc (thr d i) ↦[dst.view.set]{fullShare} (dst.view.write (Elt Bits) fd (src.view.read (Elt Bits) fs) Finset.univ))
            ∗ semVal (thr d i, .dma sem) 0 ∗ waits d i O W₀) -∗ W d i (k ⟨⟩) Q)
        -∗ W d i (.op (.enqueueDma src (.here dst) (.dma sem) h1 h2 h3) fun _ => .op (.waitDma2 sem srcw dst h4 h5) k) Q) := by
  unfold waits
  iintro ⟨Hs, Hd, Hv, #Hmw, %W', %hW', HO⟩ HK
  iapply (Transfers.wp_dmaLocal countersEmb Variants.none (thr d i) none (none : HIx 1) dst.view.dmaCredit rfl (View.amount_pos dst.view (.dma sem) hs) (Finset.Subset.refl _)) $$ [Hs Hd Hv]
  · isplitl [Hs]; · iexact Hs
    isplitl [Hd]; · iexact Hd
    iexact Hv
  iintro HF
  iapply (Transfers.wp_waitLocalO countersEmb Variants.none (thr d i) none (none : HIx 1) rfl (O := O) (W := W')) $$ [HF HO]
  · isplitl [HF]; · iexact HF
    isplitl [HO]; · iexact HO
    iapply (Transfers.MayWaits.elim (SemLoc.dma sem)) $$ Hmw
  iintro ⟨⟨Hd, Hs⟩, Hv, HO⟩
  iapply HK
  isplitl [Hs]; · iexact Hs
  isplitl [Hd]; · iexact Hd
  isplitl [Hv]; · iexact Hv
  isplitr; · iexact Hmw
  iexists (insert (SemLoc.dma sem, none) W')
  isplitr
  · ipureintro
    intro p hp
    rcases Finset.mem_insert.mp hp with hp | hp
    · exact .inr (hp ▸ rfl)
    · exact hW' p hp
  · iexact HO

end Copy

/-! ## The row a transfer brings -/

/-- Row `r` of the features: element `l` of its 16-lane vector `n`. -/
def rowAt (X : S2048x16384.Idx → Wd) (r n l : ℕ) : Wd :=
  if h : r < 2048 ∧ 16 * n + l < 16384 then X (ix2 ⟨r, h.1⟩ ⟨16 * n + l, h.2⟩) else 0#32

theorem rowAt_lt {X : S2048x16384.Idx → Wd} (hX : ∀ x, (X x).toNat < 2 ^ 31) (r n l : ℕ) : (rowAt X r n l).toNat < 2 ^ 31 := by
  unfold rowAt
  split
  · exact hX _
  · decide

/-- The first row of the subcore at grid coordinates `i`. -/
abbrev base (i : grid0.Coords) : ℕ := 128 * (i 1).val + 64 * (i 0).val

theorem base_le (i : grid0.Coords) : base i + 64 ≤ 2048 := by
  have h0 : (i 0).val < 2 := (i 0).isLt
  have h1 : (i 1).val < 16 := (i 1).isLt
  unfold base
  omega

section Fetch

variable {d : Fin nD} {i : grid0.Coords} {B : Mems} {α β : Type} {st : St}

/-- Row `t` of the subcore's, as the transfer reads it. -/
abbrev rowM (i : grid0.Coords) (B : Mems) (t : Fin k0_t2_loop.trips) : Memref sig .scVector .hbm S16384 .f32 :=
  (B.a2.slice (Rect.unit (s := S2048x16384) (k0_off2 i t) S1x16384.size (k0_off2_inb i t)) (fun _ => rfl)).squeeze S16384 squeezes_S1x16384_S16384

theorem rowM_read {X : S2048x16384.Idx → Wd} {f : Buf (Elt Bits) (B.a2.view.loc (thr d i))} (hX : B.a2.view.read (Elt Bits) f = X) (t : Fin k0_t2_loop.trips) :
    (rowM i B t).view.read (Elt Bits) f = fun x => two 16 (rowAt X (base i + t.val)) (x 0).val := by
  subst hX
  funext x
  have hx : (x 0).val < 16384 := (x 0).isLt
  have ht : t.val < 64 := t.isLt
  have hb := base_le i
  have e : 16 * ((x 0).val / 16) + (x 0).val % 16 = (x 0).val := Nat.div_add_mod _ _
  unfold two rowAt
  rw [dif_pos ⟨by omega, by omega⟩]
  show B.a2.view.read (Elt Bits) f ((Rect.unit (s := S2048x16384) (k0_off2 i t) S1x16384.size (k0_off2_inb i t)).emb (Shape.reshapeEquiv _ x)) = _
  congr 1
  have hy := Shape.rowMajor_reshapeEquiv squeezes_S1x16384_S16384.numel_eq x
  rw [Shape.rowMajor_val_two, Shape.rowMajor_val_one] at hy
  set y := Shape.reshapeEquiv squeezes_S1x16384_S16384.numel_eq x with hyd
  have hy0 : (y 0).val < 1 := (y 0).isLt
  have hy : (y 0).val * 16384 + (y 1).val = (x 0).val := hy
  funext a
  apply Fin.ext
  match a with
  | ⟨0, _⟩ =>
    show k0_off2 i t 0 + 1 * (y 0).val = base i + t.val
    rw [k0_off2_eq]
    show 128 * (i 1).val + 64 * (i 0).val + t.val + 1 * (y 0).val = 128 * (i 1).val + 64 * (i 0).val + t.val
    omega
  | ⟨1, _⟩ =>
    show k0_off2 i t 1 + 1 * (y 1).val = 16 * ((x 0).val / 16) + (x 0).val % 16
    rw [k0_off2_eq]
    show 0 + 1 * (y 1).val = _
    omega

/-- What the thread holds beside its scratch buffers: its rows of the features, the fetches' semaphore, its waits. -/
def rest (d : Fin nD) (i : grid0.Coords) (B : Mems) (T : Finset (Idx (B.a2.view.loc (thr d i)))) (f : Buf (Elt Bits) (B.a2.view.loc (thr d i)))
    (O : CellTallies nD τ sig (HIx 1)) (W₀ : Waits sig (HIx 1)) : sProp 𝕄 :=
  iprop((B.a2.view.loc (thr d i) ↦[T]{fullShare} f) ∗ semVal (thr d i, .dma B.r0.sem) 0 ∗ waits d i O W₀)

/-- `TW`, holding `R` throughout. -/
def TR (d : Fin nD) (i : grid0.Coords) (B : Mems) (R : sProp 𝕄) (p : Pg i α) (Q : α → St → Prop) (st : St) : Prop :=
  iprop(own d i B st ∗ R) ⊢ W d i p (fun a => iprop(∃ st', ⌜Q a st'⌝ ∗ own d i B st' ∗ R))

variable {R : sProp 𝕄} {Q : α → St → Prop}

theorem TR.of_TW {p : Pg i α} (h : TW d i B p Q st) : TR d i B R p Q st := by
  unfold TW at h
  unfold TR W
  refine (BI.sep_mono h (BI.Entails.refl _)).trans ((wp_frame_r _ _ _).trans (wp_mono _ _ _ fun a => ?_))
  iintro ⟨⟨%st', %hq, H⟩, HR⟩
  iexists st'
  isplitr
  · ipureintro; exact hq
  · iframe H HR

theorem TR.bind {p : Pg i α} {k : α → Pg i β} {Q' : β → St → Prop} (h : TR d i B R p Q st)
    (hk : ∀ a st', Q a st' → TR d i B R (k a) Q' st') : TR d i B R (p >>= k) Q' st := by
  unfold TR W at h ⊢
  rw [wp_bind]
  refine h.trans (wp_mono _ _ _ fun a => ?_)
  iintro ⟨%st', %hq, H⟩
  have hk' : iprop(own d i B st' ∗ R) ⊢ W d i (k a) _ := hk a st' hq
  iapply hk'
  iexact H

theorem TR.keep {R' : sProp 𝕄} {p : Pg i α} (h : TR d i B R p Q st) : TR d i B iprop(R ∗ R') p Q st := by
  unfold TR W at h ⊢
  have e : iprop(own d i B st ∗ R ∗ R') ⊢ iprop((own d i B st ∗ R) ∗ R') := by
    iintro ⟨H, HR, HR'⟩
    iframe H HR HR'
  refine e.trans ((BI.sep_mono h (BI.Entails.refl _)).trans ((wp_frame_r _ _ _).trans (wp_mono _ _ _ fun a => ?_)))
  iintro ⟨⟨%st', %hq, H, HR⟩, HR'⟩
  iexists st'
  isplitr
  · ipureintro; exact hq
  · iframe H HR HR'

/-- A program after which any other continues. -/
theorem TR.into {p : Pg i α} {k : α → Pg i β} {Φ : β → sProp 𝕄} (h : TR d i B R p Q st)
    (hk : ∀ a st', Q a st' → iprop(own d i B st' ∗ R) ⊢ W d i (k a) Φ) : iprop(own d i B st ∗ R) ⊢ W d i (p >>= k) Φ := by
  unfold TR W at h
  unfold W
  rw [wp_bind]
  refine h.trans (wp_mono _ _ _ fun a => ?_)
  iintro ⟨%st', %hq, H⟩
  have hk' : iprop(own d i B st' ∗ R) ⊢ W d i (k a) Φ := hk a st' hq
  iapply hk'
  iexact H

theorem TR.loop {σ : Type} {L : Scf.Loop 32} {hok : L.OK} {init : σ} {body : Fin L.trips → σ → Pg i σ} (I : ℕ → σ → St → Prop)
    (h0 : I 0 init st) (hb : ∀ (k : Fin L.trips) (a : σ) (s' : St), I k.val a s' → TR d i B R (body k a) (I (k.val + 1)) s') :
    TR d i B R (Scf.Loop.for L hok init body) (fun a s' => I L.trips a s') st := by
  have := Scf.wp_for frame (wpE (defs₀ (F := Bits)) Variants.none (thr d i) none) Set.univ L.lb L.ub L.st hok init body
    (fun n a => iprop(∃ s', ⌜I n a s'⌝ ∗ own d i B s' ∗ R)) (fun k a => by
      iintro ⟨%s', %hI, H⟩
      have hb' : iprop(own d i B s' ∗ R) ⊢ W d i (body k a) _ := hb k a s' hI
      iapply hb'
      iexact H) (Q := fun a => iprop(∃ s', ⌜I L.trips a s'⌝ ∗ own d i B s' ∗ R))
  have e : iprop(own d i B st ∗ R) ⊢ iprop((∃ s', ⌜I 0 init s'⌝ ∗ own d i B s' ∗ R) ∗
      ∀ a, (∃ s', ⌜I L.trips a s'⌝ ∗ own d i B s' ∗ R) -∗ ∃ s', ⌜I L.trips a s'⌝ ∗ own d i B s' ∗ R) := by
    iintro H
    isplitl [H]
    · iexists st
      isplitr
      · ipureintro; exact h0
      · iexact H
    · iintro %a H
      iexact H
  exact e.trans this

variable {X : S2048x16384.Idx → Wd} {T : Finset (Idx (B.a2.view.loc (thr d i)))} {f : Buf (Elt Bits) (B.a2.view.loc (thr d i))}
  {O : CellTallies nD τ sig (HIx 1)} {W₀ : Waits sig (HIx 1)}

/-- The fetch of a row: the buffer holds it. -/
theorem TR.fetch {t : Fin k0_t2_loop.trips} (hX : B.a2.view.read (Elt Bits) f = X) (hT : (rowM i B t).view.set ⊆ T)
    {h1 : (rowM i B t).view.WordExact} {h2 : B.a4.view.WordExact}
    {h3 : (DmaTarget.here B.a4 : DmaTarget nD τ sig (.scVector ((i 0).castLE hcore0) ((i 1).castLE hsub0)) .vmem S16384 .f32).Typed .hbm (.dma B.r0.sem)}
    {h4 : (rowM i B t).view.WordExact} {h5 : B.a4.view.WordExact} {k : PUnit → Pg i α}
    (h : TW d i B (k ⟨⟩) Q { st with row := rowAt X (base i + t.val) }) :
    TR d i B (rest d i B T f O W₀)
      (.op (.enqueueDma (rowM i B t) (.here B.a4) (.dma B.r0.sem) h1 h2 h3) fun _ => .op (.waitDma2 B.r0.sem (rowM i B t) B.a4 h4 h5) k) Q st := by
  have h' := TR.of_TW (R := rest d i B T f O W₀) h
  unfold TR at h' ⊢
  unfold own rest at h' ⊢
  iintro ⟨⟨H4, H⟩, HT, Hv, Hw⟩
  unfold pt
  icases H4 with ⟨%g, %hg, H4⟩
  ihave Hsp := (pointsTo_split_subset (ℓ := B.a2.view.loc (thr d i)) (I := (rowM i B t).view.set) (S := T) (q := fullShare) (f := f) hT).1 $$ HT
  icases Hsp with ⟨Hs, Ho⟩
  iapply (copy_wait d i (src := rowM i B t) (dst := B.a4) (by decide)) $$ [Hs H4 Hv Hw]
  · iframe Hs H4 Hv Hw
  iintro ⟨Hs, H4, Hv, Hw⟩
  ihave HT := (pointsTo_split_subset (ℓ := B.a2.view.loc (thr d i)) (I := (rowM i B t).view.set) (S := T) (q := fullShare) (f := f) hT).2 $$ [Hs Ho]
  · iframe Hs Ho
  iapply h'
  isplitl [H4 H]
  · isplitl [H4]
    · unfold pt
      iexists (B.a4.view.write (Elt Bits) g ((rowM i B t).view.read (Elt Bits) f) Finset.univ)
      isplitr
      · ipureintro
        rw [View.read_write_univ]
        exact rowM_read hX t
      · iexact H4
    · iexact H
  · iframe HT Hv Hw

/-! ## The first digit -/

theorem spec_part27 {v1 : BitVec 32} {v2 : IVec S16 32} {t : Fin k0_t2_loop.trips} (hv2 : ∀ x, (v2 x).toNat = (x 0).val) (hX : B.a2.view.read (Elt Bits) f = X)
    (hT : (rowM i B t).view.set ⊆ T) (hlt : ∀ x, (X x).toNat < 2 ^ 31) (hz : HistZero st.hist) :
    TR d i B (rest d i B T f O W₀)
      (k0_part27 i B.a2 B.h2 B.a3 B.h3 B.a4 B.h4 B.a5 B.h5 B.a6 B.h6 B.a7 B.h7 B.a8 B.h8 B.a9 B.h9 B.r0 B.r1 v1 v2 k0_pay1 0#32 1#32 t)
      (fun a st' => ∃ b v27, a = ⟨Scf.iv 0#32 1#32 t, b, v27, 0#32, 128#32⟩ ∧ b.toNat < 2 ^ 8
        ∧ Stage { st with row := rowAt X (base i + t.val) } (2 ^ 23) b.toNat v27 st') st := by
  rw [k0_part27_eq_skeleton]
  unfold k0_part27_skel
  refine TR.fetch hX hT ?_
  have hrow := rowAt_lt hlt (base i + t.val)
  refine TW.ret_bind ?_
  refine TW.bind (spec_h1 hv2 (fun _ => rfl) hrow hz) ?_
  rintro _ _ ⟨h, rfl, hh⟩
  have hh := HistIs.first hrow hh
  refine TW.load_sfx (m := 256) rfl ?_
  refine TW.store_sfx (m := 256) rfl ?_
  refine TW.ret_bind ?_
  refine TW.bind (spec_scan1 (scan_ready (by decide) (by decide) hh)) ?_
  rintro _ _ ⟨h, s, rfl, hz, hs⟩
  have hl := Lvl.first hrow
  refine TW.bind (spec_bs1 hs (dg_bound (by decide) (by decide)) (geT_lt _ _ _ _) (by rw [geT_zero]; exact hl.le)) ?_
  rintro ⟨b, hi⟩ s' ⟨rfl, hF⟩
  have hF : Found (dg (2 ^ 23) (2 ^ 8)) (begins (words (rowAt X (base i + t.val))) (2 ^ 23 * 2 ^ 8) 0) (64#32).toNat b := hF
  have hb := hF.lt_of (by decide) (by decide)
  have ho : k0_off14 b 0 = 16 * (b.toNat + 1) := off_next hb
  refine TW.assume (by
    intro a
    rw [Fin.eq_zero a, ho]
    show 16 * (b.toNat + 1) + 16 ≤ 4112
    omega) ?_
  refine TW.load_sfx ho ?_
  have hx : extractAt ![15] (k0_pay164 (F := Bits) (vec (s (b.toNat + 1)))) inpos_S16_p15
      = BitVec.ofNat 32 (geT (dg (2 ^ 23) (2 ^ 8)) (b.toNat + 1) (begins (words (rowAt X (base i + t.val))) (2 ^ 23 * 2 ^ 8) 0)) :=
    sfx_sum hs (by omega) _
  refine TW.ret ⟨b, _, rfl, hb, rfl, rfl, hz, ?_⟩
  have := Lvl.found (r := 64#32) (D := 2 ^ 23) (S := 2 ^ 8) (by decide) (by decide) rfl hl hF hx
  rwa [Nat.zero_mul, Nat.zero_add] at this

/-! ## The row -/

theorem iota_lane (x : S16.Idx) : (iota .scVector S16 32 [0] iota_S16_d0_w32_scVector x).toNat = (x 0).val := by
  have hx := lane_lt x
  show (BitVec.ofNat 32 (0 * 16 + (x 0).val)).toNat = _
  rw [BitVec.toNat_ofNat, Nat.mod_eq_of_lt (by omega)]
  omega

theorem lane0 (x : S16.Idx) : (k0_pay7 : IVec S16 1) x = 1 ↔ (x 0).val = 0 := by
  refine (eq_iff _ _).trans ?_
  rw [iota_lane]
  rfl

theorem iv_toNat (t : Fin k0_t2_loop.trips) : (Scf.iv 0#32 1#32 t : BitVec 32).toNat = t.val := by
  have ht : t.val < 64 := t.isLt
  show (0#32 + BitVec.ofNat 32 t.val * 1#32).toNat = _
  rw [BitVec.zero_add, BitVec.mul_one, BitVec.toNat_ofNat, Nat.mod_eq_of_lt (by omega)]

theorem spec_t2 {v1 : BitVec 32} {v2 : IVec S16 32} {t : Fin k0_t2_loop.trips} (v : BitVec 32) (hv2 : ∀ x, (v2 x).toNat = (x 0).val) (hX : B.a2.view.read (Elt Bits) f = X)
    (hT : (rowM i B t).view.set ⊆ T) (hlt : ∀ x, (X x).toNat < 2 ^ 31) (hz : HistZero st.hist) :
    TR d i B (rest d i B T f O W₀)
      (k0_t2_body i B.a2 B.h2 B.a3 B.h3 B.a4 B.h4 B.a5 B.h5 B.a6 B.h6 B.a7 B.h7 B.a8 B.h8 B.a9 B.h9 B.r0 B.r1 v1 v2 t v)
      (fun _ st' => HistZero st'.hist ∧ ∃ w : Wd, IsKth (words (rowAt X (base i + t.val))) w.toNat ∧ st'.tb = fun n => if n = t.val then w else st.tb n) st := by
  unfold k0_t2_body
  refine TR.bind (spec_part27 hv2 hX hT hlt hz) ?_
  rintro _ st₁ ⟨b1, v27, rfl, h1, hS⟩
  refine TR.of_TW ?_
  refine TW.bind (spec_part28 hv2 hS) ?_
  rintro _ st₂ ⟨v29, v35, w19, b2, v58, rfl, hS, h2, hg, n, e, hA⟩
  refine TW.bind (spec_part29 hv2 hS h2 hg e hA) ?_
  rintro _ st₃ ⟨v67, v73, w54, b3, w72, rfl, hS, hs, hF, hg, n, e, hA⟩
  refine TW.bind (spec_part30 hv2 hS hs hF hg e hA) ?_
  have h3 := hF.lt
  rintro _ st₄ ⟨r, rfl, hr, htb, hl, hI⟩
  refine TW.bind (spec_scan4 hI) ?_
  rintro _ _ ⟨h, s, rfl, hz, hs⟩
  refine TW.bind (spec_bs4 hs (dg_bound (by decide) (by decide)) (geT_lt _ _ _ _) hl.pos (by rw [geT_zero]; exact hl.le)) ?_
  rintro ⟨b4, hi⟩ s' ⟨rfl, hF⟩
  have hF : Found (dg (2 ^ 0) (2 ^ 7)) (begins (words (rowAt X (base i + t.val))) (2 ^ 7) (((b1.toNat * 2 ^ 8 + b2.toNat) * 2 ^ 8) + b3.toNat)) r.toNat b4 := hF
  have h4 := hF.lt_of (by decide) hl.pos
  have ho : k0_off34 b4 0 = 16 * (b4.toNat + 1) := off_next hF.lt
  refine TW.assume (by
    intro a
    rw [Fin.eq_zero a, ho]
    show 16 * (b4.toNat + 1) + 16 ≤ 4112
    omega) ?_
  refine TW.load_sfx ho ?_
  refine TW.assume (by
    intro a x
    rw [Fin.eq_zero a]
    show (Scf.iv 0#32 1#32 t : BitVec 32).toNat < 64
    rw [iv_toNat]
    exact t.isLt) ?_
  refine TW.scatter_t t.val (word b1 b2 b3 b4) (fun _ => rfl) (fun _ => iv_toNat t) lane0 ?_
  · refine TW.ret ⟨hz, word b1 b2 b3 b4, ?_, ?_⟩
    · rw [word_toNat h1 h2 h3 h4]
      have := Lvl.found (D := 2 ^ 0) (S := 2 ^ 7) (x := BitVec.ofNat 32 _) (by decide) (by decide) rfl hl hF rfl
      exact this.isKth
    · funext n
      show (if n = t.val then _ else st₄.tb n) = _
      rw [htb]

/-! ## The subcore's body -/

/-- The subcore's part of the thresholds' array. -/
abbrev outM (i : grid0.Coords) (B : Mems) : Memref sig .scVector .hbm S64 .f32 :=
  B.a3.slice (Rect.unit (s := S2048) (k0_off35 i) S64.size (k0_off35_inb i)) (fun _ => rfl)

theorem spec_rows {v1 : BitVec 32} {v2 : IVec S16 32} (hv2 : ∀ x, (v2 x).toNat = (x 0).val) (hX : B.a2.view.read (Elt Bits) f = X)
    (hT : ∀ t, (rowM i B t).view.set ⊆ T) (hlt : ∀ x, (X x).toNat < 2 ^ 31) (hz : HistZero st.hist) :
    TR d i B (rest d i B T f O W₀)
      (Scf.Loop.for k0_t2_loop k0_t2_ok 0#32 (k0_t2_body i B.a2 B.h2 B.a3 B.h3 B.a4 B.h4 B.a5 B.h5 B.a6 B.h6 B.a7 B.h7 B.a8 B.h8 B.a9 B.h9 B.r0 B.r1 v1 v2))
      (fun _ st' => ∀ r < 64, IsKth (words (rowAt X (base i + r))) (st'.tb r).toNat) st := by
  have h := TR.loop (d := d) (i := i) (B := B) (R := rest d i B T f O W₀) (L := k0_t2_loop) (hok := k0_t2_ok) (init := 0#32)
    (body := k0_t2_body i B.a2 B.h2 B.a3 B.h3 B.a4 B.h4 B.a5 B.h5 B.a6 B.h6 B.a7 B.h7 B.a8 B.h8 B.a9 B.h9 B.r0 B.r1 v1 v2) (st := st)
    (fun k _ st' => HistZero st'.hist ∧ ∀ r < k, IsKth (words (rowAt X (base i + r))) (st'.tb r).toNat)
    ⟨hz, fun r hr => absurd hr (Nat.not_lt_zero r)⟩ (by
      rintro t v s' ⟨hz, hr⟩
      have h := spec_t2 (d := d) (i := i) (B := B) (st := s') (O := O) (W₀ := W₀) (v1 := v1) v hv2 hX (hT t) hlt hz
      have hh := h.bind (k := fun a => .ret a) (Q' := fun _ st' => HistZero st'.hist ∧ ∀ r < t.val + 1, IsKth (words (rowAt X (base i + r))) (st'.tb r).toNat) (by
        rintro a s'' ⟨hz, w, hw, htb⟩
        refine TR.of_TW (TW.ret ⟨hz, fun r hlt => ?_⟩)
        rw [htb]
        by_cases e : r = t.val
        · subst e
          show IsKth _ (if t.val = t.val then w else s'.tb t.val).toNat
          rw [if_pos rfl]
          exact hw
        · show IsKth _ (if r = t.val then w else s'.tb r).toNat
          rw [if_neg e]
          exact hr r (by omega))
      rwa [show ∀ p : Pg i (BitVec 32), (p >>= fun a => .ret a) = p from fun p => bind_pure p] at hh)
  have hh := h.bind (k := fun a => .ret a) (Q' := fun _ st' => ∀ r < 64, IsKth (words (rowAt X (base i + r))) (st'.tb r).toNat)
    fun a s' hI => TR.of_TW (TW.ret hI.2)
  rwa [show ∀ p : Pg i (BitVec 32), (p >>= fun a => .ret a) = p from fun p => bind_pure p] at hh

theorem spec_body (hX : B.a2.view.read (Elt Bits) f = X) (hT : ∀ t, (rowM i B t).view.set ⊆ T) (hlt : ∀ x, (X x).toNat < 2 ^ 31)
    (g : Buf (Elt Bits) ((outM i B).view.loc (thr d i))) :
    iprop(own d i B st ∗ rest d i B T f O W₀ ∗ ((outM i B).view.loc (thr d i) ↦[(outM i B).view.set]{fullShare} g) ∗ semVal (thr d i, .dma B.r1.sem) 0)
      ⊢ W d i (cc0_body i B.a2 B.h2 B.a3 B.h3 B.a4 B.h4 B.a5 B.h5 B.a6 B.h6 B.a7 B.h7 B.a8 B.h8 B.a9 B.h9 B.r0 B.r1) fun _ =>
        iprop(∃ st', ⌜∀ r < 64, IsKth (words (rowAt X (base i + r))) (st'.tb r).toNat⌝ ∗ own d i B st' ∗ rest d i B T f O W₀
          ∗ ((outM i B).view.loc (thr d i) ↦[(outM i B).view.set]{fullShare} (outM i B).view.write (Elt Bits) g (fun x => st'.tb (x 0).val) Finset.univ)
          ∗ semVal (thr d i, .dma B.r1.sem) 0) := by
  rw [cc0_body_eq_skeleton]
  unfold cc0_body_skel
  refine TR.into (TR.of_TW spec_clear) ?_
  rintro a _ ⟨h, rfl, hz⟩
  refine TR.into (TR.keep (spec_rows iota_lane hX hT hlt hz)) ?_
  intro a st' hr
  unfold own rest
  iintro ⟨⟨H4, H5, H6, H7, H8, H9⟩, ⟨HT, Hv, Hw⟩, Hg, Hv'⟩
  unfold pt
  icases H9 with ⟨%g9, %hg9, H9⟩
  iapply (copy_wait d i (src := B.a9) (dst := outM i B) (by decide)) $$ [Hg H9 Hv' Hw]
  · iframe Hg H9 Hv' Hw
  iintro ⟨H9, Hg, Hv', Hw⟩
  unfold W
  simp only [Prog.bind, wp_pure]
  imodintro
  iexists st'
  isplitr
  · ipureintro; exact hr
  rw [hg9]
  isplitl [H4 H5 H6 H7 H8 H9]
  · iframe H4 H5 H6 H7 H8
    iexists g9
    isplitr
    · ipureintro; exact hg9
    · iexact H9
  iframe HT Hv Hw Hg Hv'

end Fetch

end Cert.Proof.Select
-- ==== Proof.Pieces.lean ====
/-
  How the two arrays are divided among the 32 vector subcores, and what one subcore does with its piece.

  Subcore `(c, s)` has the rows `r` with `r / 64 = 2 * s + c`, so SparseCore `c` has those with `r / 64` congruent to `c`
  modulo 2. `tile_run` states the subcore's kernel between its pieces: from its rows of the features and of the result,
  and its scratch, to the same with each of its thresholds the 64-th largest word of its row.
-/
module

public import proofs.«01_k».proof.Proof.Thread
public import Idealize.ShloMosaic.Lib.SparseCore.Quiescent

@[expose] public section

noncomputable section

namespace Cert.Proof.Select

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Bits) ℕ UU ℕ

/-! ## Division by a key -/

section Key

variable {ℓ : Loc nD τ sig} (k : Idx ℓ → ℕ)

/-- The elements of SparseCore `c`. -/
def coreSet (c : ℕ) : Finset (Idx ℓ) := Finset.univ.filter fun x => k x % 2 = c
/-- The elements of one subcore. -/
def tileSet (n : ℕ) : Finset (Idx ℓ) := Finset.univ.filter fun x => k x = n

theorem pts_cores (f : Buf (Elt Bits) ℓ) :
    (ℓ ↦{fullShare} f : sProp 𝕄) = bigSep Finset.univ fun c : Fin 2 => ℓ ↦[coreSet k c.val]{fullShare} f := by
  rw [← pointsTo_biUnion Finset.univ (ℓ := ℓ) (fun c : Fin 2 => coreSet k c.val)]
  · congr 1
    symm
    refine Finset.eq_univ_iff_forall.mpr fun x => Finset.mem_biUnion.mpr ⟨⟨k x % 2, Nat.mod_lt _ (by decide)⟩, Finset.mem_univ _, ?_⟩
    exact Finset.mem_filter.mpr ⟨Finset.mem_univ _, rfl⟩
  · intro a _ b _ h
    refine Finset.disjoint_left.mpr fun x hx hy => h (Fin.ext ?_)
    exact (Finset.mem_filter.mp hx).2.symm.trans (Finset.mem_filter.mp hy).2

theorem pts_tiles (hk : ∀ x, k x < 32) (c : ℕ) (hc : c < 2) (f : Buf (Elt Bits) ℓ) :
    (ℓ ↦[coreSet k c]{fullShare} f : sProp 𝕄) = bigSep Finset.univ fun s : Fin 16 => ℓ ↦[tileSet k (2 * s.val + c)]{fullShare} f := by
  rw [← pointsTo_biUnion Finset.univ (ℓ := ℓ) (fun s : Fin 16 => tileSet k (2 * s.val + c))]
  · congr 1
    ext x
    have hx := hk x
    simp only [coreSet, tileSet, Finset.mem_filter, Finset.mem_univ, true_and, Finset.mem_biUnion]
    constructor
    · intro h
      exact ⟨⟨k x / 2, by omega⟩, by show k x = 2 * (k x / 2) + c; omega⟩
    · rintro ⟨s, hs⟩
      omega
  · intro a _ b _ h
    refine Finset.disjoint_left.mpr fun x hx hy => h (Fin.ext ?_)
    have h1 := (Finset.mem_filter.mp hx).2
    have h2 := (Finset.mem_filter.mp hy).2
    omega

end Key

/-! ## The arrays, and one subcore's scratch -/

/-- The features and the thresholds, as locations of device `d`. -/
abbrev xLoc (d : Dev nD) : Loc nD τ sig := (SparseCore.T d).loc main_arg0
abbrev tLoc (d : Dev nD) : Loc nD τ sig := (SparseCore.T d).loc main_v0

/-- The number of the subcore an element belongs to. -/
abbrev xKey (x : S2048x16384.Idx) : ℕ := (x 0).val / 64
abbrev tKey (x : S2048.Idx) : ℕ := (x 0).val / 64

theorem xKey_lt (x : S2048x16384.Idx) : xKey x < 32 := by
  have h : (x 0).val < 2048 := (x 0).isLt
  unfold xKey
  omega
theorem tKey_lt (x : S2048.Idx) : tKey x < 32 := by
  have h : (x 0).val < 2048 := (x 0).isLt
  unfold tKey
  omega

/-- The memrefs the launch passes the kernel. -/
def mems : Mems where
  a2 := Memref.whole main_arg0_scv
  h2 := Memref.isWhole_whole _
  a3 := Memref.whole main_v0_scv
  h3 := Memref.isWhole_whole _
  a4 := Memref.whole cc0_scratch0
  h4 := Memref.isWhole_whole _
  a5 := Memref.whole cc0_scratch1
  h5 := Memref.isWhole_whole _
  a6 := Memref.whole cc0_scratch2
  h6 := Memref.isWhole_whole _
  a7 := Memref.whole cc0_scratch3
  h7 := Memref.isWhole_whole _
  a8 := Memref.whole cc0_scratch4
  h8 := Memref.isWhole_whole _
  a9 := Memref.whole cc0_scratch5
  h9 := Memref.isWhole_whole _
  r0 := cc0_scoped0
  r1 := cc0_scoped1

section Tile

variable (d : Dev nD) (i : grid0.Coords)

theorem base_div (r : ℕ) : r / 64 = 2 * (i 1).val + (i 0).val ↔ base i ≤ r ∧ r < base i + 64 := by
  unfold base
  omega

/-- The row a transfer reads lies in the subcore's piece of the features. -/
theorem rowM_set (t : Fin k0_t2_loop.trips) : (rowM i mems t).view.set ⊆ tileSet (ℓ := xLoc d) xKey (2 * (i 1).val + (i 0).val) := by
  show (((View.whole main_arg0_scv).slice (Rect.unit (s := S2048x16384) (k0_off2 i t) S1x16384.size (k0_off2_inb i t))).reshape S16384 squeezes_S1x16384_S16384.numel_eq).set ⊆ _
  rw [View.set_reshape, View.set_slice_whole]
  intro (x : S2048x16384.Idx) hx
  have h := (Rect.mem_set_unit.mp hx) (0 : Fin 2)
  rw [k0_off2_eq] at h
  have h1 : 128 * (i 1).val + 64 * (i 0).val + t.val ≤ (x 0).val := h.1
  have h2 : (x 0).val < 128 * (i 1).val + 64 * (i 0).val + t.val + 1 := h.2
  have ht : t.val < 64 := t.isLt
  refine Finset.mem_filter.mpr ⟨Finset.mem_univ _, (base_div i _).mpr ?_⟩
  unfold base
  omega

/-- The slice of the result the last transfer writes is the subcore's piece. -/
theorem outM_set : (outM i mems).view.set = tileSet (ℓ := tLoc d) tKey (2 * (i 1).val + (i 0).val) := by
  show ((View.whole main_v0_scv).slice (Rect.unit (s := S2048) (k0_off35 i) S64.size (k0_off35_inb i))).set = _
  rw [View.set_slice_whole]
  refine Finset.ext fun (x : S2048.Idx) => ?_
  have e : (x ∈ (Rect.unit (s := S2048) (k0_off35 i) S64.size (k0_off35_inb i)).set) ↔ base i ≤ (x 0).val ∧ (x 0).val < base i + 64 := by
    refine Rect.mem_set_unit.trans ?_
    rw [k0_off35_eq]
    constructor
    · intro h; exact h 0
    · intro h a
      obtain rfl : a = 0 := Subsingleton.elim _ _
      exact h
  refine e.trans ((base_div i _).symm.trans ?_)
  exact ⟨fun h => Finset.mem_filter.mpr ⟨Finset.mem_univ _, h⟩, fun h => (Finset.mem_filter.mp h).2⟩

/-- What the last transfer leaves at row `base i + r` is the threshold of the subcore's row `r`. -/
theorem outM_write (g : Buf (Elt Bits) ((outM i mems).view.loc (thr d i))) (w : S64.Idx → Wd) (x : S2048.Idx) (r : ℕ) (hr : r < 64) (hx : (x 0).val = base i + r) :
    ((outM i mems).view.write (Elt Bits) g w Finset.univ : S2048.Idx → Wd) x = w (ix1 ⟨r, hr⟩) := by
  have e : x = (outM i mems).view.emb (ix1 ⟨r, hr⟩ : S64.Idx) := by
    funext a
    obtain rfl : a = 0 := Subsingleton.elim _ _
    apply Fin.ext
    show (x 0).val = k0_off35 i 0 + 1 * r
    rw [k0_off35_eq, hx]
    show base i + r = 128 * (i 1).val + 64 * (i 0).val + 1 * r
    unfold base
    omega
  subst e
  exact (View.write_emb_of_mem _ _ (Finset.mem_univ _)).trans (cast_eq _ _)

/-! ### The scratch -/

/-- A buffer indexed by the flat index is one by a pair of coordinates. -/
theorem exists_two {n w : ℕ} (hw : 0 < w) (g : (⟨1, ![n]⟩ : Shape).Idx → Wd) : ∃ f : ℕ → ℕ → Wd, g = fun x => two w f (x 0).val := by
  refine ⟨fun a b => if h : w * a + b < n then g (fun _ => ⟨w * a + b, by simpa using h⟩) else 0#32, ?_⟩
  funext x
  have hx : (x 0).val < n := (x 0).isLt
  show g x = dite _ _ _
  have e : w * ((x 0).val / w) + (x 0).val % w = (x 0).val := Nat.div_add_mod _ _
  rw [dif_pos (by rw [e]; exact hx)]
  congr 1
  funext a
  obtain rfl : a = 0 := Subsingleton.elim _ _
  exact Fin.ext e.symm

theorem exists_one {n : ℕ} (g : (⟨1, ![n]⟩ : Shape).Idx → Wd) : ∃ f : ℕ → Wd, g = fun x => f (x 0).val := by
  refine ⟨fun a => if h : a < n then g (fun _ => ⟨a, by simpa using h⟩) else 0#32, ?_⟩
  funext x
  have hx : (x 0).val < n := (x 0).isLt
  show g x = dite _ _ _
  rw [dif_pos hx]
  congr 1
  funext a
  obtain rfl : a = 0 := Subsingleton.elim _ _
  rfl

/-- A buffer of the subcore's own, whole at some contents, is its memref's. -/
theorem pt_intro {s : Shape} {e : EltTy} {m : Memref sig .scVector .vmem s e} (hm : m.view.set = Finset.univ) :
    (iprop(∃ f, m.view.loc (thr d i) ↦{fullShare} f) : sProp 𝕄) ⊢ iprop(∃ g, pt d i m g) := by
  unfold pt
  rw [hm]
  iintro ⟨%f, H⟩
  iexists (m.view.read (Elt Bits) f)
  iexists f
  isplitr
  · ipureintro; rfl
  · iexact H

theorem pt_elim {s : Shape} {e : EltTy} {m : Memref sig .scVector .vmem s e} (hm : m.view.set = Finset.univ) {g : s.Idx → Elt Bits e} :
    pt d i m g ⊢ (iprop(∃ f, m.view.loc (thr d i) ↦{fullShare} f) : sProp 𝕄) := by
  unfold pt
  rw [hm]
  iintro ⟨%f, -, H⟩
  iexists f
  iexact H

/-- The six scratch buffers as the launch deals them. -/
def scratch : sProp 𝕄 :=
  iprop((∃ f, mems.a4.view.loc (thr d i) ↦{fullShare} f) ∗ (∃ f, mems.a5.view.loc (thr d i) ↦{fullShare} f)
    ∗ (∃ f, mems.a6.view.loc (thr d i) ↦{fullShare} f) ∗ (∃ f, mems.a7.view.loc (thr d i) ↦{fullShare} f)
    ∗ (∃ f, mems.a8.view.loc (thr d i) ↦{fullShare} f) ∗ (∃ f, mems.a9.view.loc (thr d i) ↦{fullShare} f))

theorem own_intro : scratch d i ⊢ iprop(∃ st, own d i mems st) := by
  unfold scratch own
  iintro ⟨H0, H1, H2, H3, H4, H5⟩
  ihave H0 := (pt_intro d i (m := mems.a4) (View.set_whole _)) $$ H0
  ihave H1 := (pt_intro d i (m := mems.a5) (View.set_whole _)) $$ H1
  ihave H2 := (pt_intro d i (m := mems.a6) (View.set_whole _)) $$ H2
  ihave H3 := (pt_intro d i (m := mems.a7) (View.set_whole _)) $$ H3
  ihave H4 := (pt_intro d i (m := mems.a8) (View.set_whole _)) $$ H4
  ihave H5 := (pt_intro d i (m := mems.a9) (View.set_whole _)) $$ H5
  icases H0 with ⟨%g0, H0⟩
  icases H1 with ⟨%g1, H1⟩
  icases H2 with ⟨%g2, H2⟩
  icases H3 with ⟨%g3, H3⟩
  icases H4 with ⟨%g4, H4⟩
  icases H5 with ⟨%g5, H5⟩
  obtain ⟨f0, rfl⟩ := exists_two (w := 16) (by decide) g0
  obtain ⟨f1, rfl⟩ := exists_two (w := 1025) (by decide) g1
  obtain ⟨f2, rfl⟩ := exists_two (w := 1025) (by decide) g2
  obtain ⟨f3, rfl⟩ := exists_two (w := 16) (by decide) g3
  obtain ⟨f4, rfl⟩ := exists_two (w := 16) (by decide) g4
  obtain ⟨f5, rfl⟩ := exists_one g5
  iexists (⟨f0, f1, f2, f3, f4, f5⟩ : St)
  iframe H0 H1 H2 H3 H4 H5

theorem own_elim (st : St) : own d i mems st ⊢ scratch d i := by
  unfold scratch own
  iintro ⟨H0, H1, H2, H3, H4, H5⟩
  ihave H0 := (pt_elim d i (m := mems.a4) (View.set_whole _)) $$ H0
  ihave H1 := (pt_elim d i (m := mems.a5) (View.set_whole _)) $$ H1
  ihave H2 := (pt_elim d i (m := mems.a6) (View.set_whole _)) $$ H2
  ihave H3 := (pt_elim d i (m := mems.a7) (View.set_whole _)) $$ H3
  ihave H4 := (pt_elim d i (m := mems.a8) (View.set_whole _)) $$ H4
  ihave H5 := (pt_elim d i (m := mems.a9) (View.set_whole _)) $$ H5
  isplitl [H0]; · iexact H0
  isplitl [H1]; · iexact H1
  isplitl [H2]; · iexact H2
  isplitl [H3]; · iexact H3
  isplitl [H4]; · iexact H4
  iexact H5

/-! ### The subcore's run -/

variable {O : CellTallies nD τ sig (HIx 1)} {W₀ : Waits sig (HIx 1)}

theorem tile_run (X : Buf (Elt Bits) (xLoc d)) (t0 Tv : Buf (Elt Bits) (tLoc d)) (hlt : ∀ x : S2048x16384.Idx, (show Wd from X x).toNat < 2 ^ 31)
    (hT : ∀ r : Fin 2048, IsKth (words (rowAt X r.val)) (show Wd from Tv (ix1 r)).toNat) :
    iprop((xLoc d ↦[tileSet (ℓ := xLoc d) xKey (2 * (i 1).val + (i 0).val)]{fullShare} X)
        ∗ (tLoc d ↦[tileSet (ℓ := tLoc d) tKey (2 * (i 1).val + (i 0).val)]{fullShare} t0)
        ∗ scratch d i ∗ semVal (thr d i, .dma cc0_scoped0.sem) 0 ∗ semVal (thr d i, .dma cc0_scoped1.sem) 0
        ∗ Transfers.MayWaits (thr d i) (none : HIx 1) O ∗ owes (thr d i) O W₀)
      ⊢ W d i (cc0_body i mems.a2 mems.h2 mems.a3 mems.h3 mems.a4 mems.h4 mems.a5 mems.h5 mems.a6 mems.h6 mems.a7 mems.h7 mems.a8 mems.h8 mems.a9 mems.h9 mems.r0 mems.r1) fun _ =>
        iprop((xLoc d ↦[tileSet (ℓ := xLoc d) xKey (2 * (i 1).val + (i 0).val)]{fullShare} X)
          ∗ (tLoc d ↦[tileSet (ℓ := tLoc d) tKey (2 * (i 1).val + (i 0).val)]{fullShare} Tv)
          ∗ scratch d i ∗ semVal (thr d i, .dma cc0_scoped0.sem) 0 ∗ semVal (thr d i, .dma cc0_scoped1.sem) 0
          ∗ ∃ W', ⌜∀ p ∈ W', p ∈ W₀ ∨ p.2 = none⌝ ∗ owes (thr d i) O W') := by
  iintro ⟨HX, Ht, Hs, Hv0, Hv1, Hm, HO⟩
  ihave Hs := (own_intro d i) $$ Hs
  icases Hs with ⟨%st, Hs⟩
  have hb := spec_body (d := d) (i := i) (B := mems) (st := st) (X := X) (T := tileSet (ℓ := xLoc d) xKey (2 * (i 1).val + (i 0).val)) (f := X)
    (O := O) (W₀ := W₀) rfl (rowM_set d i) hlt t0
  rw [outM_set] at hb
  iapply (hb.trans (wp_mono _ _ _ fun _ => ?_)) $$ [HX Ht Hs Hv0 Hv1 Hm HO]
  rotate_left
  · unfold rest waits
    isplitl [Hs]; · iexact Hs
    isplitl [HX Hv0 Hm HO]
    · isplitl [HX]; · iexact HX
      isplitl [Hv0]; · iexact Hv0
      isplitl [Hm]; · iexact Hm
      iexists W₀
      isplitr
      · ipureintro; exact fun p hp => .inl hp
      · iexact HO
    isplitl [Ht]; · iexact Ht
    iexact Hv1
  · unfold rest waits
    iintro ⟨%st', %hk, Hs, ⟨HX, Hv0, -, HO⟩, Ht, Hv1⟩
    ihave Hs := (own_elim d i st') $$ Hs
    isplitl [HX]; · iexact HX
    isplitl [Ht]
    · have e : ((tLoc d) ↦[tileSet (ℓ := tLoc d) tKey (2 * (i 1).val + (i 0).val)]{fullShare}
            ((outM i mems).view.write (Elt Bits) t0 (fun x => st'.tb (x 0).val) Finset.univ) : sProp 𝕄)
          = ((tLoc d) ↦[tileSet (ℓ := tLoc d) tKey (2 * (i 1).val + (i 0).val)]{fullShare} Tv) := by
        refine pointsTo_congr fun (x : S2048.Idx) hx => ?_
        have hr := (base_div i _).mp (Finset.mem_filter.mp hx).2
        have h1 := hk ((x 0).val - base i) (by omega)
        rw [show base i + ((x 0).val - base i) = (x 0).val by omega] at h1
        refine (outM_write d i t0 _ x ((x 0).val - base i) (by omega) (by omega)).trans ?_
        have h2 := hT (x 0)
        have e1 : (ix1 (x 0) : S2048.Idx) = x := by
          funext a
          obtain rfl : a = 0 := Subsingleton.elim _ _
          rfl
        rw [e1] at h2
        exact BitVec.eq_of_toNat_eq (h1.unique h2)
      iapply (Entails.of_eq e); iexact Ht
    isplitl [Hs]; · iexact Hs
    isplitl [Hv0]; · iexact Hv0
    isplitl [Hv1]; · iexact Hv1
    iexact HO

end Tile

end Cert.Proof.Select
-- ==== Proof.Launch.lean ====
/-
  The kernel's run: the one SparseCore call of the host program, launched on the 35 threads, and what it leaves.
-/
module

public import proofs.«01_k».proof.Proof.Pieces
public import Idealize.ShloMosaic.Lib.SparseCore.Quiescent
public import Idealize.ShloMosaic.Lib.StableHlo.Run

@[expose] public section

noncomputable section

namespace Cert.Proof.Select

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Bits) ℕ UU ℕ

/-! ## The program as the launch theorem sees it -/

abbrev ΛP : Labels := Pipeline.Sig Λ₀ (Fin 0) fun p => (pcfgs (F := Bits) p).Adm
abbrev K : SparseCore.Cfg τ sig ΛP 1 := sc (F := Bits)
abbrev D : Defs nD τ sig (Elt Bits) ΛP := Pipeline.defs pcfgs defs₀
abbrev 𝒱₀ : Variants := Variants.none
abbrev 𝒱 : Variants := 𝒱₀.lift
abbrev v₀ : 𝒱.V := Sum.inl none

theorem launchFacts : K.Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt Bits) ℕ UU ℕ) := embL

variable (m : (ℓ : Loc nD τ sig) → Buf (Elt Bits) ℓ) (ρ : Dev nD → PrngReg) (Tv : (d : Dev nD) → Buf (Elt Bits) (tLoc d))

/-- What the call passes: to a SparseCore its rows of both arrays, to a subcore its rows; back come the same rows, the
    result's at `Tv`. -/
def P : K.Pay (nD := nD) (Val := Elt Bits) (Name := ℕ) (U := UU) where
  st := fun _ d c => iprop((xLoc d ↦[coreSet (ℓ := xLoc d) xKey c.val]{fullShare} m (xLoc d)) ∗ (tLoc d ↦[coreSet (ℓ := tLoc d) tKey c.val]{fullShare} m (tLoc d)))
  dn := fun _ d c => iprop((xLoc d ↦[coreSet (ℓ := xLoc d) xKey c.val]{fullShare} m (xLoc d)) ∗ (tLoc d ↦[coreSet (ℓ := tLoc d) tKey c.val]{fullShare} Tv d))
  go := fun _ d c s => iprop((xLoc d ↦[tileSet (ℓ := xLoc d) xKey (2 * s.val + c.val)]{fullShare} m (xLoc d)) ∗ (tLoc d ↦[tileSet (ℓ := tLoc d) tKey (2 * s.val + c.val)]{fullShare} m (tLoc d)))
  td := fun _ d c s => iprop((xLoc d ↦[tileSet (ℓ := xLoc d) xKey (2 * s.val + c.val)]{fullShare} m (xLoc d)) ∗ (tLoc d ↦[tileSet (ℓ := tLoc d) tKey (2 * s.val + c.val)]{fullShare} Tv d))
  x := fun _ _ => iprop(emp)

instance P_storable : (P m Tv).IsStorable where
  st _ d c := by unfold P; infer_instance
  dn _ d c := by unfold P; infer_instance
  go _ _ _ _ := by unfold P; infer_instance
  td _ _ _ _ := by unfold P; infer_instance

/-! ## A subcore's task -/

section Tile

variable (d : Dev nD) (i : grid0.Coords)

/-- The scratch buffers the kernel names. -/
abbrev scr : Finset (Ref sig .scVector) := {cc0_scratch0, cc0_scratch1, cc0_scratch2, cc0_scratch3, cc0_scratch4, cc0_scratch5}

theorem bigSep_scr (Φ : Ref sig .scVector → sProp 𝕄) :
    bigSep scr Φ = iprop(Φ cc0_scratch0 ∗ Φ cc0_scratch1 ∗ Φ cc0_scratch2 ∗ Φ cc0_scratch3 ∗ Φ cc0_scratch4 ∗ Φ cc0_scratch5) := by
  rw [SparseCore.bigSep_insert' (by decide), SparseCore.bigSep_insert' (by decide), SparseCore.bigSep_insert' (by decide),
    SparseCore.bigSep_insert' (by decide), SparseCore.bigSep_insert' (by decide), bigSep_singleton]

/-- A subcore's own buffers are its scratch and the rest. -/
theorem ownBufs_thr : ∃ R : sProp 𝕄, (ownBufs (thr d i) : sProp 𝕄) = iprop(scratch d i ∗ R) := by
  have hsub : scr.image ((thr d i).2.devRef) ⊆ ownRefs (τ := τ) (sig := sig) (thr d i).2 := by
    intro b hb
    obtain ⟨r, hr, rfl⟩ := Finset.mem_image.mp hb
    refine SparseCore.Cfg.mem_ownRefs_of_owner ?_
    simp only [Finset.mem_insert, Finset.mem_singleton] at hr
    rcases hr with rfl | rfl | rfl | rfl | rfl | rfl <;> rfl
  have hinj : Set.InjOn ((thr d i).2.devRef (sig := sig)) (scr : Set (Ref sig .scVector)) := fun a _ b _ e => Proc.devRef_injective _ e
  refine ⟨bigSep (ownRefs (τ := τ) (sig := sig) (thr d i).2 \ scr.image ((thr d i).2.devRef)) fun b => iprop(∃ f, ((d, b) : Loc nD τ sig) ↦{fullShare} f), ?_⟩
  unfold SparseCore.Cfg.ownBufs
  rw [SparseCore.bigSep_sdiff_split' hsub, SparseCore.bigSep_image_of_injOn hinj]
  refine congrArg (fun Q : sProp 𝕄 => iprop(Q ∗ _)) ((bigSep_scr _).trans ?_)
  rfl

abbrev cell0 : GSem nD τ sig := (thr d i, .dma cc0_scoped0.sem)
abbrev cell1 : GSem nD τ sig := (thr d i, .dma cc0_scoped1.sem)

theorem ownSems0_thr : (ownSems0 (thr d i) : sProp 𝕄)
    = iprop(semVal (cell0 d i) 0 ∗ semVal (cell1 d i) 0 ∗ bigSep (((ownCells (thr d i)).erase (cell0 d i)).erase (cell1 d i)) fun g => semVal g 0) := by
  unfold SparseCore.Cfg.ownSems0
  rw [SparseCore.bigSep_erase' ((mem_ownCells (g := cell0 d i)).mpr ⟨rfl, by show (SemLoc.dma cc0_scoped0.sem : SemLoc sig).isScoped .scVector = true; decide⟩),
    SparseCore.bigSep_erase' (Finset.mem_erase.mpr ⟨by simp [cell0, cell1]; decide, (mem_ownCells (g := cell1 d i)).mpr ⟨rfl, by
      show (SemLoc.dma cc0_scoped1.sem : SemLoc sig).isScoped .scVector = true; decide⟩⟩)]

variable (hlt : ∀ (d : Dev nD) (x : S2048x16384.Idx), (show Wd from m (xLoc d) x).toNat < 2 ^ 31)
  (hT : ∀ (d : Dev nD) (r : Fin 2048), IsKth (words (rowAt (m (xLoc d)) r.val)) (show Wd from Tv d (ix1 r)).toNat)

include hlt hT in
theorem tile_body (O : CellTallies nD τ sig (HIx 1)) (W₀ : Waits sig (HIx 1)) (hO : ∀ g, O g none = 0) :
    iprop(levAts K.L K.lev ∗ emp
        ∗ ((xLoc d ↦[tileSet (ℓ := xLoc d) xKey (2 * (i 1).val + (i 0).val)]{fullShare} m (xLoc d)) ∗ (tLoc d ↦[tileSet (ℓ := tLoc d) tKey (2 * (i 1).val + (i 0).val)]{fullShare} m (tLoc d)))
        ∗ scopedBufs (thr d i) ∗ scopedSems0 (thr d i) ∗ owes (thr d i) O W₀)
      ⊢ W d i (cc0_body i mems.a2 mems.h2 mems.a3 mems.h3 mems.a4 mems.h4 mems.a5 mems.h5 mems.a6 mems.h6 mems.a7 mems.h7 mems.a8 mems.h8 mems.a9 mems.h9 mems.r0 mems.r1) fun _ =>
        iprop(((xLoc d ↦[tileSet (ℓ := xLoc d) xKey (2 * (i 1).val + (i 0).val)]{fullShare} m (xLoc d)) ∗ (tLoc d ↦[tileSet (ℓ := tLoc d) tKey (2 * (i 1).val + (i 0).val)]{fullShare} Tv d))
          ∗ scopedBufs (thr d i) ∗ scopedSems0 (thr d i) ∗ ∃ W', ⌜∀ p ∈ W', p ∈ W₀ ∨ p.2 = none⌝ ∗ owes (thr d i) O W') := by
  obtain ⟨R, hR⟩ := ownBufs_thr d i
  have e1 : (scopedBufs (thr d i) : sProp 𝕄) = _ := (K.scopedBufs_V launchFacts d ((i 0).castLE hcore0) ((i 1).castLE hsub0)).trans hR
  have e2 : (scopedSems0 (thr d i) : sProp 𝕄) = _ := (SparseCore.Cfg.scopedSems0_V (Val := Elt Bits) d ((i 0).castLE hcore0) ((i 1).castLE hsub0)).trans (ownSems0_thr d i)
  rw [e1, e2]
  have hrun := tile_run d i (O := O) (W₀ := W₀) (m (xLoc d)) (m (tLoc d)) (Tv d) (hlt d) (hT d)
  have hrun' := (BI.sep_mono hrun (BI.Entails.refl (iprop(R ∗ bigSep (((ownCells (thr d i)).erase (cell0 d i)).erase (cell1 d i)) fun g => semVal g 0) : sProp 𝕄))).trans
    (wp_frame_r _ _ _)
  refine BI.Entails.trans (show _ ⊢ iprop(iprop(_ ∗ _) ∗ iprop(R ∗ _)) from ?_) (hrun'.trans (wp_mono _ _ _ fun _ => ?_))
  · iintro ⟨#Hlv, -, ⟨HX, Ht⟩, ⟨Hs, HR⟩, ⟨Hv0, Hv1, Hvs⟩, HO⟩
    ihave Hmw := (K.mayWaits_none (thr := thr d i) hO) $$ Hlv
    iframe HX Ht Hs HR Hv0 Hv1 Hvs Hmw HO
  · iintro ⟨⟨HX, Ht, Hs, Hv0, Hv1, HO⟩, HR, Hvs⟩
    iframe HX Ht Hs HR Hv0 Hv1 Hvs HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := Bits) (.scVector c s) 0 ()
      = SparseCore.onTile hcore0 hsub0 (fun c s => cc0_body (coordsV c s) mems.a2 mems.h2 mems.a3 mems.h3 mems.a4 mems.h4 mems.a5 mems.h5
          mems.a6 mems.h6 mems.a7 mems.h7 mems.a8 mems.h8 mems.a9 mems.h9 mems.r0 mems.r1) ⟨⟩ c s := rfl

theorem obl_post {t : Thread nD τ} {A B C : sProp 𝕄} {O : CellTallies nD τ sig (HIx 1)} {W₀ : Waits sig (HIx 1)} {q : Fin 1} :
    iprop(A ∗ B ∗ C ∗ ∃ W', ⌜∀ p ∈ W', p ∈ W₀ ∨ p.2 = none⌝ ∗ owes t O W')
      ⊢ iprop(A ∗ B ∗ C ∗ ∃ W', ⌜∀ p ∈ W', p ∈ W₀ ∨ p.2 = none ∨ p.2 = some q⌝ ∗ owes t O W') := by
  iintro ⟨HA, HB, HC, %W', %hW', HO⟩
  iframe HA HB HC
  iexists W'; isplitr
  · ipureintro; exact fun p hp => (hW' p hp).imp_right Or.inl
  · iexact HO

section Run

variable (hlt : ∀ (d : Dev nD) (x : S2048x16384.Idx), (show Wd from m (xLoc d) x).toNat < 2 ^ 31)
  (hT : ∀ (d : Dev nD) (r : Fin 2048), IsKth (words (rowAt (m (xLoc d)) r.val)) (show Wd from Tv d (ix1 r)).toNat)

include hlt hT in
theorem tileObl : K.TileObl D 𝒱 (P m Tv) v₀ 0 := by
  intro d c s O W₀ hO _ _
  simp only [show (P m Tv).ox = fun _ _ => 0 from rfl, add_zero]
  change _ ⊢ wp _ _ _ (Pipeline.liftProg (defs₀ (F := Bits) (.scVector (K.core 0 c) (K.sub 0 s)) 0 ())) _
  refine BI.Entails.trans ?_ (Pipeline.wp_liftProg D (Pipeline.defs_kernel pcfgs defs₀) 𝒱₀ _ Set.univ none _ _)
  have hc : (K.core 0 c).val < grid0.bound 0 ∧ (K.sub 0 s).val < grid0.bound 1 := ⟨c.isLt, s.isLt⟩
  rw [defs₀_vector]; simp only [SparseCore.onTile, hc, and_self, ↓reduceDIte]
  exact (tile_body m Tv d (coordsV ⟨_, hc.1⟩ ⟨_, hc.2⟩) hlt hT O W₀ hO).trans (wp_mono _ _ _ fun _ => obl_post)

theorem vecSplit : K.VecSplit' (P m Tv) 0 := by
  intro d c
  have hc : c.val < 2 := c.isLt
  have e : ∀ f : Buf (Elt Bits) (tLoc d), (iprop((xLoc d ↦[coreSet (ℓ := xLoc d) xKey c.val]{fullShare} m (xLoc d)) ∗ (tLoc d ↦[coreSet (ℓ := tLoc d) tKey c.val]{fullShare} f)) : sProp 𝕄)
      = bigSep Finset.univ fun s : Fin 16 => iprop((xLoc d ↦[tileSet (ℓ := xLoc d) xKey (2 * s.val + c.val)]{fullShare} m (xLoc d)) ∗ (tLoc d ↦[tileSet (ℓ := tLoc d) tKey (2 * s.val + c.val)]{fullShare} f)) := fun f => by
    rw [bigSep_sep', ← pts_tiles (ℓ := xLoc d) xKey xKey_lt c.val hc, ← pts_tiles (ℓ := tLoc d) tKey tKey_lt c.val hc]
  have h1 : (P m Tv).st 0 d c = (bigSep Finset.univ fun s : Fin (K.nSub 0) => (P m Tv).go 0 d c s) := e (m (tLoc d))
  have h2 : (P m Tv).dn 0 d c = (bigSep Finset.univ fun s : Fin (K.nSub 0) => (P m Tv).td 0 d c s) := e (Tv d)
  rw [h1, h2]
  iintro H
  imodintro
  isplitl [H]; · iexact H
  iintro H
  iexact H

/-! ## The launch element: the handshakes' rounds; nothing of the kernel's own -/

def u₀ : UU := (initOf K.hsCells K.hsToks, 1)

theorem bigSep_emp' {I : Type} (s : Finset I) : (bigSep s fun _ => iprop(emp)) = (iprop(emp) : sProp 𝕄) := bigSep_emp_const s

theorem hu₀ : (ownU u₀ : sProp 𝕄)
    ⊢ |={Set.univ}=> iprop(BI.own (EH (initOf K.hsCells K.hsToks)) ∗ (bigSep Finset.univ fun _ : Dev nD => iprop(emp))
        ∗ bigSep Finset.univ fun t : Thread nD τ => bigSep Finset.univ fun q : Fin 1 => (P m Tv).x q t) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host program -/

theorem unscopedBufs_eq (d : Dev nD) (V : (b : Ref sig .tc) → Buf (Elt Bits) ((d.tc : Thread nD τ).loc b)) :
    (unscopedBufs d V : sProp 𝕄) = iprop((xLoc d ↦{fullShare} V main_arg0) ∗ (tLoc d ↦{fullShare} V main_v0)) := by
  unfold unscopedBufs
  rw [show (Finset.univ.filter fun b : Ref sig .tc => ¬ b.isScoped) = {main_arg0, main_v0} by decide,
    SparseCore.bigSep_insert' (by decide), bigSep_singleton]

theorem both_cores (d : Dev nD) (f : Buf (Elt Bits) (tLoc d)) :
    (iprop((xLoc d ↦{fullShare} m (xLoc d)) ∗ (tLoc d ↦{fullShare} f)) : sProp 𝕄)
      = bigSep Finset.univ fun c : Fin 2 => iprop((xLoc d ↦[coreSet (ℓ := xLoc d) xKey c.val]{fullShare} m (xLoc d)) ∗ (tLoc d ↦[coreSet (ℓ := tLoc d) tKey c.val]{fullShare} f)) := by
  rw [bigSep_sep', ← pts_cores (ℓ := xLoc d) xKey, ← pts_cores (ℓ := tLoc d) tKey]

theorem st_eq (d : Dev nD) : (bigSep Finset.univ fun c : Fin (K.nCore 0) => (P m Tv).st 0 d c) = iprop((xLoc d ↦{fullShare} m (xLoc d)) ∗ (tLoc d ↦{fullShare} m (tLoc d))) :=
  (both_cores m d (m (tLoc d))).symm
theorem dn_eq (d : Dev nD) : (bigSep Finset.univ fun c : Fin (K.nCore 0) => (P m Tv).dn 0 d c) = iprop((xLoc d ↦{fullShare} m (xLoc d)) ∗ (tLoc d ↦{fullShare} Tv d)) :=
  (both_cores m d (Tv d)).symm

/-- What the host program leaves the claim: the features at their launch contents, the thresholds at `Tv`. -/
abbrev FIN (d : Dev nD) : sProp 𝕄 := iprop((xLoc d ↦{fullShare} m (xLoc d)) ∗ (tLoc d ↦{fullShare} Tv d))

theorem hmain (κ : GSem nD τ sig → ℕ) (d : Dev nD) :
    iprop(K.ctx EH (P m Tv) κ ∗ K.tcSt EH d 0 ∗ K.tcRes m ρ d ∗ emp)
      ⊢ wp frame (wpE (K.defs D) 𝒱 (SparseCore.T d) none) Set.univ (main d)
          fun _ => iprop(K.tcSt EH d 1 ∗ FIN m Tv d ∗ K.tcEnd d) := by
  unfold SparseCore.Cfg.tcRes SparseCore.Cfg.tcEnd
  rw [unscopedBufs_eq]
  simp only [main, wp_bind, wp_pure]
  iintro ⟨#Hctx, Hst, ⟨Hb, ⟨Hx, Ht⟩, Hts, -⟩, -⟩
  iapply (K.wp_run D 𝒱 (EH := EH) (P := P m Tv) κ d 0) $$ [Hst Hx Ht Hb Hts]
  isplitr; · iexact Hctx
  isplitl [Hst]; · iexact Hst
  isplitl [Hx Ht]
  · rw [st_eq]
    isplitl [Hx]; · iexact Hx
    iexact Ht
  iintro ⟨Hst, Hdn⟩
  ihave Hdn := (Entails.of_eq (dn_eq m Tv d)) $$ Hdn
  icases Hdn with ⟨Hx, Ht⟩
  imodintro
  iframe Hst Hx Ht Hb Hts

def fq (d : Dev nD) (s' : Phys nD τ sig (Elt Bits)) : Prop := s'.mem.mem (tLoc d) = Tv d ∧ s'.mem.mem (xLoc d) = m (xLoc d)

theorem hfin (d : Dev nD) (s' : Phys nD τ sig (Elt Bits)) : iprop(FIN m Tv d ∗ SI s') ⊢ (⌜fq m Tv d s'⌝ : sProp 𝕄) := by
  iintro ⟨⟨Hx, Ht⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := tLoc d) (I := Finset.univ) (q := fullShare) (f := Tv d)) $$ [HSI Ht]
  · isplitl [HSI] <;> iassumption
  icases H with %h2
  ipureintro
  exact ⟨funext fun i => h2 i (Finset.mem_univ i), funext fun i => h1 i (Finset.mem_univ i)⟩

def QC : PUnit × MemSt nD τ sig (Elt Bits) → Prop :=
  fun r => (∀ c : Dev nD, r.2.mem (tLoc c) = Tv c ∧ r.2.mem (xLoc c) = m (xLoc c)) ∧ r.2.sem = fun _ => 0

include hlt hT in
/-- From words with a clear sign bit the kernel runs, and ends with the thresholds at `Tv`, any assignment of the 64-th
    largest word to each row. -/
theorem run_main : θ_run (Cert.Kernel.defs (F := Bits)) (Cert.Kernel.threads (F := Bits)) ⟨m, fun _ => 0, ρ⟩ (QC m Tv) :=
  SparseCore.Cfg.θ_run_sc_quiescent (K := K) (D := D) (𝒱 := 𝒱) (EH := EH) (P := P m Tv) (A := ∅) launchFacts v₀
    (fun q hq => match q with | 0 => nomatch hq)
    (fun q _ => match q with | 0 => tileObl m Tv hlt hT)
    (fun q _ => match q with | 0 => SparseCore.Cfg.VecSplit.of_plain (vecSplit m Tv))
    m ρ main (fun _ => iprop(emp)) (FIN m Tv) u₀ (sep_elim_left.trans (hu₀ m Tv)) (hmain m ρ Tv) (fq m Tv) (hfin m Tv) (QC m Tv) (fun _ h hz => ⟨h, hz⟩)

end Run

end Cert.Proof.Select
-- ==== Proof.Sorted.lean ====
/-
  The reference's value: the 64th entry of a row sorted in descending order is the row's 64th largest word.
-/
module

public import proofs.«01_k».proof.Proof.Thread
public import proofs.«01_k».proof.Reference
public import Idealize.ShloMosaic.Lib.SortFacts
public import Idealize.ShloMosaic.Lib.SortKey

@[expose] public section

noncomputable section

namespace Cert.Proof.Select

open Idealize.ShloMosaic

/-! ## Counting a row's columns -/

theorem countP_range (q : ℕ → Bool) (n : ℕ) : (List.range n).countP q = ∑ k ∈ Finset.range n, if q k = true then 1 else 0 := by
  induction n with
  | zero => rfl
  | succ n ih =>
    rw [List.range_succ, List.countP_append, Finset.sum_range_succ, ih, List.countP_cons, List.countP_nil, Nat.zero_add]

theorem sum_map_range (f : ℕ → ℕ) (n : ℕ) : ((List.range n).map f).sum = ∑ k ∈ Finset.range n, f k := by
  induction n with
  | zero => rfl
  | succ n ih => rw [List.range_succ, List.map_append, List.sum_append, Finset.sum_range_succ, ih]; simp

/-- The words of a row, counted lane by lane, are its columns counted. -/
theorem tot_words_cols (p : Wd → Bool) (row : ℕ → ℕ → Wd) (g : Fin 16384 → Wd) (hg : ∀ (n : Fin 1024) (l : Fin 16) (h : 16 * n.val + l.val < 16384), row n l = g ⟨16 * n.val + l.val, h⟩) :
    tot p (words row) = (Finset.univ.filter fun c : Fin 16384 => p (g c) = true).card := by
  rw [Finset.card_filter, ← (finProdFinEquiv (m := 1024) (n := 16)).sum_comp, Fintype.sum_prod_type, Finset.sum_comm]
  unfold tot words firsts
  rw [sum_map_range, Finset.sum_range]
  refine Finset.sum_congr rfl fun l _ => ?_
  rw [List.countP_map, countP_range, Finset.sum_range]
  refine Finset.sum_congr rfl fun n _ => ?_
  have hlt : 16 * n.val + l.val < 16384 := by have := n.isLt; have := l.isLt; omega
  have e : (finProdFinEquiv (n, l) : Fin (1024 * 16)) = (⟨16 * n.val + l.val, hlt⟩ : Fin 16384) := by
    apply Fin.ext
    show l.val + 16 * n.val = 16 * n.val + l.val
    omega
  rw [e, ← hg n l hlt]
  rfl

/-! ## The sorted row -/

/-- On words below 2³¹ the host's float order is the order of the words. -/
theorem gt_words {a b : Wd} (ha : a.toNat < 2 ^ 31) (hb : b.toNat < 2 ^ 31) :
    (FloatOps.cmpfTotal (F := Bits) (φ := .f32) .gt a b == 1#1) = decide (b.toNat < a.toNat) := by
  have hm : ∀ w : BitVec 32, w.toNat < 2 ^ 31 → w.msb = false := fun w hw => by
    rw [BitVec.msb_eq_false_iff_two_mul_lt]; omega
  rw [cmpfTotal_f32_eq_cmpi_sortableKey, sortableKey_of_msb_false _ (hm _ ha), sortableKey_of_msb_false _ (hm _ hb)]
  have e : ∀ w : BitVec 32, w.toNat < 2 ^ 31 → w.toInt = (w.toNat : ℤ) := fun w hw => by
    rw [BitVec.toInt_eq_toNat_of_msb (hm w hw)]
  show (BitVec.ofBool (BitVec.slt b a) == 1#1) = _
  rw [BitVec.slt_eq_decide, e _ ha, e _ hb]
  by_cases h : b.toNat < a.toNat
  · rw [decide_eq_true h, decide_eq_true (by exact_mod_cast h)]; rfl
  · rw [decide_eq_false h, decide_eq_false (by exact_mod_cast h)]; rfl

/-- If `σ` lists the columns in descending order, the column at place 63 holds the 64th largest word. -/
theorem isKth_of_sorted {row : ℕ → ℕ → Wd} {g : Fin 16384 → Wd}
    (hg : ∀ (n : Fin 1024) (l : Fin 16) (h : 16 * n.val + l.val < 16384), row n l = g ⟨16 * n.val + l.val, h⟩)
    {σ : Fin 16384 → Fin 16384} (hσ : Function.Bijective σ) (hs : ∀ i j, i < j → (g (σ j)).toNat ≤ (g (σ i)).toNat) :
    IsKth (words row) (g (σ ⟨63, by decide⟩)).toNat := by
  have key : ∀ p : Wd → Bool, tot p (words row) = (Finset.univ.filter fun j : Fin 16384 => p (g (σ j)) = true).card := fun p => by
    rw [tot_words_cols p row g hg, Finset.card_filter, Finset.card_filter]
    exact ((Equiv.ofBijective σ hσ).sum_comp fun c => if p (g c) = true then 1 else 0).symm
  constructor
  · rw [key]
    refine (Finset.card_le_card (t := Finset.Iio (⟨63, by decide⟩ : Fin 16384)) fun j hj => ?_).trans_lt ?_
    · rw [Finset.mem_filter, decide_eq_true_eq] at hj
      rw [Finset.mem_Iio]
      by_contra hle
      rcases (not_lt.mp hle).eq_or_lt with h | h
      · rw [← h] at hj; exact lt_irrefl _ hj.2
      · have := hs _ _ h; omega
    · rw [Fin.card_Iio]; decide
  · rw [key]
    refine le_trans ?_ (Finset.card_le_card (s := Finset.Iic (⟨63, by decide⟩ : Fin 16384)) fun j hj => ?_)
    · rw [Fin.card_Iic]
    · rw [Finset.mem_Iic] at hj
      rw [Finset.mem_filter, decide_eq_true_eq]
      refine ⟨Finset.mem_univ _, ?_⟩
      rcases hj.eq_or_lt with h | h
      · rw [h]
      · exact hs _ _ h

/-! ## The reference's value -/

variable [Cert.Reference.Facts]

open Cert.Reference.Facts₀ in
/-- The thresholds of the rows: the last of each row's 64 largest. -/
def refT (X : FVec Bits Cert.Reference.S2048x16384 .f32) : FVec Bits Cert.Reference.S2048 .f32 :=
  shapeCast Cert.Reference.S2048
    (extractStridedSlice Cert.Reference.S2048x1 ![0, 63]
      (Host.topK Cert.Reference.S2048x64 1 (FloatOps.cmpfTotal .gt) X sliceFits_S2048x16384_S2048x64).1 slices_S2048x64_S2048x1_0_63)
    shapeCasts_S2048x1_S2048

/-- The order in which the reference takes the columns of row `r`. -/
def cols (X : FVec Bits Cert.Reference.S2048x16384 .f32) (r : Fin 2048) : Fin 16384 → Fin 16384 :=
  sortedFrom fun k k' => FloatOps.cmpfTotal (F := Bits) .gt (X (ix2 r k)) (X (ix2 r k')) == 1#1

theorem sort_cols (X : FVec Bits Cert.Reference.S2048x16384 .f32) (Y : IVec Cert.Reference.S2048x16384 32) (r : Fin 2048) (k : Fin 16384) :
    (Host.sort2 Cert.Reference.S2048x16384 1 (fun l r => FloatOps.cmpfTotal (F := Bits) .gt l.1 r.1) X Y).1 (ix2 r k) = X (ix2 r (cols X r k)) := by
  have h : ∀ k' : Fin 16384, Shape.Idx.along (s := Cert.Reference.S2048x16384) (ix2 r k) 1 k' = ix2 r k' := fun k' => by
    funext a
    match a with
    | ⟨0, _⟩ => rfl
    | ⟨1, _⟩ => rfl
  unfold Host.sort2
  rw [dif_pos (by decide : 1 < Cert.Reference.S2048x16384.rank)]
  have e : (fun a b : Fin 16384 => FloatOps.cmpfTotal (F := Bits) .gt (X (Shape.Idx.along (s := Cert.Reference.S2048x16384) (ix2 r k) 1 a))
        (X (Shape.Idx.along (s := Cert.Reference.S2048x16384) (ix2 r k) 1 b)) == 1#1)
      = fun a b => FloatOps.cmpfTotal (F := Bits) .gt (X (ix2 r a)) (X (ix2 r b)) == 1#1 :=
    funext fun a => funext fun b => by rw [h a, h b]
  exact (congrArg X (h _)).trans (congrArg (fun B : Fin 16384 → Fin 16384 → Bool => X (ix2 r (sortedFrom B k))) e)

theorem refT_apply (X : FVec Bits Cert.Reference.S2048x16384 .f32) (r : Fin 2048) : refT X (ix1 r) = X (ix2 r (cols X r ⟨63, by decide⟩)) := by
  have h1 : (Shape.reshapeEquiv (Cert.Reference.Facts₀.shapeCasts_S2048x1_S2048) (ix1 r) : Cert.Reference.S2048x1.Idx) = ix2 r 0 := by
    apply (Shape.rowMajor _).injective
    apply Fin.ext
    rw [Shape.rowMajor_reshapeEquiv, Shape.rowMajor_val_one, Shape.rowMajor_val_two]
    show r.val = r.val * 1 + 0
    omega
  unfold refT shapeCast
  rw [h1]
  have h3 : (fun a => ⟨(![0, 63] : Fin 2 → ℕ) a + ((ix2 r (0 : Fin 1) : Cert.Reference.S2048x1.Idx) a).val, by
      match a with
      | ⟨0, _⟩ => exact (Nat.zero_add _).trans_lt r.isLt
      | ⟨1, _⟩ => exact (by decide : 63 + 0 < 64)⟩ : Cert.Reference.S2048x64.Idx) = ix2 r ⟨63, by decide⟩ := by
    funext a
    match a with
    | ⟨0, _⟩ => exact Fin.ext (Nat.zero_add _)
    | ⟨1, _⟩ => rfl
  have h4 : (fun a => ⟨0 + ((ix2 r (⟨63, by decide⟩ : Fin 64) : Cert.Reference.S2048x64.Idx) a).val, by
      match a with
      | ⟨0, _⟩ => exact (Nat.zero_add _).trans_lt r.isLt
      | ⟨1, _⟩ => exact (by decide : 0 + 63 < 16384)⟩ : Cert.Reference.S2048x16384.Idx) = ix2 r ⟨63, by decide⟩ := by
    funext a
    match a with
    | ⟨0, _⟩ => exact Fin.ext (Nat.zero_add _)
    | ⟨1, _⟩ => rfl
  refine (congrArg (Host.topK Cert.Reference.S2048x64 1 (FloatOps.cmpfTotal .gt) X _).1 h3).trans ?_
  unfold Host.topK
  exact (congrArg (Host.sort2 Cert.Reference.S2048x16384 1 (fun l r => FloatOps.cmpfTotal (F := Bits) .gt l.1 r.1) X
    (fun i => if hd : 1 < Cert.Reference.S2048x16384.rank then iotaInDim Cert.Reference.S2048x16384 32 ⟨1, hd⟩ i else 0#32)).1 h4).trans (sort_cols X _ r _)

theorem refT_isKth (X : FVec Bits Cert.Reference.S2048x16384 .f32) (hX : ∀ x, (show Wd from X x).toNat < 2 ^ 31) (r : Fin 2048) :
    IsKth (words (rowAt X r.val)) (show Wd from refT X (ix1 r)).toNat := by
  rw [refT_apply]
  have e : (fun k k' : Fin 16384 => FloatOps.cmpfTotal (F := Bits) .gt (X (ix2 r k)) (X (ix2 r k')) == 1#1)
      = fun k k' => decide ((show Wd from X (ix2 r k')).toNat < (show Wd from X (ix2 r k)).toNat) :=
    funext fun k => funext fun k' => gt_words (hX _) (hX _)
  refine isKth_of_sorted (g := fun c => X (ix2 r c)) (fun n l h => ?_) ⟨sortedFrom_injective _, sortedFrom_surjective _⟩ fun i j hij => ?_
  · unfold rowAt
    rw [dif_pos ⟨r.isLt, h⟩]
  · unfold cols
    rw [e]
    have := sortedFrom_noInversion (fun k k' : Fin 16384 => decide ((show Wd from X (ix2 r k')).toNat < (show Wd from X (ix2 r k)).toNat)) _
      (fun a b h => by simp only [decide_eq_true_eq, decide_eq_false_iff_not] at h ⊢; omega) (fun _ _ h => h)
      (fun a b c h h' => by simp only [decide_eq_false_iff_not] at h h' ⊢; omega) i j hij
    simp only [decide_eq_false_iff_not, not_lt] at this
    exact this

end Cert.Proof.Select

end
-- ==== Proof.RefRun.lean ====
/-
  The run of the reference: four host operations in a line, the last of which leaves each row's threshold.
-/
module

public import proofs.«01_k».proof.Proof.Sorted
public import proofs.«01_k».proof.Proof.Gen.Reference
public import Idealize.ShloMosaic.Lib.StableHlo.Run

@[expose] public section

noncomputable section

namespace Cert.Proof.RefRun

open Cert.Reference Cert.Reference.Gen
open Idealize.ShloMosaic Idealize.ShloMosaic.TcCoe Idealize.ShloMosaic.StableHlo Idealize.SL.Sem

variable {F : FTy → Type} [FloatOps F]

/-- The reference's operations, in order. -/
abbrev line : List (HloOp τ sig (Elt F)) :=
  [ unary main_arg0 main_values ((fun x => (Host.topK S2048x64 1 (FloatOps.cmpfTotal .gt) x sliceFits_S2048x16384_S2048x64).1) : (⟨S2048x16384, .f32⟩ : BufTy).Contents (Elt F) → (⟨S2048x64, .f32⟩ : BufTy).Contents (Elt F)),
    unary main_arg0 main_indices ((fun x => (Host.topK S2048x64 1 (FloatOps.cmpfTotal .gt) x sliceFits_S2048x16384_S2048x64).2) : (⟨S2048x16384, .f32⟩ : BufTy).Contents (Elt F) → (⟨S2048x64, .i32⟩ : BufTy).Contents (Elt F)),
    unary main_values main_v0 ((extractStridedSlice S2048x1 ![0, 63] · slices_S2048x64_S2048x1_0_63) : (⟨S2048x64, .f32⟩ : BufTy).Contents (Elt F) → (⟨S2048x1, .f32⟩ : BufTy).Contents (Elt F)),
    reshape main_v0 main_v1 (rfl : (.f32 : EltTy) = .f32) shapeCasts_S2048x1_S2048 ]

theorem main_line (c : Dev nD) : main (F := F) c = seq line := rfl

theorem value (V : Valuation τ sig (Elt Bits)) : after line V (main_v1 : DevRef τ sig) = Select.refT (V (main_arg0 : DevRef τ sig)) := by
  after_results
  rfl

theorem kept (V : Valuation τ sig (Elt Bits)) : after line V (main_arg0 : DevRef τ sig) = V (main_arg0 : DevRef τ sig) := by
  after_results

theorem run (m : (ℓ : Loc nD τ sig) → Buf (Elt Bits) ℓ) (ρ : Dev nD → PrngReg) :
    θ_run (defs (F := Bits)) (onTc (τ := τ) (main (F := Bits))) ⟨m, fun _ => 0, ρ⟩ fun r =>
      ∀ c : Dev nD, r.2.mem ((c.tc : Thread nD τ).loc main_v1) = Select.refT (m ((c.tc : Thread nD τ).loc main_arg0))
        ∧ r.2.mem ((c.tc : Thread nD τ).loc main_arg0) = m ((c.tc : Thread nD τ).loc main_arg0) :=
  (θ_run defs _ _).mono (fun _ h c => ⟨(h c main_v1).trans (value _), (h c main_arg0).trans (kept _)⟩)
    (run_seq (by decide) (by decide) defs main (fun _ => line) main_line
      (fun _ => ⟨unary_bufs_sub .., unary_bufs_sub .., unary_bufs_sub .., reshape_bufs_sub ..⟩) m ρ)

end Cert.Proof.RefRun

end
-- ==== Proof.Encoder.lean ====
/-
  The encoder, over the extended reals: each of the call's 16 blocks holds 1024 features of every row, and what the call leaves
  at row `r` and feature `c` is the product of row `r` of `x` with row `c` of `W`, plus the bias, through JumpReLU (`enc`).
  The call widens the comparison's bit and converts it as a signed word, the reference converts the bit itself; both are one
  or zero (`signed_bit`, `unsigned_bit`).
-/
module

public import proofs.«01_k».proof.Proof.Gen.EncoderIdeal.Value
public import proofs.«01_k».proof.Proof.Gen.EncoderReferenceIdeal.Run
public import Idealize.ShloMosaic.Lib.Pointwise

@[expose] public section

noncomputable section

namespace Cert.Proof.Encoder

open Idealize.ShloMosaic Idealize.ShloMosaic.TcCoe Idealize.SL.Sem

/-- JumpReLU: a value above its threshold is kept, any other becomes zero. -/
def jump (p t : EReal) : EReal := p * (if t < p then 1 else 0)

/-- The comparison's bit, widened and converted as a signed word, is one or zero; -/
theorem signed_bit (p t : EReal) :
    (FloatOps.sitofp (F := Ideal) .f32 (BitVec.setWidth 32 (BitVec.ofBool (decide (t < p)))) : EReal) = if t < p then 1 else 0 := by
  by_cases h : t < p
  · rw [if_pos h, decide_eq_true h]
    show (((BitVec.toInt (BitVec.setWidth 32 (BitVec.ofBool true)) : ℝ)) : EReal) = 1
    rw [show BitVec.toInt (BitVec.setWidth 32 (BitVec.ofBool true)) = 1 from by decide]; simp
  · rw [if_neg h, decide_eq_false h]
    show (((BitVec.toInt (BitVec.setWidth 32 (BitVec.ofBool false)) : ℝ)) : EReal) = 0
    rw [show BitVec.toInt (BitVec.setWidth 32 (BitVec.ofBool false)) = 0 from by decide]; simp

/-- and converted as it stands it is the same. -/
theorem unsigned_bit (p t : EReal) :
    (FloatOps.uitofp (F := Ideal) .f32 (BitVec.ofBool (decide (t < p))) : EReal) = if t < p then 1 else 0 := by
  by_cases h : t < p
  · rw [if_pos h, decide_eq_true h]
    show (((BitVec.toNat (BitVec.ofBool true) : ℝ)) : EReal) = 1
    rw [show BitVec.toNat (BitVec.ofBool true) = 1 from by decide]; simp
  · rw [if_neg h, decide_eq_false h]
    show (((BitVec.toNat (BitVec.ofBool false) : ℝ)) : EReal) = 0
    rw [show BitVec.toNat (BitVec.ofBool false) = 0 from by decide]; simp

/-- The features: row `r` of `x` against row `c` of `W`, plus the bias, through JumpReLU. -/
def enc (x : (⟨3, ![1, 2048, 768]⟩ : Shape).Idx → EReal) (W : (⟨2, ![16384, 768]⟩ : Shape).Idx → EReal)
    (b t : (⟨1, ![16384]⟩ : Shape).Idx → EReal) (r : Fin 2048) (c : Fin 16384) : EReal :=
  jump (∑ k : Fin 768, x (ix3 0 r k) * W (ix2 c k) + b (ix1 c)) (t (ix1 c))

section
open Cert.EncoderIdeal Cert.EncoderIdeal.Gen
open Idealize.ShloMosaic.Pipeline (Dat)

/-- One block of the kernel's body at an index. -/
theorem pay_apply (x : FVec Ideal S2048x768 .f32) (w : FVec Ideal S1024x768 .f32) (b t : FVec Ideal S1x1024 .f32)
    (r : Fin 2048) (c : Fin 1024) :
    k0_pay1 (F := Ideal) x w b t (ix2 r c)
      = jump (∑ k : Fin 768, x (ix2 r k) * w (ix2 c k) + b (ix2 0 c)) (t (ix2 0 c)) := by
  pointwise [k0_pay1]
  rw [signed_bit]; rfl

variable (m : (ℓ : Loc nD τ sig) → Buf (Elt Ideal) ℓ) (ρ : Dev nD → PrngReg)

abbrev xA (c : Dev nD) : FVec Ideal S1x2048x768 .f32 := m ((c : Thread nD τ).loc main_arg0)
abbrev wA (c : Dev nD) : FVec Ideal S16384x768 .f32 := m ((c : Thread nD τ).loc main_arg1)
abbrev bA (c : Dev nD) : FVec Ideal S16384 .f32 := m ((c : Thread nD τ).loc main_arg2)
abbrev tA (c : Dev nD) : FVec Ideal S16384 .f32 := m ((c : Thread nD τ).loc main_arg3)

/-- The result array: the features of the arguments. -/
def result (c : Dev nD) : FVec Ideal S2048x16384 .f32 := fun i => enc (xA m c) (wA m c) (bA m c) (tA m c) (i 0) (i 1)

/-- The region finds `x`, the bias and the thresholds with the shape the host gave them. -/
theorem V_x (c : Dev nD) : V m c main_v0 = shapeCast S2048x768 (xA m c) shapeCasts_S1x2048x768_S2048x768 := by
  unfold V hostOps0; after_results <;> rfl
theorem V_b (c : Dev nD) : V m c main_v1 = shapeCast S1x16384 (bA m c) shapeCasts_S16384_S1x16384 := by
  unfold V hostOps0; after_results <;> rfl
theorem V_t (c : Dev nD) : V m c main_v2 = shapeCast S1x16384 (tA m c) shapeCasts_S16384_S1x16384 := by
  unfold V hostOps0; after_results <;> rfl

/-- Feature `c'` of block `t`, of all the features. -/
def col (t : Fin cfg0.N) (c' : Fin 1024) : Fin 16384 := ⟨t.val * 1024 + c'.val, by have := t.isLt; have : cfg0.N = 16 := N_0; omega⟩

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = t.val :=
  (by decide +kernel : ∀ t : Fin grid0.N, win0_2.index t 0 = 0 ∧ win0_2.index t 1 = t.val)
theorem index3 : ∀ t : Fin cfg0.N, win0_3.index t 0 = 0 ∧ win0_3.index t 1 = t.val :=
  (by decide +kernel : ∀ t : Fin grid0.N, win0_3.index t 0 = 0 ∧ win0_3.index t 1 = t.val)
theorem index4 : ∀ t : Fin cfg0.N, win0_4.index t 0 = 0 ∧ win0_4.index t 1 = t.val :=
  (by decide +kernel : ∀ t : Fin grid0.N, win0_4.index t 0 = 0 ∧ win0_4.index t 1 = t.val)

/-- What each window reads at point `t`, in the arguments. -/
theorem blk0 (c : Dev nD) (t : Fin cfg0.N) (r : Fin 2048) (k : Fin 768) :
    (iblk m c 0 t : FVec Ideal S2048x768 .f32) (ix2 r k) = xA m c (ix3 0 r k) := by
  have hi := index0 t
  have e : (iblk m c 0 t : FVec Ideal S2048x768 .f32) (ix2 r k) = (V m c main_v0 : FVec Ideal S2048x768 .f32) (ix2 r k) := by
    unfold iblk
    rw [View.read_apply]
    show V m c main_v0 _ = V m c main_v0 _
    congr 1
    funext a
    apply Fin.ext
    match a with
    | ⟨0, _⟩ => show win0_0.index t 0 * 2048 + 1 * r.val = r.val; rw [hi.1]; omega
    | ⟨1, _⟩ => show win0_0.index t 1 * 768 + 1 * k.val = k.val; rw [hi.2]; omega
  rw [e, V_x]
  pointwise

theorem blk1 (c : Dev nD) (t : Fin cfg0.N) (c' : Fin 1024) (k : Fin 768) :
    (iblk m c 1 t : FVec Ideal S1024x768 .f32) (ix2 c' k) = wA m c (ix2 (col t c') k) := by
  have hi := index1 t
  have e : (iblk m c 1 t : FVec Ideal S1024x768 .f32) (ix2 c' k) = (V m c main_arg1 : FVec Ideal S16384x768 .f32) (ix2 (col t c') k) := by
    unfold iblk
    rw [View.read_apply]
    show V m c main_arg1 _ = V m c main_arg1 _
    congr 1
    funext a
    apply Fin.ext
    match a with
    | ⟨0, _⟩ => show win0_1.index t 0 * 1024 + 1 * c'.val = t.val * 1024 + c'.val; rw [hi.1]; omega
    | ⟨1, _⟩ => show win0_1.index t 1 * 768 + 1 * k.val = k.val; rw [hi.2]; omega
  rw [e, V_main_arg1]

theorem blk2 (c : Dev nD) (t : Fin cfg0.N) (c' : Fin 1024) :
    (iblk m c 2 t : FVec Ideal S1x1024 .f32) (ix2 0 c') = bA m c (ix1 (col t c')) := by
  have hi := index2 t
  have e : (iblk m c 2 t : FVec Ideal S1x1024 .f32) (ix2 0 c') = (V m c main_v1 : FVec Ideal S1x16384 .f32) (ix2 0 (col t c')) := by
    unfold iblk
    rw [View.read_apply]
    show V m c main_v1 _ = V m c main_v1 _
    congr 1
    funext a
    apply Fin.ext
    match a with
    | ⟨0, _⟩ => show win0_2.index t 0 * 1 + 1 * 0 = 0; rw [hi.1]
    | ⟨1, _⟩ => show win0_2.index t 1 * 1024 + 1 * c'.val = t.val * 1024 + c'.val; rw [hi.2]; omega
  rw [e, V_b]
  pointwise

theorem blk3 (c : Dev nD) (t : Fin cfg0.N) (c' : Fin 1024) :
    (iblk m c 3 t : FVec Ideal S1x1024 .f32) (ix2 0 c') = tA m c (ix1 (col t c')) := by
  have hi := index3 t
  have e : (iblk m c 3 t : FVec Ideal S1x1024 .f32) (ix2 0 c') = (V m c main_v2 : FVec Ideal S1x16384 .f32) (ix2 0 (col t c')) := by
    unfold iblk
    rw [View.read_apply]
    show V m c main_v2 _ = V m c main_v2 _
    congr 1
    funext a
    apply Fin.ext
    match a with
    | ⟨0, _⟩ => show win0_3.index t 0 * 1 + 1 * 0 = 0; rw [hi.1]
    | ⟨1, _⟩ => show win0_3.index t 1 * 1024 + 1 * c'.val = t.val * 1024 + c'.val; rw [hi.2]; omega
  rw [e, V_t]
  pointwise

theorem hz : (![0, 0] : Fin 2 → Nat) = fun _ => 0 := funext fun a => by fin_cases a <;> rfl

/-- What point `t` writes back is block `t` of the features. -/
theorem flushed_eq (c : Dev nD) (t : Fin cfg0.N) :
    (dats m 0 c).flushed 4 t = ((cfg0.win 4).blk t).view.read (Elt Ideal) (result m c) := by
  rw [Cert.EncoderIdeal.Value.flushed4]
  have hi := index4 t
  funext j
  obtain ⟨r, c', rfl⟩ : ∃ (r : Fin 2048) (c' : Fin 1024), j = ix2 r c' :=
    ⟨j 0, j 1, funext fun a => match a with | ⟨0, _⟩ => rfl | ⟨1, _⟩ => rfl⟩
  have hv : ((cfg0.win 4).blk t).view.read (Elt Ideal) (result m c) (ix2 r c') = enc (xA m c) (wA m c) (bA m c) (tA m c) r (col t c') := by
    rw [View.read_apply]
    show result m c _ = result m c (ix2 r (col t c'))
    congr 1
    funext a
    apply Fin.ext
    match a with
    | ⟨0, _⟩ => show win0_4.index t 0 * 2048 + 1 * r.val = r.val; rw [hi.1]; omega
    | ⟨1, _⟩ => show win0_4.index t 1 * 1024 + 1 * c'.val = t.val * 1024 + c'.val; rw [hi.2]; omega
  refine Eq.trans ?_ hv.symm
  show out0_4 (iblk m c 0 t) (iblk m c 1 t) (iblk m c 2 t) (iblk m c 3 t) (ix2 r c') = _
  unfold out0_4
  rw [View.canon_unit_zero hz, View.ld_unit_zero hz, View.ld_unit_zero hz, View.ld_unit_zero hz, View.ld_unit_zero hz, pay_apply]
  simp only [blk0, blk1, blk2, blk3]
  rfl

/-- So the array ends holding the features: every index is in some point's block. -/
theorem final_eq (c : Dev nD) : (dats m 0 c).arrAt 4 cfg0.N = result m c :=
  (dats m 0 c).arrAt_eq_of_cover 4 (result m c) (fun t _ => flushed_eq m c t) fun i => by
    have h0 : (i 0 : Nat) < 2048 := (i 0).isLt
    have h1 : (i 1 : Nat) < 16384 := (i 1).isLt
    have hN : cfg0.N = 16 := N_0
    let t : Fin cfg0.N := ⟨(i 1 : Nat) / 1024, by omega⟩
    refine ⟨t, flush0_4 t, ?_⟩
    have ht : t.val = (i 1 : Nat) / 1024 := rfl
    have hi := index4 t
    show i ∈ ((View.whole main_v3).slice (win0_4.rect t)).set
    rw [View.set_slice_whole, Rect.mem_set_unit]
    intro a
    match a with
    | ⟨0, _⟩ => show win0_4.index t 0 * 2048 ≤ (i 0 : Nat) ∧ (i 0 : Nat) < win0_4.index t 0 * 2048 + 2048
                rw [hi.1]; omega
    | ⟨1, _⟩ => show win0_4.index t 1 * 1024 ≤ (i 1 : Nat) ∧ (i 1 : Nat) < win0_4.index t 1 * 1024 + 1024
                rw [hi.2, ht]; omega
end

section
open Cert.EncoderReferenceIdeal Cert.EncoderReferenceIdeal.Gen

/-- What the reference computes, -/
def ref (x : FVec Ideal S1x2048x768 .f32) (W : FVec Ideal S16384x768 .f32) (b t : FVec Ideal S16384 .f32) : FVec Ideal S2048x16384 .f32 :=
  have p : FVec Ideal S1x2048x16384 .f32 := addf (Host.dotGeneral dot_S1x2048x768_S16384x768_S1x2048x16384_2_1_01_0_n_n none x W)
      (broadcastInDim S1x2048x16384 ![0, 1, 2] bcast_S1x1x16384_S1x2048x16384_0_1_2 (broadcastInDim S1x1x16384 ![2] bcast_S16384_S1x1x16384_2 b))
  shapeCast S2048x16384 (mulf p (uitofp .f32 (cmpf .ogt p
      (broadcastInDim S1x2048x16384 ![0, 1, 2] bcast_S1x1x16384_S1x2048x16384_0_1_2 (broadcastInDim S1x1x16384 ![2] bcast_S16384_S1x1x16384_2 t)))))
    shapeCasts_S1x2048x16384_S2048x16384

/-- at an index. -/
theorem ref_apply (x : FVec Ideal S1x2048x768 .f32) (W : FVec Ideal S16384x768 .f32) (b t : FVec Ideal S16384 .f32)
    (r : Fin 2048) (c : Fin 16384) : ref x W b t (ix2 r c) = enc x W b t r c := by
  pointwise [ref]
  rw [unsigned_bit]; rfl
end

end Cert.Proof.Encoder
-- ==== Proof.Decoder.lean ====
/-
  The decoder, over the extended reals: the call goes over the features in 16 blocks of 1024. The first point leaves its block's
  products plus the bias, every later one adds its own (`outsAt_eq`), so that after the last the output's buffer holds the sum
  over all 16384 features plus the bias (`dec`), which is the reference's product.
-/
module

public import proofs.«01_k».proof.Proof.Gen.DecoderIdeal.Value
public import proofs.«01_k».proof.Proof.Gen.DecoderReferenceIdeal.Run
public import Idealize.ShloMosaic.Lib.Pointwise

@[expose] public section

noncomputable section

namespace Cert.Proof.Decoder

open Idealize.ShloMosaic Idealize.ShloMosaic.TcCoe Idealize.SL.Sem

/-- A feature that reaches its row's threshold is kept, any other is zero. -/
def kept (f t : EReal) : EReal := if t ≤ f then f else 0

/-- The term of row `r` and output `o` that feature `k` adds; past the last feature, nothing. -/
def term (f : (⟨2, ![2048, 16384]⟩ : Shape).Idx → EReal) (t : (⟨1, ![2048]⟩ : Shape).Idx → EReal)
    (W : (⟨2, ![768, 16384]⟩ : Shape).Idx → EReal) (r : Fin 2048) (o : Fin 768) (k : Nat) : EReal :=
  if h : k < 16384 then kept (f (ix2 r ⟨k, h⟩)) (t (ix1 r)) * W (ix2 o ⟨k, h⟩) else 0

/-- Below 16384 it is the kept feature times its weight. -/
theorem term_lt (f : (⟨2, ![2048, 16384]⟩ : Shape).Idx → EReal) (t : (⟨1, ![2048]⟩ : Shape).Idx → EReal)
    (W : (⟨2, ![768, 16384]⟩ : Shape).Idx → EReal) (r : Fin 2048) (o : Fin 768) (k : Fin 16384) :
    term f t W r o k.val = kept (f (ix2 r k)) (t (ix1 r)) * W (ix2 o k) := by
  unfold term; rw [dif_pos k.isLt]

/-- Row `r`, entry `o` of the output, over the first `n` features. -/
def dec (f : (⟨2, ![2048, 16384]⟩ : Shape).Idx → EReal) (t : (⟨1, ![2048]⟩ : Shape).Idx → EReal)
    (W : (⟨2, ![768, 16384]⟩ : Shape).Idx → EReal) (b : (⟨1, ![768]⟩ : Shape).Idx → EReal) (n : Nat) (r : Fin 2048) (o : Fin 768) : EReal :=
  ∑ k ∈ Finset.range n, term f t W r o k + b (ix1 o)

section
open Cert.DecoderIdeal Cert.DecoderIdeal.Gen

/-- One block's products at an index, -/
theorem pay1_apply (f : FVec Ideal S2048x1024 .f32) (t : FVec Ideal S2048x1 .f32) (w : FVec Ideal S768x1024 .f32)
    (r : Fin 2048) (o : Fin 768) :
    k0_pay1 (F := Ideal) f t w (ix2 r o) = ∑ k : Fin 1024, kept (f (ix2 r k)) (t (ix2 r 0)) * w (ix2 o k) := by
  pointwise [k0_pay1]
  rfl

/-- with the bias, -/
theorem pay2_apply (f : FVec Ideal S2048x1024 .f32) (t : FVec Ideal S2048x1 .f32) (w : FVec Ideal S768x1024 .f32)
    (b : FVec Ideal S1x768 .f32) (r : Fin 2048) (o : Fin 768) :
    k0_pay2 (F := Ideal) f t w b (ix2 r o) = k0_pay1 (F := Ideal) f t w (ix2 r o) + b (ix2 0 o) := by
  pointwise [k0_pay2]

/-- and added to what stands. -/
theorem pay3_apply (f : FVec Ideal S2048x1024 .f32) (t : FVec Ideal S2048x1 .f32) (w : FVec Ideal S768x1024 .f32)
    (a : FVec Ideal S2048x768 .f32) (r : Fin 2048) (o : Fin 768) :
    k0_pay3 (F := Ideal) f t w a (ix2 r o) = a (ix2 r o) + k0_pay1 (F := Ideal) f t w (ix2 r o) := by
  pointwise [k0_pay3]

variable (m : (ℓ : Loc nD τ sig) → Buf (Elt Ideal) ℓ) (ρ : Dev nD → PrngReg)

abbrev fA (c : Dev nD) : FVec Ideal S2048x16384 .f32 := m ((c : Thread nD τ).loc main_arg0)
abbrev tA (c : Dev nD) : FVec Ideal S2048 .f32 := m ((c : Thread nD τ).loc main_arg1)
abbrev wA (c : Dev nD) : FVec Ideal S768x16384 .f32 := m ((c : Thread nD τ).loc main_arg2)
abbrev bA (c : Dev nD) : FVec Ideal S768 .f32 := m ((c : Thread nD τ).loc main_arg3)

/-- The region finds the thresholds as a column and the bias as a row. -/
theorem V_t (c : Dev nD) : V m c main_v0 = shapeCast S2048x1 (tA m c) shapeCasts_S2048_S2048x1 := by
  unfold V hostOps0; after_results <;> rfl
theorem V_b (c : Dev nD) : V m c main_v1 = shapeCast S1x768 (bA m c) shapeCasts_S768_S1x768 := by
  unfold V hostOps0; after_results <;> rfl

/-- Feature `k` of block `t`, of all the features. -/
def col (t : Fin cfg0.N) (k : Fin 1024) : Fin 16384 := ⟨t.val * 1024 + k.val, by have := t.isLt; have : cfg0.N = 16 := N_0; omega⟩

theorem index0 : ∀ t : Fin cfg0.N, win0_0.index t 0 = 0 ∧ win0_0.index t 1 = t.val :=
  (by decide +kernel : ∀ t : Fin grid0.N, win0_0.index t 0 = 0 ∧ win0_0.index t 1 = t.val)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = t.val :=
  (by decide +kernel : ∀ t : Fin grid0.N, win0_2.index t 0 = 0 ∧ win0_2.index t 1 = t.val)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)

/-- What each window reads at point `t`, in the arguments. -/
theorem blk0 (c : Dev nD) (t : Fin cfg0.N) (r : Fin 2048) (k : Fin 1024) :
    (iblk m c 0 t : FVec Ideal S2048x1024 .f32) (ix2 r k) = fA m c (ix2 r (col t k)) := by
  have hi := index0 t
  have e : (iblk m c 0 t : FVec Ideal S2048x1024 .f32) (ix2 r k) = (V m c main_arg0 : FVec Ideal S2048x16384 .f32) (ix2 r (col t k)) := by
    unfold iblk
    rw [View.read_apply]
    show V m c main_arg0 _ = V m c main_arg0 _
    congr 1
    funext a
    apply Fin.ext
    match a with
    | ⟨0, _⟩ => show win0_0.index t 0 * 2048 + 1 * r.val = r.val; rw [hi.1]; omega
    | ⟨1, _⟩ => show win0_0.index t 1 * 1024 + 1 * k.val = t.val * 1024 + k.val; rw [hi.2]; omega
  rw [e, V_main_arg0]

theorem blk1 (c : Dev nD) (t : Fin cfg0.N) (r : Fin 2048) :
    (iblk m c 1 t : FVec Ideal S2048x1 .f32) (ix2 r 0) = tA m c (ix1 r) := by
  have hi := index1 t
  have e : (iblk m c 1 t : FVec Ideal S2048x1 .f32) (ix2 r 0) = (V m c main_v0 : FVec Ideal S2048x1 .f32) (ix2 r 0) := by
    unfold iblk
    rw [View.read_apply]
    show V m c main_v0 _ = V m c main_v0 _
    congr 1
    funext a
    apply Fin.ext
    match a with
    | ⟨0, _⟩ => show win0_1.index t 0 * 2048 + 1 * r.val = r.val; rw [hi.1]; omega
    | ⟨1, _⟩ => show win0_1.index t 1 * 1 + 1 * 0 = 0; rw [hi.2]
  rw [e, V_t]
  pointwise

theorem blk2 (c : Dev nD) (t : Fin cfg0.N) (o : Fin 768) (k : Fin 1024) :
    (iblk m c 2 t : FVec Ideal S768x1024 .f32) (ix2 o k) = wA m c (ix2 o (col t k)) := by
  have hi := index2 t
  have e : (iblk m c 2 t : FVec Ideal S768x1024 .f32) (ix2 o k) = (V m c main_arg2 : FVec Ideal S768x16384 .f32) (ix2 o (col t k)) := by
    unfold iblk
    rw [View.read_apply]
    show V m c main_arg2 _ = V m c main_arg2 _
    congr 1
    funext a
    apply Fin.ext
    match a with
    | ⟨0, _⟩ => show win0_2.index t 0 * 768 + 1 * o.val = o.val; rw [hi.1]; omega
    | ⟨1, _⟩ => show win0_2.index t 1 * 1024 + 1 * k.val = t.val * 1024 + k.val; rw [hi.2]; omega
  rw [e, V_main_arg2]

theorem blk3 (c : Dev nD) (t : Fin cfg0.N) (o : Fin 768) :
    (iblk m c 3 t : FVec Ideal S1x768 .f32) (ix2 0 o) = bA m c (ix1 o) := by
  have hi := index3 t
  have e : (iblk m c 3 t : FVec Ideal S1x768 .f32) (ix2 0 o) = (V m c main_v1 : FVec Ideal S1x768 .f32) (ix2 0 o) := by
    unfold iblk
    rw [View.read_apply]
    show V m c main_v1 _ = V m c main_v1 _
    congr 1
    funext a
    apply Fin.ext
    match a with
    | ⟨0, _⟩ => show win0_3.index t 0 * 1 + 1 * 0 = 0; rw [hi.1]
    | ⟨1, _⟩ => show win0_3.index t 1 * 768 + 1 * o.val = o.val; rw [hi.2]; omega
  rw [e, V_b]
  pointwise

theorem hz : (![0, 0] : Fin 2 → Nat) = fun _ => 0 := funext fun a => by fin_cases a <;> rfl

/-- What the first point leaves: the first block's products and the bias; -/
theorem out_A (c : Dev nD) (i : grid0.Coords) (a1 : Memref sig .tc .vmem S2048x1024 .f32) (h1 : a1.IsWhole)
    (a2 : Memref sig .tc .vmem S2048x1 .f32) (h2 : a2.IsWhole) (a3 : Memref sig .tc .vmem S768x1024 .f32) (h3 : a3.IsWhole)
    (a4 : Memref sig .tc .vmem S1x768 .f32) (h4 : a4.IsWhole) (a5 : Memref sig .tc .vmem S2048x768 .f32) (h5 : a5.IsWhole)
    (hc0 : cond0_0 i) (hc1 : ¬cond0_1 i) (x0 : Vec Ideal S2048x1024 .f32) (x1 : Vec Ideal S2048x1 .f32)
    (x2 : Vec Ideal S768x1024 .f32) (x3 : Vec Ideal S1x768 .f32) :
    out0_A_4 c i a1 h1 a2 h2 a3 h3 a4 h4 a5 h5 hc0 hc1 x0 x1 x2 x3 = k0_pay2 x0 x1 x2 x3 := by
  unfold out0_A_4
  rw [View.read_writes_eq_canon _ _ _ (cover0_A_4 c i a1 h1 a2 h2 a3 h3 a4 h4 a5 h5 hc0 hc1 x0 x1 x2 x3)]
  unfold kernelRun0_A
  dsimp only
  rw [View.canon_unit_zero hz]
  simp only [View.readAt_eq_ld, h1.read_unread, h2.read_unread, h3.read_unread, h4.read_unread, View.ld_unit_zero (S := S2048x1024) hz,
    View.ld_unit_zero (S := S2048x1) hz, View.ld_unit_zero (S := S768x1024) hz, View.ld_unit_zero (S := S1x768) hz]

/-- and every later point adds its block's products to what the point before left. -/
theorem out_B (c : Dev nD) (i : grid0.Coords) (a1 : Memref sig .tc .vmem S2048x1024 .f32) (h1 : a1.IsWhole)
    (a2 : Memref sig .tc .vmem S2048x1 .f32) (h2 : a2.IsWhole) (a3 : Memref sig .tc .vmem S768x1024 .f32) (h3 : a3.IsWhole)
    (a4 : Memref sig .tc .vmem S1x768 .f32) (h4 : a4.IsWhole) (a5 : Memref sig .tc .vmem S2048x768 .f32) (h5 : a5.IsWhole)
    (hc0 : ¬cond0_0 i) (hc1 : cond0_1 i) (x0 : Vec Ideal S2048x1024 .f32) (x1 : Vec Ideal S2048x1 .f32)
    (x2 : Vec Ideal S768x1024 .f32) (x3 : Vec Ideal S1x768 .f32) (xo : Vec Ideal S2048x768 .f32) :
    out0_B_4 c i a1 h1 a2 h2 a3 h3 a4 h4 a5 h5 hc0 hc1 x0 x1 x2 x3 xo = k0_pay3 x0 x1 x2 xo := by
  unfold out0_B_4
  rw [View.read_writes_eq_canon _ _ _ (cover0_B_4 c i a1 h1 a2 h2 a3 h3 a4 h4 a5 h5 hc0 hc1 x0 x1 x2 x3 xo)]
  unfold kernelRun0_B
  dsimp only
  rw [View.canon_unit_zero hz]
  simp only [View.readAt_eq_ld, h1.read_unread, h2.read_unread, h3.read_unread, h5.read_unread, View.ld_unit_zero (S := S2048x1024) hz,
    View.ld_unit_zero (S := S2048x1) hz, View.ld_unit_zero (S := S768x1024) hz, View.ld_unit_zero (S := S2048x768) hz]

/-- Block `t`'s products: the terms of its 1024 features. -/
theorem block (c : Dev nD) (t : Fin cfg0.N) (r : Fin 2048) (o : Fin 768) :
    k0_pay1 (F := Ideal) (iblk m c 0 t) (iblk m c 1 t) (iblk m c 2 t) (ix2 r o)
      = ∑ k ∈ Finset.range 1024, term (fA m c) (tA m c) (wA m c) r o (t.val * 1024 + k) := by
  rw [pay1_apply, Finset.sum_range]
  refine Finset.sum_congr rfl fun k _ => ?_
  rw [blk0, blk1, blk2]
  exact (term_lt _ _ _ r o (col t k)).symm

/-- Adding a block's terms to the output so far gives the output one block on. -/
theorem dec_add (f : FVec Ideal S2048x16384 .f32) (t : FVec Ideal S2048 .f32) (W : FVec Ideal S768x16384 .f32) (b : FVec Ideal S768 .f32)
    (n : Nat) (r : Fin 2048) (o : Fin 768) :
    dec f t W b n r o + ∑ k ∈ Finset.range 1024, term f t W r o (n + k) = dec f t W b (n + 1024) r o := by
  unfold dec
  rw [Finset.sum_range_add, add_right_comm]

/-- What the first point leaves, -/
theorem first (c : Dev nD) (t : Fin cfg0.N) (r : Fin 2048) (o : Fin 768) (ht : t.val = 0) :
    k0_pay2 (F := Ideal) (iblk m c 0 t) (iblk m c 1 t) (iblk m c 2 t) (iblk m c 3 t) (ix2 r o)
      = dec (fA m c) (tA m c) (wA m c) (bA m c) ((t.val + 1) * 1024) r o := by
  rw [pay2_apply, block, blk3, ht]
  unfold dec
  simp only [Nat.zero_mul, Nat.zero_add, Nat.one_mul]

/-- and a later one, on the output so far. -/
theorem later (c : Dev nD) (t : Fin cfg0.N) (a : FVec Ideal S2048x768 .f32) (r : Fin 2048) (o : Fin 768)
    (ha : a (ix2 r o) = dec (fA m c) (tA m c) (wA m c) (bA m c) (t.val * 1024) r o) :
    k0_pay3 (F := Ideal) (iblk m c 0 t) (iblk m c 1 t) (iblk m c 2 t) a (ix2 r o)
      = dec (fA m c) (tA m c) (wA m c) (bA m c) ((t.val + 1) * 1024) r o := by
  rw [pay3_apply, block, ha, dec_add, Nat.add_mul, Nat.one_mul]

/-- An index of the output is a row and an entry. -/
theorem split (j : S2048x768.Idx) : ∃ (r : Fin 2048) (o : Fin 768), j = ix2 r o :=
  ⟨j 0, j 1, funext fun a => match a with | ⟨0, _⟩ => rfl | ⟨1, _⟩ => rfl⟩

/-- After point `t` the output's buffer holds the output over the first `t + 1` blocks. -/
theorem outsAt_eq (c : Dev nD) (n : ℕ) (h : n < cfg0.N) (r : Fin 2048) (o : Fin 768) :
    outsAt0 m c n h (ix2 r o) = dec (fA m c) (tA m c) (wA m c) (bA m c) ((n + 1) * 1024) r o := by
  have hN : cfg0.N = 16 := N_0
  induction n with
  | zero =>
    have e := (outsAt0_A m c ⟨0, h⟩ (Nat.zero_mod _) (Nat.not_succ_le_zero 0)).trans (out_A ..)
    exact (congrFun e _).trans (first m c ⟨0, h⟩ r o rfl)
  | succ n ih =>
    have e := (outsAt0_B m c ⟨n + 1, h⟩ (by dsimp only; omega) (by dsimp only; omega)).trans (out_B ..)
    exact (congrFun e _).trans (later m c ⟨n + 1, h⟩ _ r o (ih (Nat.lt_of_succ_lt h)))

/-- The result array: the output over all the features. -/
def result (c : Dev nD) : FVec Ideal S2048x768 .f32 :=
  fun i => dec (fA m c) (tA m c) (wA m c) (bA m c) 16384 (i 0) (i 1)

/-- The one write-back, at the last point, writes it. -/
theorem flushed_eq (c : Dev nD) (t : Fin cfg0.N) (hf : (cfg0.win 4).flush t = true) :
    (dats m 0 c).flushed 4 t = ((cfg0.win 4).blk t).view.read (Elt Ideal) (result m c) := by
  have hN : cfg0.N = 16 := N_0
  have h15 : t.val = 15 := by have := (flush0_4 t).mp hf; have := t.isLt; omega
  have hi := index4 t
  rw [Cert.DecoderIdeal.Value.flushed4]
  funext j
  obtain ⟨r, o, rfl⟩ := split j
  have hv : ((cfg0.win 4).blk t).view.read (Elt Ideal) (result m c) (ix2 r o) = result m c (ix2 r o) := by
    rw [View.read_apply]
    show result m c _ = result m c _
    congr 1
    funext a
    apply Fin.ext
    match a with
    | ⟨0, _⟩ => show win0_4.index t 0 * 2048 + 1 * r.val = r.val; rw [hi.1]; omega
    | ⟨1, _⟩ => show win0_4.index t 1 * 768 + 1 * o.val = o.val; rw [hi.2]; omega
  refine Eq.trans ?_ hv.symm
  show outsAt0 m c t.val t.isLt (ix2 r o) = dec (fA m c) (tA m c) (wA m c) (bA m c) 16384 r o
  rw [outsAt_eq, h15]

/-- So the array ends holding it: that point's block is the whole array. -/
theorem final_eq (c : Dev nD) : (dats m 0 c).arrAt 4 cfg0.N = result m c :=
  (dats m 0 c).arrAt_eq_of_cover 4 (result m c) (flushed_eq m c) fun i => by
    have h0 : (i 0 : Nat) < 2048 := (i 0).isLt
    have h1 : (i 1 : Nat) < 768 := (i 1).isLt
    have hN : cfg0.N = 16 := N_0
    let t : Fin cfg0.N := ⟨15, by omega⟩
    refine ⟨t, (flush0_4 t).mpr rfl, ?_⟩
    have hi := index4 t
    show i ∈ ((View.whole main_v2).slice (win0_4.rect t)).set
    rw [View.set_slice_whole, Rect.mem_set_unit]
    intro a
    match a with
    | ⟨0, _⟩ => show win0_4.index t 0 * 2048 ≤ (i 0 : Nat) ∧ (i 0 : Nat) < win0_4.index t 0 * 2048 + 2048
                rw [hi.1]; omega
    | ⟨1, _⟩ => show win0_4.index t 1 * 768 ≤ (i 1 : Nat) ∧ (i 1 : Nat) < win0_4.index t 1 * 768 + 768
                rw [hi.2]; omega
end

section
open Cert.DecoderReferenceIdeal Cert.DecoderReferenceIdeal.Gen

/-- What the reference computes, -/
def ref (f : FVec Ideal S2048x16384 .f32) (t : FVec Ideal S2048 .f32) (W : FVec Ideal S768x16384 .f32) (b : FVec Ideal S768 .f32) :
    FVec Ideal S2048x768 .f32 :=
  addf (Host.dotGeneral dot_S2048x16384_S768x16384_S2048x768_1_1_0_0_n_n none
      (select (cmpf .oge f (broadcastInDim S2048x16384 ![0, 1] bcast_S2048x1_S2048x16384_0_1 (broadcastInDim S2048x1 ![0] bcast_S2048_S2048x1_0 t)))
        f (broadcastInDim S2048x16384 ![] bcast_S_S2048x16384 (id (constant S_ .f32 0x00000000#32)))) W)
    (broadcastInDim S2048x768 ![0, 1] bcast_S1x768_S2048x768_0_1 (broadcastInDim S1x768 ![1] bcast_S768_S1x768_1 b))

/-- at an index, -/
theorem ref_sum (f : FVec Ideal S2048x16384 .f32) (t : FVec Ideal S2048 .f32) (W : FVec Ideal S768x16384 .f32) (b : FVec Ideal S768 .f32)
    (r : Fin 2048) (o : Fin 768) :
    ref f t W b (ix2 r o) = ∑ k : Fin 16384, kept (f (ix2 r k)) (t (ix1 r)) * W (ix2 o k) + b (ix1 o) := by
  unfold kept
  pointwise [ref, id]

/-- in the terms. -/
theorem ref_apply (f : FVec Ideal S2048x16384 .f32) (t : FVec Ideal S2048 .f32) (W : FVec Ideal S768x16384 .f32) (b : FVec Ideal S768 .f32)
    (r : Fin 2048) (o : Fin 768) : ref f t W b (ix2 r o) = dec f t W b 16384 r o := by
  rw [ref_sum]
  unfold dec
  rw [Finset.sum_range]
  simp only [term_lt]
end

end Cert.Proof.Decoder
-- ==== Proof.Topk.lean ====
/-
  The decoder against the reference that takes exactly the 64 largest features of a row, by `lax.top_k`, and scatters them into
  zeros. Where the threshold is the row's 64th feature in descending order (`cols`), and the 65th is smaller unless both are zero,
  the scattered array is at every index what the comparison with the threshold keeps (`sparse_eq`).
-/
module

public import proofs.«01_k».proof.Pre_kth_untied
public import proofs.«01_k».proof.Proof.Decoder
public import proofs.«01_k».proof.Proof.Gen.TopkReferenceIdeal.Run
public import Idealize.ShloMosaic.Lib.Routing.OpsSet
public import Idealize.ShloMosaic.Lib.SortFacts
public import Idealize.ShloMosaic.Lib.Pointwise

@[expose] public section

noncomputable section

namespace Cert.Proof.Topk

open Idealize.ShloMosaic Idealize.ShloMosaic.TcCoe Idealize.SL.Sem

/-! ## The columns of a row in descending order -/

/-- The column at place `k` of row `r`. -/
def cols (f : (⟨2, ![2048, 16384]⟩ : Shape).Idx → EReal) (r : Fin 2048) : Fin 16384 → Fin 16384 :=
  sortedFrom fun k k' => decide (f (ix2 r k') < f (ix2 r k))

theorem cols_injective (f : (⟨2, ![2048, 16384]⟩ : Shape).Idx → EReal) (r : Fin 2048) : Function.Injective (cols f r) := sortedFrom_injective _

theorem cols_surjective (f : (⟨2, ![2048, 16384]⟩ : Shape).Idx → EReal) (r : Fin 2048) : Function.Surjective (cols f r) := sortedFrom_surjective _

theorem cols_le (f : (⟨2, ![2048, 16384]⟩ : Shape).Idx → EReal) (r : Fin 2048) {i j : Fin 16384} (h : i ≤ j) :
    f (ix2 r (cols f r j)) ≤ f (ix2 r (cols f r i)) := by
  rcases h.eq_or_lt with rfl | h
  · exact le_rfl
  · have := sortedFrom_noInversion (fun k k' : Fin 16384 => decide (f (ix2 r k') < f (ix2 r k))) _
      (fun a b h => by simp only [decide_eq_true_eq, decide_eq_false_iff_not] at h ⊢; exact h.not_gt) (fun _ _ h => h)
      (fun a b c h h' => by simp only [decide_eq_false_iff_not, not_lt] at h h' ⊢; exact h.trans h') i j h
    exact not_lt.mp (of_decide_eq_false this)

theorem along (r : Fin 2048) (k k' : Fin 16384) : Shape.Idx.along (s := ⟨2, ![2048, 16384]⟩) (ix2 r k) 1 k' = ix2 r k' := by
  funext a
  match a with
  | ⟨0, _⟩ => rfl
  | ⟨1, _⟩ => rfl

/-- An array sorted along its rows by the features, both sides at an index. -/
theorem sort_apply (f : FVec Ideal ⟨2, ![2048, 16384]⟩ .f32) (y : IVec ⟨2, ![2048, 16384]⟩ 32) (r : Fin 2048) (k : Fin 16384) :
    (Host.sort2 ⟨2, ![2048, 16384]⟩ 1 (fun l r => FloatOps.cmpfTotal (F := Ideal) (φ := .f32) .gt l.1 r.1) f y).1 (ix2 r k) = f (ix2 r (cols f r k))
    ∧ (Host.sort2 ⟨2, ![2048, 16384]⟩ 1 (fun l r => FloatOps.cmpfTotal (F := Ideal) (φ := .f32) .gt l.1 r.1) f y).2 (ix2 r k) = y (ix2 r (cols f r k)) := by
  have e : (fun a b : Fin 16384 => FloatOps.cmpfTotal (F := Ideal) (φ := .f32) .gt (f (Shape.Idx.along (s := ⟨2, ![2048, 16384]⟩) (ix2 r k) 1 a))
        (f (Shape.Idx.along (s := ⟨2, ![2048, 16384]⟩) (ix2 r k) 1 b)) == 1#1)
      = fun a b => decide (f (ix2 r b) < f (ix2 r a)) :=
    funext fun a => funext fun b => by
      rw [along, along]
      show (BitVec.ofBool (decide (f (ix2 r b) < f (ix2 r a))) == 1#1) = _
      cases decide (f (ix2 r b) < f (ix2 r a)) <;> rfl
  unfold Host.sort2
  rw [dif_pos (show 1 < (⟨2, ![2048, 16384]⟩ : Shape).rank from (by decide : 1 < 2))]
  exact ⟨(congrArg f (along r k _)).trans (congrArg (fun B : Fin 16384 → Fin 16384 → Bool => f (ix2 r (sortedFrom B k))) e),
    (congrArg y (along r k _)).trans (congrArg (fun B : Fin 16384 → Fin 16384 → Bool => y (ix2 r (sortedFrom B k))) e)⟩

/-- The first `n` columns of an array at an index. -/
theorem slice_apply {α : Type} {n : Nat} (hn : n ≤ 16384) (x : (⟨2, ![2048, 16384]⟩ : Shape).Idx → α)
    (h : (⟨2, ![2048, 16384]⟩ : Shape).Slices (fun _ => 0) ⟨2, ![2048, n]⟩) (r : Fin 2048) (k : Fin n) :
    extractStridedSlice ⟨2, ![2048, n]⟩ (fun _ => 0) x h (ix2 r k) = x (ix2 r (k.castLE hn)) := by
  unfold extractStridedSlice
  refine congrArg x (funext fun a => ?_)
  match a with
  | ⟨0, _⟩ => exact Fin.ext (Nat.zero_add _)
  | ⟨1, _⟩ => exact Fin.ext (Nat.zero_add _)

/-- The column numbers, which the sort carries along. -/
def numbers : IVec ⟨2, ![2048, 16384]⟩ 32 := fun i =>
  if hd : 1 < (⟨2, ![2048, 16384]⟩ : Shape).rank then iotaInDim ⟨2, ![2048, 16384]⟩ 32 ⟨1, hd⟩ i else 0#32

/-- The `n` largest of every row: the features themselves, -/
theorem topK_fst {n : Nat} (hn : n ≤ 16384) (f : FVec Ideal ⟨2, ![2048, 16384]⟩ .f32)
    (h : (⟨2, ![2048, 16384]⟩ : Shape).Slices (fun _ => 0) ⟨2, ![2048, n]⟩) (r : Fin 2048) (k : Fin n) :
    (Host.topK ⟨2, ![2048, n]⟩ 1 (FloatOps.cmpfTotal .gt) f h).1 (ix2 r k) = f (ix2 r (cols f r (k.castLE hn))) :=
  (slice_apply hn _ h r k).trans (sort_apply f numbers r (k.castLE hn)).1

/-- and their columns. -/
theorem topK_snd {n : Nat} (hn : n ≤ 16384) (f : FVec Ideal ⟨2, ![2048, 16384]⟩ .f32)
    (h : (⟨2, ![2048, 16384]⟩ : Shape).Slices (fun _ => 0) ⟨2, ![2048, n]⟩) (r : Fin 2048) (k : Fin n) :
    (Host.topK ⟨2, ![2048, n]⟩ 1 (FloatOps.cmpfTotal .gt) f h).2 (ix2 r k) = BitVec.ofNat 32 (cols f r (k.castLE hn)).val :=
  ((slice_apply hn _ h r k).trans (sort_apply f numbers r (k.castLE hn)).2).trans rfl

/-- A number below 16384 as a word, read signed. -/
theorem toInt_small {n : Nat} (h : n < 16384) : (BitVec.ofNat 32 n).toInt = (n : ℤ) := by
  rw [BitVec.toInt_eq_toNat_cond, BitVec.toNat_ofNat, Nat.mod_eq_of_lt (by omega), if_pos (by omega)]

/-- An index word below 16384 is not negative, so that it is taken as it is. -/
theorem wrap_small {n : Nat} (h : n < 16384) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; omega)

/-! ## The reference -/

section
open Cert.TopkReferenceIdeal Cert.TopkReferenceIdeal.Gen

/-- The row numbers as a column. -/
def rows : IVec S2048x1 32 := broadcastInDim S2048x1 ![0] bcast_S2048_S2048x1_0 (iotaInDim S2048 32 0)

/-- The 64 largest features of every row, and their columns. -/
def top (f : FVec Ideal S2048x16384 .f32) : FVec Ideal S2048x64 .f32 × IVec S2048x64 32 :=
  Host.topK S2048x64 1 (FloatOps.cmpfTotal .gt) f sliceFits_S2048x16384_S2048x64

/-- Where each goes: its row and its column, as index words. -/
def places (f : FVec Ideal S2048x16384 .f32) : IVec S2048x64x2 32 :=
  concatenate S2048x64x2 2
    [⟨S2048x64x1, broadcastInDim S2048x64x1 ![0, 1] bcast_S2048x64_S2048x64x1_0_1 (broadcastInDim S2048x64 ![0, 1] bcast_S2048x1_S2048x64_0_1
        (select (cmpi .slt rows (broadcastInDim S2048x1 ![] bcast_S_S2048x1 (constantI S_ 32 0#32)))
          (addi rows (broadcastInDim S2048x1 ![] bcast_S_S2048x1 (constantI S_ 32 2048#32))) rows))⟩,
      ⟨S2048x64x1, broadcastInDim S2048x64x1 ![0, 1] bcast_S2048x64_S2048x64x1_0_1
        (select (cmpi .slt (top f).2 (broadcastInDim S2048x64 ![] bcast_S_S2048x64 (constantI S_ 32 0#32)))
          (addi (top f).2 (broadcastInDim S2048x64 ![] bcast_S_S2048x64 (constantI S_ 32 16384#32))) (top f).2)⟩]
    concatenates_S2048x64x1_S2048x64x1_S2048x64x2_d2

/-- The features put there, the rest zero. -/
def sparse (f : FVec Ideal S2048x16384 .f32) : FVec Ideal S2048x16384 .f32 :=
  Host.scatter scatter_S2048x16384_S2048x64x2_S2048x64_n_01_01_2 (fun _ b => b)
    (broadcastInDim S2048x16384 ![] bcast_S_S2048x16384 (constant S_ .f32 0x00000000#32)) (places f) (top f).1

/-- The product of an array of features with the weights, plus the bias. -/
def decode (s : FVec Ideal S2048x16384 .f32) (W : FVec Ideal S768x16384 .f32) (b : FVec Ideal S768 .f32) : FVec Ideal S2048x768 .f32 :=
  addf (Host.dotGeneral dot_S2048x16384_S768x16384_S2048x768_1_1_0_0_n_n none s W)
    (broadcastInDim S2048x768 ![0, 1] bcast_S1x768_S2048x768_0_1 (broadcastInDim S1x768 ![1] bcast_S768_S1x768_1 b))

theorem decode_apply (s : FVec Ideal S2048x16384 .f32) (W : FVec Ideal S768x16384 .f32) (b : FVec Ideal S768 .f32) (r : Fin 2048) (o : Fin 768) :
    decode s W b (ix2 r o) = ∑ k : Fin 16384, s (ix2 r k) * W (ix2 o k) + b (ix1 o) := by
  pointwise [decode]

/-- A place's row word, -/
theorem places_row (f : FVec Ideal S2048x16384 .f32) (r : Fin 2048) (k : Fin 64) :
    (places f (ix3 r k (0 : Fin 2))).toInt = (r.val : ℤ) := by
  have hr : r.val < 16384 := by have := r.isLt; omega
  have e : places f (ix3 r k (0 : Fin 2)) = BitVec.ofNat 32 r.val := by
    pointwise [places, rows]
    exact wrap_small hr _
  rw [e, toInt_small hr]

/-- and its column word. -/
theorem places_col (f : FVec Ideal S2048x16384 .f32) (r : Fin 2048) (k : Fin 64) :
    (places f (ix3 r k (1 : Fin 2))).toInt = ((cols f r (k.castLE (by decide))).val : ℤ) := by
  have ht : (top f).2 (ix2 r k) = BitVec.ofNat 32 (cols f r (k.castLE (by decide))).val := topK_snd (by decide) f _ r k
  have e : places f (ix3 r k (1 : Fin 2)) = BitVec.ofNat 32 (cols f r (k.castLE (by decide))).val := by
    pointwise [places]
    rw [ht]
    exact wrap_small (cols f r _).isLt _
  rw [e, toInt_small (cols f r _).isLt]

theorem lands (f : FVec Ideal S2048x16384 .f32) (r r' : Fin 2048) (k : Fin 64) (h : Fin 16384) :
    scatter_S2048x16384_S2048x64x2_S2048x64_n_01_01_2.resultIdx? (ix2 r' k) (places f) = some (ix2 r h)
      ↔ r' = r ∧ cols f r' (k.castLE (by decide)) = h := by
  refine (Routing.scatter_lands2 (R := 2048) (C := 16384) (A := 2048) (B := 64) scatter_S2048x16384_S2048x64x2_S2048x64_n_01_01_2 rfl rfl rfl (places f) r' k r h).trans ?_
  have h0 := places_row f r' k
  have h1 := places_col f r' k
  constructor
  · rintro ⟨a, b⟩
    exact ⟨Fin.ext (Int.ofNat_inj.mp (h0.symm.trans a)), Fin.ext (Int.ofNat_inj.mp (h1.symm.trans b))⟩
  · rintro ⟨rfl, rfl⟩
    exact ⟨h0, h1⟩

/-- A column among the first 64 holds its feature, -/
theorem sparse_hit (f : FVec Ideal S2048x16384 .f32) (r : Fin 2048) (j : Fin 16384) (hj : j.val < 64) :
    sparse f (ix2 r (cols f r j)) = f (ix2 r (cols f r j)) := by
  refine Routing.scatter_set_hit _ _ _ _ _ _ (fun k hk => ?_) (ix2 r ⟨j.val, hj⟩) ((lands f r r _ _).mpr ⟨rfl, rfl⟩)
  obtain ⟨r', k', rfl⟩ : ∃ (r' : Fin 2048) (k' : Fin 64), k = ix2 r' k' :=
    ⟨k 0, k 1, funext fun a => match a with | ⟨0, _⟩ => rfl | ⟨1, _⟩ => rfl⟩
  obtain ⟨rfl, e⟩ := (lands f r r' k' _).mp hk
  rw [← e]
  exact topK_fst (by decide) f _ r' k'

/-- any other is zero. -/
theorem sparse_miss (f : FVec Ideal S2048x16384 .f32) (r : Fin 2048) (j : Fin 16384) (hj : 64 ≤ j.val) :
    sparse f (ix2 r (cols f r j)) = 0 := by
  refine (Routing.scatter_set_miss _ _ _ _ _ fun k hk => ?_).trans (by pointwise)
  obtain ⟨r', k', rfl⟩ : ∃ (r' : Fin 2048) (k' : Fin 64), k = ix2 r' k' :=
    ⟨k 0, k 1, funext fun a => match a with | ⟨0, _⟩ => rfl | ⟨1, _⟩ => rfl⟩
  obtain ⟨rfl, e⟩ := (lands f r r' k' _).mp hk
  have := congrArg Fin.val (cols_injective f r' e)
  have hk' := k'.isLt
  rw [Fin.val_castLE] at this
  omega

/-! ## The threshold -/

/-- The threshold is the row's 64th feature, and the 65th is smaller unless both are zero. -/
def Untied (f : FVec Ideal S2048x16384 .f32) (t : FVec Ideal S2048 .f32) (r : Fin 2048) : Prop :=
  t (ix1 r) = f (ix2 r (cols f r ⟨63, by decide⟩)) ∧ (f (ix2 r (cols f r ⟨64, by decide⟩)) < t (ix1 r) ∨ t (ix1 r) = 0)

/-- What is scattered is what the comparison keeps. -/
theorem sparse_eq (f : FVec Ideal S2048x16384 .f32) (t : FVec Ideal S2048 .f32) (r : Fin 2048) (h : Untied f t r) (c : Fin 16384) :
    sparse f (ix2 r c) = Decoder.kept (f (ix2 r c)) (t (ix1 r)) := by
  obtain ⟨j, rfl⟩ := cols_surjective f r c
  unfold Decoder.kept
  rcases Nat.lt_or_ge j.val 64 with hj | hj
  · rw [sparse_hit f r j hj, if_pos]
    rw [h.1]
    exact cols_le f r (Fin.le_def.mpr (Nat.le_of_lt_succ hj))
  · rw [sparse_miss f r j hj]
    rcases h.2 with hlt | h0
    · exact (if_neg (not_le.mpr ((cols_le f r (Fin.le_def.mpr hj)).trans_lt hlt))).symm
    · have hle : f (ix2 r (cols f r j)) ≤ t (ix1 r) := by
        rw [h.1]
        exact cols_le f r (Fin.le_def.mpr (show 63 ≤ j.val by omega))
      split
      · next hge => exact (h0.symm.trans (le_antisymm hge hle))
      · rfl

/-- The reference's result, where every row is so, is the decoder's. -/
theorem ref_apply (f : FVec Ideal S2048x16384 .f32) (t : FVec Ideal S2048 .f32) (W : FVec Ideal S768x16384 .f32) (b : FVec Ideal S768 .f32)
    (h : ∀ r, Untied f t r) (r : Fin 2048) (o : Fin 768) : decode (sparse f) W b (ix2 r o) = Decoder.ref f t W b (ix2 r o) := by
  rw [decode_apply, Decoder.ref_sum]
  simp only [sparse_eq f t r (h r)]

end

/-! ## The precondition -/

instance facts : Cert.Pre_kth_untied.Facts := ⟨by decide, by decide, by decide, by decide, by decide⟩

theorem bits {p q s : Bool} (h : BitVec.ofBool p &&& (BitVec.ofBool q ||| BitVec.ofBool s) = 1#1) : p = true ∧ (q = true ∨ s = true) := by
  revert p q s
  decide

/-- It says so of every row. -/
theorem untied {f : FVec Ideal ⟨2, ![2048, 16384]⟩ .f32} {t : FVec Ideal ⟨1, ![2048]⟩ .f32} {W : FVec Ideal ⟨2, ![768, 16384]⟩ .f32}
    {b : FVec Ideal ⟨1, ![768]⟩ .f32} (h : Cert.Pre_kth_untied.fn (F := Ideal) f t W b = fun _ => 1#1) (r : Fin 2048) : Untied f t r := by
  have h63 : (Host.topK Cert.Pre_kth_untied.S2048x65 1 (FloatOps.cmpfTotal .gt) f Cert.Pre_kth_untied.Facts.sliceFits_S2048x16384_S2048x65).1
      (ix2 r (⟨63, by decide⟩ : Fin 65)) = f (ix2 r (cols f r ⟨63, by decide⟩)) := topK_fst (by decide) f _ r (⟨63, by decide⟩ : Fin 65)
  have h64 : (Host.topK Cert.Pre_kth_untied.S2048x65 1 (FloatOps.cmpfTotal .gt) f Cert.Pre_kth_untied.Facts.sliceFits_S2048x16384_S2048x65).1
      (ix2 r (⟨64, by decide⟩ : Fin 65)) = f (ix2 r (cols f r ⟨64, by decide⟩)) := topK_fst (by decide) f _ r (⟨64, by decide⟩ : Fin 65)
  have e : Cert.Pre_kth_untied.fn (F := Ideal) f t W b (ix1 r)
      = BitVec.ofBool (decide (t (ix1 r) = (Host.topK Cert.Pre_kth_untied.S2048x65 1 (FloatOps.cmpfTotal .gt) f
            Cert.Pre_kth_untied.Facts.sliceFits_S2048x16384_S2048x65).1 (ix2 r (⟨63, by decide⟩ : Fin 65))))
        &&& (BitVec.ofBool (decide ((Host.topK Cert.Pre_kth_untied.S2048x65 1 (FloatOps.cmpfTotal .gt) f
            Cert.Pre_kth_untied.Facts.sliceFits_S2048x16384_S2048x65).1 (ix2 r (⟨64, by decide⟩ : Fin 65)) < t (ix1 r)))
          ||| BitVec.ofBool (decide (t (ix1 r) = 0))) := by
    pointwise [Cert.Pre_kth_untied.fn]
    rfl
  obtain ⟨h1, h2⟩ := bits (e.symm.trans (congrFun h (ix1 r)))
  refine ⟨(of_decide_eq_true h1).trans h63, h2.imp (fun h2 => ?_) of_decide_eq_true⟩
  rw [← h64]
  exact of_decide_eq_true h2

end Cert.Proof.Topk

end
-- ==== Proof.lean ====
/-
  The proof of `Cert.Claim`: the selection's frame, the reference's frame, and their equality bit for bit on features whose sign
  bits are clear; and the frames of the encoder and the decoder and their equality with their references over the extended reals
  (Proof/Encoder.lean, Proof/Decoder.lean), for the decoder also with the reference that keeps exactly 64 features of a row
  (Proof/Topk.lean).

  The kernel runs on 32 vector subcores, 64 rows each (Proof/Launch.lean); a subcore fetches a row, finds its threshold four
  digits at a time and hands its 64 thresholds back (Proof/Thread.lean, Proof/Row.lean); what it finds is the one word that
  fewer than 64 of the row's words exceed and at least 64 reach (Proof/Counts.lean, `IsKth`). The reference takes the 64
  largest of each row in order and keeps the last, which is that same word (Proof/Sorted.lean, Proof/RefRun.lean).
-/
module

public import proofs.«01_k».proof.Defs
public import proofs.«01_k».proof.Proof.Launch
public import proofs.«01_k».proof.Proof.RefRun
public import proofs.«01_k».proof.Proof.Encoder
public import proofs.«01_k».proof.Proof.Decoder
public import proofs.«01_k».proof.Proof.Topk
public import proofs.«01_k».proof.Proof.Gen.Encoder.Frame
public import proofs.«01_k».proof.Proof.Gen.Decoder.Frame

@[expose] public section

noncomputable section

namespace Cert.Proof

open Idealize.ShloMosaic Idealize.SL.Sem Cert.Kernel

instance preFacts : Cert.Pre_sign_clear.Facts := ⟨by decide⟩

/-- Under the precondition every feature's word is below 2³¹. -/
theorem low {m : (ℓ : Loc nD τ sig) → Buf (Elt Bits) ℓ} (h : Cert.Pre_Kernel m) (d : Dev nD) (x : S2048x16384.Idx) :
    (show Select.Wd from m (Select.xLoc d) x).toNat < 2 ^ 31 := by
  have e := congrFun (h d) x
  generalize hw : (show Select.Wd from m (Select.xLoc d) x) = w
  have e' : BitVec.ofBool (BitVec.sle 0#32 w) = 1#1 := by rw [← hw]; exact e
  rw [BitVec.sle_eq_decide] at e'
  by_contra hlt
  rw [decide_eq_false] at e'
  · exact absurd e' (by decide)
  · rw [BitVec.toInt_eq_toNat_cond, BitVec.toInt_eq_toNat_cond, if_pos (by decide), if_neg (by omega)]
    have := w.isLt
    simp only [BitVec.toNat_ofNat]
    omega

/-- What the kernel leaves, as the reference states it. -/
def out (m : (ℓ : Loc nD τ sig) → Buf (Elt Bits) ℓ) (d : Dev nD) : Buf (Elt Bits) (Select.tLoc d) := Select.refT (m (Select.xLoc d))

theorem run {m : (ℓ : Loc nD τ sig) → Buf (Elt Bits) ℓ} (g : Dev nD → PrngReg) (h : Cert.Pre_Kernel m) :
    θ_run (Cert.Kernel.defs (F := Bits)) (Cert.Kernel.threads (F := Bits)) ⟨m, fun _ => 0, g⟩ (Select.QC m (out m)) :=
  Select.run_main m g (out m) (low h) fun d r => Select.refT_isKth (m (Select.xLoc d)) (low h d) r

theorem frame_kernel : Cert.quiescent_Kernel := fun _ g h =>
  (θ_run _ _ _).mono (fun _ hr => ⟨fun c => (hr.1 c).2, hr.2⟩) (run g h)

theorem frame_reference : Cert.quiescent_Reference := fun m g _ =>
  (θ_run _ _ _).mono (fun r hr => ⟨fun c => (hr c).2, sem_eq_zero_of_no_sems (by decide) r.2⟩) (RefRun.run m g)

theorem bitexact : Cert.bitexact_Kernel_Reference := fun m g m' g' h hm =>
  ⟨out m, (θ_run _ _ _).mono (fun _ hr c => hr.1 c) (run g h),
    (θ_run _ _ _).mono (fun _ hr c => ⟨(hr c).1.trans (congrArg Select.refT (hm c)), (hr c).2⟩) (RefRun.run m' g')⟩

/-! ## The encoder -/

theorem frame_encoder : Cert.quiescent_Encoder := fun m g _ => Cert.Encoder.Gen.frame m g

theorem frame_encoderIdeal : Cert.quiescent_EncoderIdeal := fun m g _ => Cert.EncoderIdeal.Gen.frame m g

theorem frame_encoderReference : Cert.quiescent_EncoderReferenceIdeal := fun m g _ =>
  (θ_run _ _ _).mono (fun r hr => ⟨fun c => (hr c).2, sem_eq_zero_of_no_sems (by decide) r.2⟩) (Cert.EncoderReferenceIdeal.Value.run m g)

/-- On arguments that agree the reference's result is the call's. -/
theorem encoder_eq (m : (ℓ : Loc Cert.EncoderIdeal.nD Cert.EncoderIdeal.τ Cert.EncoderIdeal.sig) → Buf (Elt Ideal) ℓ) (c : Dev Cert.EncoderIdeal.nD) :
    Encoder.ref (Encoder.xA m c) (Encoder.wA m c) (Encoder.bA m c) (Encoder.tA m c) = Encoder.result m c := by
  funext j
  obtain ⟨r, o, rfl⟩ : ∃ (r : Fin 2048) (o : Fin 16384), j = ix2 r o :=
    ⟨j 0, j 1, funext fun a => match a with | ⟨0, _⟩ => rfl | ⟨1, _⟩ => rfl⟩
  exact Encoder.ref_apply _ _ _ _ r o

theorem algebraic_encoder : Cert.algebraic_EncoderIdeal_EncoderReferenceIdeal := fun m g m' g' _ hm =>
  ⟨Encoder.result m,
    (θ_run _ _ _).mono (fun _ hr c => ⟨(hr c).1.trans (Encoder.final_eq m c), (hr c).2⟩) (Cert.EncoderIdeal.Value.run_blocks m g),
    (θ_run _ _ _).mono (fun _ hr c => ⟨(hr c).1.trans (by
        obtain ⟨h0, h1, h2, h3⟩ := hm c
        rw [h0, h1, h2, h3]
        exact encoder_eq m c), (hr c).2⟩) (Cert.EncoderReferenceIdeal.Value.run m' g')⟩

/-! ## The decoder -/

theorem frame_decoder : Cert.quiescent_Decoder := fun m g _ => Cert.Decoder.Gen.frame m g

theorem frame_decoderIdeal : Cert.quiescent_DecoderIdeal := fun m g _ => Cert.DecoderIdeal.Gen.frame m g

theorem frame_decoderReference : Cert.quiescent_DecoderReferenceIdeal := fun m g _ =>
  (θ_run _ _ _).mono (fun r hr => ⟨fun c => (hr c).2, sem_eq_zero_of_no_sems (by decide) r.2⟩) (Cert.DecoderReferenceIdeal.Value.run m g)

/-- On arguments that agree the reference's result is the call's. -/
theorem decoder_eq (m : (ℓ : Loc Cert.DecoderIdeal.nD Cert.DecoderIdeal.τ Cert.DecoderIdeal.sig) → Buf (Elt Ideal) ℓ) (c : Dev Cert.DecoderIdeal.nD) :
    Decoder.ref (Decoder.fA m c) (Decoder.tA m c) (Decoder.wA m c) (Decoder.bA m c) = Decoder.result m c := by
  funext j
  obtain ⟨r, o, rfl⟩ : ∃ (r : Fin 2048) (o : Fin 768), j = ix2 r o :=
    ⟨j 0, j 1, funext fun a => match a with | ⟨0, _⟩ => rfl | ⟨1, _⟩ => rfl⟩
  exact Decoder.ref_apply _ _ _ _ r o

theorem algebraic_decoder : Cert.algebraic_DecoderIdeal_DecoderReferenceIdeal := fun m g m' g' _ hm =>
  ⟨Decoder.result m,
    (θ_run _ _ _).mono (fun _ hr c => ⟨(hr c).1.trans (Decoder.final_eq m c), (hr c).2⟩) (Cert.DecoderIdeal.Value.run_blocks m g),
    (θ_run _ _ _).mono (fun _ hr c => ⟨(hr c).1.trans (by
        obtain ⟨h0, h1, h2, h3⟩ := hm c
        rw [h0, h1, h2, h3]
        exact decoder_eq m c), (hr c).2⟩) (Cert.DecoderReferenceIdeal.Value.run m' g')⟩

/-! ## The decoder against the 64 largest features -/

theorem frame_topkReference : Cert.quiescent_TopkReferenceIdeal := fun m g _ =>
  (θ_run _ _ _).mono (fun r hr => ⟨fun c => (hr c).2, sem_eq_zero_of_no_sems (by decide) r.2⟩) (Cert.TopkReferenceIdeal.Value.run m g)

/-- On arguments that agree, and under the precondition, the reference's result is the call's. -/
theorem topk_eq {m : (ℓ : Loc Cert.DecoderIdeal.nD Cert.DecoderIdeal.τ Cert.DecoderIdeal.sig) → Buf (Elt Ideal) ℓ}
    (h : Cert.Pre_DecoderIdeal_kth_untied m) (c : Dev Cert.DecoderIdeal.nD) :
    Topk.decode (Topk.sparse (Decoder.fA m c)) (Decoder.wA m c) (Decoder.bA m c) = Decoder.result m c := by
  rw [← decoder_eq m c]
  funext j
  obtain ⟨r, o, rfl⟩ : ∃ (r : Fin 2048) (o : Fin 768), j = ix2 r o :=
    ⟨j 0, j 1, funext fun a => match a with | ⟨0, _⟩ => rfl | ⟨1, _⟩ => rfl⟩
  exact Topk.ref_apply _ _ _ _ (fun r => Topk.untied (h c) r) r o

theorem algebraic_topk : Cert.algebraic_DecoderIdeal_TopkReferenceIdeal_pre_kth_untied := fun m g m' g' h hm =>
  ⟨Decoder.result m,
    (θ_run _ _ _).mono (fun _ hr c => ⟨(hr c).1.trans (Decoder.final_eq m c), (hr c).2⟩) (Cert.DecoderIdeal.Value.run_blocks m g),
    (θ_run _ _ _).mono (fun _ hr c => ⟨(hr c).1.trans (by
        obtain ⟨h0, h1, h2, h3⟩ := hm c
        rw [h0, h2, h3]
        exact topk_eq h c), (hr c).2⟩) (Cert.TopkReferenceIdeal.Value.run m' g')⟩

theorem claim : Cert.Claim :=
  ⟨Cert.Kernel.Gen.facts, Cert.Reference.Gen.facts, Cert.Encoder.Gen.facts, Cert.EncoderIdeal.Gen.facts,
    Cert.EncoderReferenceIdeal.Gen.facts, Cert.Decoder.Gen.facts, Cert.DecoderIdeal.Gen.facts, Cert.DecoderReferenceIdeal.Gen.facts,
    Cert.TopkReferenceIdeal.Gen.facts, preFacts, Topk.facts,
    frame_kernel, frame_reference, fun m g _ => frame_reference m g trivial,
    frame_encoder, frame_encoderIdeal, frame_encoderReference, frame_decoder, frame_decoderIdeal,
    fun m g _ => frame_decoderIdeal m g trivial, frame_decoderReference, frame_topkReference, fun m g _ => frame_topkReference m g trivial,
    bitexact, trivial, algebraic_encoder, trivial, algebraic_decoder,
    algebraic_topk⟩

end Cert.Proof

end
